-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_queries_keys_and_decays [hPre_finite_queries_keys_and_decays : Cert.Pre_finite_queries_keys_and_decays.Facts] (m : (ℓ : Loc Cert.FoxIdeal.nD Cert.FoxIdeal.τ Cert.FoxIdeal.sig) → Buf (Elt Ideal) ℓ) : Prop :=
  ∀ c : Dev Cert.FoxIdeal.nD,
    (Cert.Pre_finite_queries_keys_and_decays.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_queries_keys_and_decays [hPre_finite_queries_keys_and_decays : Cert.Pre_finite_queries_keys_and_decays.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_queries_keys_and_decays.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_silu_arguments_above_minus_infinity [hPre_silu_arguments_above_minus_infinity : Cert.Pre_silu_arguments_above_minus_infinity.Facts] (m : (ℓ : Loc Cert.MergeIdeal.nD Cert.MergeIdeal.τ Cert.MergeIdeal.sig) → Buf (Elt Ideal) ℓ) : Prop :=
  ∀ c : Dev Cert.MergeIdeal.nD,
    (Cert.Pre_silu_arguments_above_minus_infinity.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_silu_arguments_above_minus_infinity [hPre_silu_arguments_above_minus_infinity : Cert.Pre_silu_arguments_above_minus_infinity.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_silu_arguments_above_minus_infinity.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_finite_queries_keys_and_decays [hFoxIdeal : Cert.FoxIdeal.Facts] [hPre_finite_queries_keys_and_decays : Cert.Pre_finite_queries_keys_and_decays.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_queries_keys_and_decays m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1))
      ∧ r.2.sem = fun _ => 0)

def quiescent_FoxReferenceIdeal_pre_finite_queries_keys_and_decays [hFoxReferenceIdeal : Cert.FoxReferenceIdeal.Facts] [hPre_finite_queries_keys_and_decays : Cert.Pre_finite_queries_keys_and_decays.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_queries_keys_and_decays m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_silu_arguments_above_minus_infinity [hMergeIdeal : Cert.MergeIdeal.Facts] [hPre_silu_arguments_above_minus_infinity : Cert.Pre_silu_arguments_above_minus_infinity.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_silu_arguments_above_minus_infinity m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_MergeReferenceIdeal_pre_silu_arguments_above_minus_infinity [hMergeReferenceIdeal : Cert.MergeReferenceIdeal.Facts] [hPre_silu_arguments_above_minus_infinity : Cert.Pre_silu_arguments_above_minus_infinity.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_silu_arguments_above_minus_infinity m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Fox_FoxIdeal : Prop :=
  True

def algebraic_FoxIdeal_FoxReferenceIdeal_pre_finite_queries_keys_and_decays [hFoxIdeal : Cert.FoxIdeal.Facts] [hFoxReferenceIdeal : Cert.FoxReferenceIdeal.Facts] [hPre_finite_queries_keys_and_decays : Cert.Pre_finite_queries_keys_and_decays.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_finite_queries_keys_and_decays m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v50) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1))

def preserves_Merge_MergeIdeal : Prop :=
  True

def algebraic_MergeIdeal_MergeReferenceIdeal_pre_silu_arguments_above_minus_infinity [hMergeIdeal : Cert.MergeIdeal.Facts] [hMergeReferenceIdeal : Cert.MergeReferenceIdeal.Facts] [hPre_silu_arguments_above_minus_infinity : Cert.Pre_silu_arguments_above_minus_infinity.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_silu_arguments_above_minus_infinity m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v78) = v0 c
          ∧ r.2.mem ((c.tc : Thread Cert.MergeReferenceIdeal.nD Cert.MergeReferenceIdeal.τ).loc Cert.MergeReferenceIdeal.main_v79) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_v2_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v57) = v0 c
          ∧ r.2.mem ((c.tc : Thread Cert.PrepReferenceIdeal.nD Cert.PrepReferenceIdeal.τ).loc Cert.PrepReferenceIdeal.main_v62) = v1 c
          ∧ r.2.mem ((c.tc : Thread Cert.PrepReferenceIdeal.nD Cert.PrepReferenceIdeal.τ).loc Cert.PrepReferenceIdeal.main_v65) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v23) = v0 c
          ∧ r.2.mem ((c.tc : Thread Cert.NormReferenceIdeal.nD Cert.NormReferenceIdeal.τ).loc Cert.NormReferenceIdeal.main_v24) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hFox : Cert.Fox.Facts) (hFoxIdeal : Cert.FoxIdeal.Facts) (hFoxReferenceIdeal : Cert.FoxReferenceIdeal.Facts) (hMerge : Cert.Merge.Facts) (hMergeIdeal : Cert.MergeIdeal.Facts) (hMergeReferenceIdeal : Cert.MergeReferenceIdeal.Facts) (hPrep : Cert.Prep.Facts) (hPrepIdeal : Cert.PrepIdeal.Facts) (hPrepReferenceIdeal : Cert.PrepReferenceIdeal.Facts) (hNorm : Cert.Norm.Facts) (hNormIdeal : Cert.NormIdeal.Facts) (hNormReferenceIdeal : Cert.NormReferenceIdeal.Facts) (hPre_finite_queries_and_keys : Cert.Pre_finite_queries_and_keys.Facts) (hPre_finite_queries_keys_and_decays : Cert.Pre_finite_queries_keys_and_decays.Facts) (hPre_silu_arguments_above_minus_infinity : Cert.Pre_silu_arguments_above_minus_infinity.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Proj (hProj := hProj)
    ∧ quiescent_ProjIdeal (hProjIdeal := hProjIdeal)
    ∧ quiescent_ProjReferenceIdeal (hProjReferenceIdeal := hProjReferenceIdeal)
    ∧ quiescent_Fox (hFox := hFox)
    ∧ quiescent_FoxIdeal (hFoxIdeal := hFoxIdeal)
    ∧ quiescent_FoxIdeal_pre_finite_queries_keys_and_decays (hFoxIdeal := hFoxIdeal) (hPre_finite_queries_keys_and_decays := hPre_finite_queries_keys_and_decays)
    ∧ quiescent_FoxReferenceIdeal (hFoxReferenceIdeal := hFoxReferenceIdeal)
    ∧ quiescent_FoxReferenceIdeal_pre_finite_queries_keys_and_decays (hFoxReferenceIdeal := hFoxReferenceIdeal) (hPre_finite_queries_keys_and_decays := hPre_finite_queries_keys_and_decays)
    ∧ quiescent_Merge (hMerge := hMerge)
    ∧ quiescent_MergeIdeal (hMergeIdeal := hMergeIdeal)
    ∧ quiescent_MergeIdeal_pre_silu_arguments_above_minus_infinity (hMergeIdeal := hMergeIdeal) (hPre_silu_arguments_above_minus_infinity := hPre_silu_arguments_above_minus_infinity)
    ∧ quiescent_MergeReferenceIdeal (hMergeReferenceIdeal := hMergeReferenceIdeal)
    ∧ quiescent_MergeReferenceIdeal_pre_silu_arguments_above_minus_infinity (hMergeReferenceIdeal := hMergeReferenceIdeal) (hPre_silu_arguments_above_minus_infinity := hPre_silu_arguments_above_minus_infinity)
    ∧ quiescent_Prep (hPrep := hPrep)
    ∧ quiescent_PrepIdeal (hPrepIdeal := hPrepIdeal)
    ∧ quiescent_PrepReferenceIdeal (hPrepReferenceIdeal := hPrepReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Proj_ProjIdeal
    ∧ algebraic_ProjIdeal_ProjReferenceIdeal (hProjIdeal := hProjIdeal) (hProjReferenceIdeal := hProjReferenceIdeal)
    ∧ preserves_Fox_FoxIdeal
    ∧ algebraic_FoxIdeal_FoxReferenceIdeal_pre_finite_queries_keys_and_decays (hFoxIdeal := hFoxIdeal) (hFoxReferenceIdeal := hFoxReferenceIdeal) (hPre_finite_queries_keys_and_decays := hPre_finite_queries_keys_and_decays)
    ∧ preserves_Merge_MergeIdeal
    ∧ algebraic_MergeIdeal_MergeReferenceIdeal_pre_silu_arguments_above_minus_infinity (hMergeIdeal := hMergeIdeal) (hMergeReferenceIdeal := hMergeReferenceIdeal) (hPre_silu_arguments_above_minus_infinity := hPre_silu_arguments_above_minus_infinity)
    ∧ preserves_Prep_PrepIdeal
    ∧ algebraic_PrepIdeal_PrepReferenceIdeal (hPrepIdeal := hPrepIdeal) (hPrepReferenceIdeal := hPrepReferenceIdeal)
    ∧ preserves_Norm_NormIdeal
    ∧ algebraic_NormIdeal_NormReferenceIdeal (hNormIdeal := hNormIdeal) (hNormReferenceIdeal := hNormReferenceIdeal)
-- ==== Pre_finite_queries_and_keys.lean ====
abbrev S16x4096x2048 : Shape := ⟨3, ![16, 4096, 2048]⟩
abbrev S16x4096x1024 : Shape := ⟨3, ![16, 4096, 1024]⟩
abbrev S_ : Shape := ⟨0, ![]⟩

class Facts : Prop where
  bcast_S_S16x4096x2048 : S_.BroadcastsInDim S16x4096x2048 (![] : Fin 0 → Fin S16x4096x2048.rank)

variable [Facts]

def fn {F : FTy → Type} [FloatOps F] (main_arg0 : FVec F S16x4096x2048 .bf16) (main_arg1 : FVec F S16x4096x2048 .bf16) (main_arg2 : FVec F S16x4096x1024 .bf16) : IVec S16x4096x2048 1 :=
  let main_v0 : FVec F S16x4096x2048 .bf16 := Host.absf main_arg0
  let main_cst : FVec F S_ .bf16 := constant S_ .bf16 0x7F80#16
  let main_v1 : FVec F S16x4096x2048 .bf16 := broadcastInDim S16x4096x2048 ![] bcast_S_S16x4096x2048 main_cst
  let main_v2 : IVec S16x4096x2048 1 := cmpf .olt main_v0 main_v1
  let main_v3 : FVec F S16x4096x2048 .bf16 := Host.absf main_arg1
  let main_cst_0 : FVec F S_ .bf16 := constant S_ .bf16 0x7F80#16
  let main_v4 : FVec F S16x4096x2048 .bf16 := broadcastInDim S16x4096x2048 ![] bcast_S_S16x4096x2048 main_cst_0
  let main_v5 : IVec S16x4096x2048 1 := cmpf .olt main_v3 main_v4
  let main_v6 : IVec S16x4096x2048 1 := andi main_v2 main_v5
  main_v6
-- ==== Pre_finite_queries_keys_and_decays.lean ====
abbrev S16x4096x13056 : Shape := ⟨3, ![16, 4096, 13056]⟩
abbrev S16x4096x128 : Shape := ⟨3, ![16, 4096, 128]⟩
abbrev S16x4096x2048 : Shape := ⟨3, ![16, 4096, 2048]⟩
abbrev S16x4096x24 : Shape := ⟨3, ![16, 4096, 24]⟩
abbrev S16x4096x2072 : Shape := ⟨3, ![16, 4096, 2072]⟩
abbrev S_ : Shape := ⟨0, ![]⟩

class Facts : Prop where
  slices_S16x4096x13056_S16x4096x2048_0_0_9216 : S16x4096x13056.Slices ![0, 0, 9216] S16x4096x2048
  slices_S16x4096x128_S16x4096x24_0_0_0 : S16x4096x128.Slices ![0, 0, 0] S16x4096x24
  concatenates_S16x4096x2048_S16x4096x24_S16x4096x2072_d2 : Shape.Concatenates [S16x4096x2048, S16x4096x24] S16x4096x2072 2
  bcast_S_S16x4096x2072 : S_.BroadcastsInDim S16x4096x2072 (![] : Fin 0 → Fin S16x4096x2072.rank)

variable [Facts]

def fn {F : FTy → Type} [FloatOps F] (main_arg0 : FVec F S16x4096x13056 .bf16) (main_arg1 : FVec F S16x4096x128 .bf16) : IVec S16x4096x2072 1 :=
  let main_v0 : FVec F S16x4096x2048 .bf16 := (extractStridedSlice S16x4096x2048 ![0, 0, 9216] · slices_S16x4096x13056_S16x4096x2048_0_0_9216) main_arg0
  let main_v1 : FVec F S16x4096x24 .bf16 := (extractStridedSlice S16x4096x24 ![0, 0, 0] · slices_S16x4096x128_S16x4096x24_0_0_0) main_arg1
  let main_v2 : FVec F S16x4096x2072 .bf16 := (fun a b => concatenate S16x4096x2072 2 [⟨S16x4096x2048, a⟩, ⟨S16x4096x24, b⟩] concatenates_S16x4096x2048_S16x4096x24_S16x4096x2072_d2) main_v0 main_v1
  let main_v3 : FVec F S16x4096x2072 .bf16 := Host.absf main_v2
  let main_cst : FVec F S_ .bf16 := constant S_ .bf16 0x7F80#16
  let main_v4 : FVec F S16x4096x2072 .bf16 := broadcastInDim S16x4096x2072 ![] bcast_S_S16x4096x2072 main_cst
  let main_v5 : IVec S16x4096x2072 1 := cmpf .olt main_v3 main_v4
  main_v5
-- ==== Pre_silu_arguments_above_minus_infinity.lean ====
abbrev S65536x1024 : Shape := ⟨2, ![65536, 1024]⟩
abbrev S65536x13056 : Shape := ⟨2, ![65536, 13056]⟩
abbrev S1024x1024 : Shape := ⟨2, ![1024, 1024]⟩
abbrev S1024 : Shape := ⟨1, ![1024]⟩
abbrev S65536x3072 : Shape := ⟨2, ![65536, 3072]⟩
abbrev S_ : Shape := ⟨0, ![]⟩

class Facts : Prop where
  slices_S65536x13056_S65536x3072_0_0 : S65536x13056.Slices ![0, 0] S65536x3072
  bcast_S_S65536x3072 : S_.BroadcastsInDim S65536x3072 (![] : Fin 0 → Fin S65536x3072.rank)

variable [Facts]

def fn {F : FTy → Type} [FloatOps F] (main_arg0 : FVec F S65536x1024 .bf16) (main_arg1 : FVec F S65536x1024 .bf16) (main_arg2 : FVec F S65536x1024 .bf16) (main_arg3 : FVec F S65536x13056 .bf16) (main_arg4 : FVec F S65536x1024 .f32) (main_arg5 : FVec F S1024x1024 .bf16) (main_arg6 : FVec F S1024x1024 .bf16) (main_arg7 : FVec F S1024x1024 .bf16) (main_arg8 : FVec F S1024x1024 .bf16) (main_arg9 : FVec F S1024 .f32) (main_arg10 : FVec F S1024 .f32) : IVec S65536x3072 1 :=
  let main_v0 : FVec F S65536x3072 .bf16 := (extractStridedSlice S65536x3072 ![0, 0] · slices_S65536x13056_S65536x3072_0_0) main_arg3
  let main_cst : FVec F S_ .bf16 := constant S_ .bf16 0xFF80#16
  let main_v1 : FVec F S65536x3072 .bf16 := broadcastInDim S65536x3072 ![] bcast_S_S65536x3072 main_cst
  let main_v2 : IVec S65536x3072 1 := cmpf .ogt main_v0 main_v1
  main_v2
-- ==== Kernel.lean ====
abbrev S16x4096x2048 : Shape := ⟨3, ![16, 4096, 2048]⟩
abbrev S16x4096x1024 : Shape := ⟨3, ![16, 4096, 1024]⟩
abbrev S1x1024x1024 : Shape := ⟨3, ![1, 1024, 1024]⟩
abbrev S1x4096x1024 : Shape := ⟨3, ![1, 4096, 1024]⟩
abbrev S1x4096x512 : Shape := ⟨3, ![1, 4096, 512]⟩
abbrev S1x1024x512 : Shape := ⟨3, ![1, 1024, 512]⟩
abbrev S4x1024x128 : Shape := ⟨3, ![4, 1024, 128]⟩
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩
abbrev S1024x512 : Shape := ⟨2, ![1024, 512]⟩
abbrev S1x512x128 : Shape := ⟨3, ![1, 512, 128]⟩
abbrev S512x128 : Shape := ⟨2, ![512, 128]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S16x4096x2048, .bf16⟩
  | .hbm, ⟨1, _⟩ => ⟨S16x4096x2048, .bf16⟩
  | .hbm, ⟨2, _⟩ => ⟨S16x4096x1024, .bf16⟩
  | .hbm, ⟨3, _⟩ => ⟨S16x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def k0_mult1 (i : grid0.Coords) : BitVec 32 :=
  let arg2 : BitVec 32 := BitVec.ofNat 32 (i 2).val
  let c1024_i32 : BitVec 32 := 1024#32
  let v8 : BitVec 32 := Scalar.muli arg2 c1024_i32
  let c0_i32 : BitVec 32 := 0#32
  let v9 : BitVec 32 := Scalar.addi v8 c0_i32
  v9
def k0_off1 (i : grid0.Coords) (c0_i32 : BitVec 32) : Fin 3 → Nat :=
  let c0_8 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v11 : Index := Scalar.indexCast v10
  let c0_9 : Index := 0#32
  ![0, v11.toNat, 0]
def k0_off2 (i : grid0.Coords) (c0_i32 : BitVec 32) : Fin 3 → Nat :=
  let c0_13 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v24 : Index := Scalar.indexCast v10
  let c256_14 : Index := 256#32
  ![0, v24.toNat, 256]
def k0_off3 (i : grid0.Coords) (c0_i32 : BitVec 32) : Fin 3 → Nat :=
  let c0_19 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v37 : Index := Scalar.indexCast v10
  let c0_20 : Index := 0#32
  ![0, v37.toNat, 0]
def k0_off4 (i : grid0.Coords) (c0_i32 : BitVec 32) : Fin 3 → Nat :=
  let c0_33 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v76 : Index := Scalar.indexCast v10
  let c512_34 : Index := 512#32
  ![0, v76.toNat, 512]
def k0_off5 (i : grid0.Coords) (c0_i32 : BitVec 32) : Fin 3 → Nat :=
  let c0_39 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v89 : Index := Scalar.indexCast v10
  let c128 : Index := 128#32
  ![0, v89.toNat, 128]
def k0_off6 (i : grid0.Coords) (c0_i32 : BitVec 32) : Fin 3 → Nat :=
  let c0_51 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v128 : Index := Scalar.indexCast v10
  let c768_52 : Index := 768#32
  ![0, v128.toNat, 768]
def k0_off7 (i : grid0.Coords) (c0_i32 : BitVec 32) : Fin 3 → Nat :=
  let c0_57 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v141 : Index := Scalar.indexCast v10
  let c256_58 : Index := 256#32
  ![0, v141.toNat, 256]
def k0_off8 (i : grid0.Coords) (c0_i32 : BitVec 32) : Fin 3 → Nat :=
  let c0_70 : Index := 0#32
  let arg2 : BitVec 32 := BitVec.ofNat 32 (i 2).val
  let c1024_i32 : BitVec 32 := 1024#32
  let v8 : BitVec 32 := Scalar.muli arg2 c1024_i32
  let v9 : BitVec 32 := Scalar.addi v8 c0_i32
  let v10 : BitVec 32 := v9
  let v180 : Index := Scalar.indexCast v10
  let c384 : Index := 384#32
  ![0, v180.toNat, 384]
@[reducible] def k0_t1_loop (i : grid0.Coords) : Scf.Loop 32 :=
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_84 : BitVec 32 := 1#32
  ⟨c0_i32_83, v224, c1_i32_84⟩
def k0_mult2 (i : grid0.Coords) (k0_t1 : Fin (k0_t1_loop i).trips) : BitVec 32 :=
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  v528
def k0_off9 (i : grid0.Coords) (k0_t1 : Fin (k0_t1_loop i).trips) : Fin 3 → Nat :=
  let c0_240 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v530 : Index := Scalar.indexCast v529
  let c0_241 : Index := 0#32
  ![0, v530.toNat, 0]
def k0_off10 (i : grid0.Coords) (k0_t1 : Fin (k0_t1_loop i).trips) : Fin 3 → Nat :=
  let c0_243 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v534 : Index := Scalar.indexCast v529
  let c256_244 : Index := 256#32
  ![0, v534.toNat, 256]
def k0_off11 (i : grid0.Coords) (k0_t1 : Fin (k0_t1_loop i).trips) : Fin 3 → Nat :=
  let c0_246 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v538 : Index := Scalar.indexCast v529
  let c0_247 : Index := 0#32
  ![0, v538.toNat, 0]
def k0_off12 (i : grid0.Coords) (k0_t1 : Fin (k0_t1_loop i).trips) : Fin 3 → Nat :=
  let c0_268 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v587 : Index := Scalar.indexCast v529
  let c512_269 : Index := 512#32
  ![0, v587.toNat, 512]
def k0_off13 (i : grid0.Coords) (k0_t1 : Fin (k0_t1_loop i).trips) : Fin 3 → Nat :=
  let c0_271 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v591 : Index := Scalar.indexCast v529
  let c128_272 : Index := 128#32
  ![0, v591.toNat, 128]
def k0_off14 (i : grid0.Coords) (k0_t1 : Fin (k0_t1_loop i).trips) : Fin 3 → Nat :=
  let c0_293 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v640 : Index := Scalar.indexCast v529
  let c768_294 : Index := 768#32
  ![0, v640.toNat, 768]
def k0_off15 (i : grid0.Coords) (k0_t1 : Fin (k0_t1_loop i).trips) : Fin 3 → Nat :=
  let c0_296 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v644 : Index := Scalar.indexCast v529
  let c256_297 : Index := 256#32
  ![0, v644.toNat, 256]
def k0_off16 (i : grid0.Coords) (k0_t1 : Fin (k0_t1_loop i).trips) : Fin 3 → Nat :=
  let c0_318 : Index := 0#32
  let c0_i32_83 : BitVec 32 := 0#32
  let c1_i32_84 : BitVec 32 := 1#32
  let arg10 : BitVec 32 := Scf.iv c0_i32_83 c1_i32_84 k0_t1
  let c512_i32_239 : BitVec 32 := 512#32
  let v528 : BitVec 32 := Scalar.muli arg10 c512_i32_239
  let v529 : BitVec 32 := v528
  let v693 : Index := Scalar.indexCast v529
  let c384_319 : Index := 384#32
  ![0, v693.toNat, 384]
@[reducible] def k0_t2_loop (i : grid0.Coords) : Scf.Loop 32 :=
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let v221 : BitVec 32 := Scalar.addi c0_i32_83 v220
  let c1_i32_85 : BitVec 32 := 1#32
  ⟨v224, v221, c1_i32_85⟩
def k0_mult3 (i : grid0.Coords) (k0_t2 : Fin (k0_t2_loop i).trips) : BitVec 32 :=
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  v528
def k0_off17 (i : grid0.Coords) (k0_t2 : Fin (k0_t2_loop i).trips) : Fin 3 → Nat :=
  let c0_240 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v530 : Index := Scalar.indexCast v529
  let c0_241 : Index := 0#32
  ![0, v530.toNat, 0]
def k0_off18 (i : grid0.Coords) (k0_t2 : Fin (k0_t2_loop i).trips) : Fin 3 → Nat :=
  let c0_243 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v534 : Index := Scalar.indexCast v529
  let c256_244 : Index := 256#32
  ![0, v534.toNat, 256]
def k0_off19 (i : grid0.Coords) (k0_t2 : Fin (k0_t2_loop i).trips) : Fin 3 → Nat :=
  let c0_246 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v538 : Index := Scalar.indexCast v529
  let c0_247 : Index := 0#32
  ![0, v538.toNat, 0]
def k0_off20 (i : grid0.Coords) (k0_t2 : Fin (k0_t2_loop i).trips) : Fin 3 → Nat :=
  let c0_268 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v587 : Index := Scalar.indexCast v529
  let c512_269 : Index := 512#32
  ![0, v587.toNat, 512]
def k0_off21 (i : grid0.Coords) (k0_t2 : Fin (k0_t2_loop i).trips) : Fin 3 → Nat :=
  let c0_271 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v591 : Index := Scalar.indexCast v529
  let c128_272 : Index := 128#32
  ![0, v591.toNat, 128]
def k0_off22 (i : grid0.Coords) (k0_t2 : Fin (k0_t2_loop i).trips) : Fin 3 → Nat :=
  let c0_293 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v640 : Index := Scalar.indexCast v529
  let c768_294 : Index := 768#32
  ![0, v640.toNat, 768]
def k0_off23 (i : grid0.Coords) (k0_t2 : Fin (k0_t2_loop i).trips) : Fin 3 → Nat :=
  let c0_296 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v644 : Index := Scalar.indexCast v529
  let c256_297 : Index := 256#32
  ![0, v644.toNat, 256]
def k0_off24 (i : grid0.Coords) (k0_t2 : Fin (k0_t2_loop i).trips) : Fin 3 → Nat :=
  let c0_318 : Index := 0#32
  let c0_i32_83 : BitVec 32 := 0#32
  let arg2 : BitVec 32 := BitVec.ofNat 32 (i 2).val
  let c2_i32 : BitVec 32 := 2#32
  let v219 : BitVec 32 := Scalar.muli arg2 c2_i32
  let v220 : BitVec 32 := Scalar.subi v219 c0_i32_83
  let c1_i32 : BitVec 32 := 1#32
  let v222 : BitVec 32 := Scalar.divsi v220 c1_i32
  let v223 : BitVec 32 := Scalar.muli v222 c1_i32
  let v224 : BitVec 32 := Scalar.addi c0_i32_83 v223
  let c1_i32_85 : BitVec 32 := 1#32
  let arg10 : BitVec 32 := Scf.iv v224 c1_i32_85 k0_t2
  let c512_i32_239 : BitVec 32 := 512#32
  let v528 : BitVec 32 := Scalar.muli arg10 c512_i32_239
  let v529 : BitVec 32 := v528
  let v693 : Index := Scalar.indexCast v529
  let c384_319 : Index := 384#32
  ![0, v693.toNat, 384]
def k0_mult4 (i : grid0.Coords) : BitVec 32 :=
  let arg2 : BitVec 32 := BitVec.ofNat 32 (i 2).val
  let c1024_i32_86 : BitVec 32 := 1024#32
  let v225 : BitVec 32 := Scalar.muli arg2 c1024_i32_86
  let c512_i32 : BitVec 32 := 512#32
  let v226 : BitVec 32 := Scalar.addi v225 c512_i32
  v226
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x4096x2048 : Shape := ⟨3, ![16, 4096, 2048]⟩
abbrev S16x4096x1024 : Shape := ⟨3, ![16, 4096, 1024]⟩
abbrev S16x4096x8x256 : Shape := ⟨4, ![16, 4096, 8, 256]⟩
abbrev S16x8x4096x256 : Shape := ⟨4, ![16, 8, 4096, 256]⟩
abbrev S16x4096x8x128 : Shape := ⟨4, ![16, 4096, 8, 128]⟩
abbrev S16x8x4096x128 : Shape := ⟨4, ![16, 8, 4096, 128]⟩
abbrev S16x8x4096x4096 : Shape := ⟨4, ![16, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x4096 : Shape := ⟨3, ![16, 8, 4096]⟩
abbrev S16x8x4096x1 : Shape := ⟨4, ![16, 8, 4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S16x4096x2048, .bf16⟩
  | .hbm, ⟨1, _⟩ => ⟨S16x4096x2048, .bf16⟩
  | .hbm, ⟨2, _⟩ => ⟨S16x4096x1024, .bf16⟩
  | .hbm, ⟨3, _⟩ => ⟨S16x4096x2048, .f32⟩
  | .hbm, ⟨4, _⟩ => ⟨S16x4096x8x256, .f32⟩
  | .hbm, ⟨5, _⟩ => ⟨S16x8x4096x256, .f32⟩
  | .hbm, ⟨6, _⟩ => ⟨S16x4096x2048, .f32⟩
  | .hbm, ⟨7, _⟩ => ⟨S16x4096x8x256, .f32⟩
  | .hbm, ⟨8, _⟩ => ⟨S16x8x4096x256, .f32⟩
  | .hbm, ⟨9, _⟩ => ⟨S16x4096x1024, .f32⟩
  | .hbm, ⟨10, _⟩ => ⟨S16x4096x8x128, .f32⟩
  | .hbm, ⟨11, _⟩ => ⟨S16x8x4096x128, .f32⟩
  | .hbm, ⟨12, _⟩ => ⟨S16x8x4096x4096, .f32⟩
  | .hbm, ⟨13, _⟩ => ⟨S_, .f32⟩
  | .hbm, ⟨14, _⟩ => ⟨S_, .f32⟩
  | .hbm, ⟨15, _⟩ => ⟨S16x8x4096x4096, .f32⟩
  | .hbm, ⟨16, _⟩ => ⟨S16x8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S16x8x4096x4096, .i1⟩
  | .hbm, ⟨26, _⟩ => ⟨S16x8x4096x4096, .f32⟩
  | .hbm, ⟨27, _⟩ => ⟨S16x8x4096x4096, .f32⟩
  | .hbm, ⟨28, _⟩ => ⟨S_, .f32⟩
  | .hbm, ⟨29, _⟩ => ⟨S16x8x4096, .f32⟩
  | .hbm, ⟨30, _⟩ => ⟨S_, .f32⟩
  | .hbm, ⟨31, _⟩ => ⟨S16x8x4096, .f32⟩
  | .hbm, ⟨32, _⟩ => ⟨S16x8x4096, .f32⟩
  | .hbm, ⟨33, _⟩ => ⟨S16x8x4096x1, .f32⟩
  | .hbm, ⟨34, _⟩ => ⟨S16x8x4096x4096, .f32⟩
  | .hbm, ⟨35, _⟩ => ⟨S16x8x4096x4096, .f32⟩
  | .hbm, ⟨36, _⟩ => ⟨S16x8x4096x4096, .f32⟩
  | .hbm, ⟨37, _⟩ => ⟨S_, .f32⟩
  | .hbm, ⟨38, _⟩ => ⟨S16x8x4096, .f32⟩
  | .hbm, ⟨39, _⟩ => ⟨S16x8x4096x1, .f32⟩
  | .hbm, ⟨40, _⟩ => ⟨S16x8x4096x4096, .f32⟩
  | .hbm, ⟨41, _⟩ => ⟨S16x8x4096x4096, .f32⟩
  | .hbm, ⟨42, _⟩ => ⟨S16x8x4096x128, .f32⟩
  | .hbm, ⟨43, _⟩ => ⟨S16x4096x8x128, .f32⟩
  | .hbm, ⟨44, _⟩ => ⟨S16x4096x1024, .f32⟩
  | .hbm, ⟨45, _⟩ => ⟨S16x4096x1024, .bf16⟩
  | _, _ => ⟨S16x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proj.lean ====
abbrev S65536x1024 : Shape := ⟨2, ![65536, 1024]⟩
abbrev S1024x13056 : Shape := ⟨2, ![1024, 13056]⟩
abbrev S65536x13056 : Shape := ⟨2, ![65536, 13056]⟩
abbrev S1024x1024 : Shape := ⟨2, ![1024, 1024]⟩
abbrev S1024x4352 : Shape := ⟨2, ![1024, 4352]⟩

abbrev nBuf : Space → Nat
  | .hbm => 3
  | .vmem => 6
  | .smem => 0
  | _ => 0

abbrev bufTy : (tb : Table) → Fin (tcTables nBuf tb) → BufTy
  | .hbm, ⟨0, _⟩ => ⟨S65536x1024, .bf16⟩
  | .hbm, ⟨1, _⟩ => ⟨S1024x13056, .bf16⟩
  | .hbm, ⟨2, _⟩ => ⟨S65536x13056, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4352, .bf16⟩
  | .local _ .vmem, ⟨3, _⟩ => ⟨S1024x4352, .bf16⟩
  | .local _ .vmem, ⟨4, _⟩ => ⟨S1024x4352, .bf16⟩
  | .local _ .vmem, ⟨5, _⟩ => ⟨S1024x4352, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S65536x1024 : Shape := ⟨2, ![65536, 1024]⟩
abbrev S1024x13056 : Shape := ⟨2, ![1024, 13056]⟩
abbrev S65536x13056 : Shape := ⟨2, ![65536, 13056]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x13056, .bf16⟩
  | .hbm, ⟨2, _⟩ => ⟨S65536x1024, .f32⟩
  | .hbm, ⟨3, _⟩ => ⟨S1024x13056, .f32⟩
  | .hbm, ⟨4, _⟩ => ⟨S65536x13056, .f32⟩
  | .hbm, ⟨5, _⟩ => ⟨S65536x13056, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Fox.lean ====
abbrev S16x4096x13056 : Shape := ⟨3, ![16, 4096, 13056]⟩
abbrev S16x4096x128 : Shape := ⟨3, ![16, 4096, 128]⟩
abbrev S16x4096x1024 : Shape := ⟨3, ![16, 4096, 1024]⟩
abbrev S1x1024x512 : Shape := ⟨3, ![1, 1024, 512]⟩
abbrev S1x4096x512 : Shape := ⟨3, ![1, 4096, 512]⟩
abbrev S1x4096x128 : Shape := ⟨3, ![1, 4096, 128]⟩
abbrev S4x1024x128 : Shape := ⟨3, ![4, 1024, 128]⟩
abbrev S1x1024x128 : Shape := ⟨3, ![1, 1024, 128]⟩
abbrev S1024x128 : Shape := ⟨2, ![1024, 128]⟩
abbrev S1024x256 : Shape := ⟨2, ![1024, 256]⟩
abbrev S1x512x128 : Shape := ⟨3, ![1, 512, 128]⟩
abbrev S512x128 : Shape := ⟨2, ![512, 128]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩
abbrev S512x512 : Shape := ⟨2, ![512, 512]⟩
abbrev S512 : Shape := ⟨1, ![512]⟩
abbrev S512x1 : Shape := ⟨2, ![512, 1]⟩

abbrev nBuf : Space → Nat
  | .hbm => 3
  | .vmem => 13
  | .smem => 0
  | _ => 0

abbrev bufTy : (tb : Table) → Fin (tcTables nBuf tb) → BufTy
  | .hbm, ⟨0, _⟩ => ⟨S16x4096x13056, .bf16⟩
  | .hbm, ⟨1, _⟩ => ⟨S16x4096x128, .bf16⟩
  | .hbm, ⟨2, _⟩ => ⟨S16x4096x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | _, _ => ⟨S16x4096x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_mult1 (i : grid0.Coords) : BitVec 32 :=
  let arg2 : BitVec 32 := BitVec.ofNat 32 (i 2).val
  let c1024_i32 : BitVec 32 := 1024#32
  let v72 : BitVec 32 := Scalar.muli arg2 c1024_i32
  let c0_i32_30 : BitVec 32 := 0#32
  let v73 : BitVec 32 := Scalar.addi v72 c0_i32_30
  v73
def k0_off1 (i : grid0.Coords) (c0_i32_30 : BitVec 32) : Fin 3 → Nat :=
  let c0_31 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_30
  let v74 : BitVec 32 := v73
  let v75 : Index := Scalar.indexCast v74
  let c0_32 : Index := 0#32
  ![0, v75.toNat, 0]
def k0_off2 (i : grid0.Coords) (c0_i32_30 : BitVec 32) : Fin 3 → Nat :=
  let c0_33 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_30
  let v74 : BitVec 32 := v73
  let v78 : Index := Scalar.indexCast v74
  let c0_34 : Index := 0#32
  ![0, v78.toNat, 0]
def k0_off3 (i : grid0.Coords) (c0_i32_30 : BitVec 32) : Fin 3 → Nat :=
  let c0_39 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_30
  let v74 : BitVec 32 := v73
  let v92 : Index := Scalar.indexCast v74
  let c128_40 : Index := 128#32
  ![0, v92.toNat, 128]
def k0_off4 (i : grid0.Coords) (c0_i32_30 : BitVec 32) : Fin 3 → Nat :=
  let c0_61 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_30
  let v74 : BitVec 32 := v73
  let v148 : Index := Scalar.indexCast v74
  let c256_62 : Index := 256#32
  ![0, v148.toNat, 256]
def k0_off5 (i : grid0.Coords) (c0_i32_30 : BitVec 32) : Fin 3 → Nat :=
  let c0_82 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_30
  let v74 : BitVec 32 := v73
  let v204 : Index := Scalar.indexCast v74
  let c384_83 : Index := 384#32
  ![0, v204.toNat, 384]
@[reducible] def k0_t1_loop (i : grid0.Coords) : Scf.Loop 32 :=
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let c1_i32_120 : BitVec 32 := 1#32
  ⟨c0_i32_118, v304, c1_i32_120⟩
def k0_mult2 (i : grid0.Coords) (k0_t1 : Fin (k0_t1_loop i).trips) : BitVec 32 :=
  let c0_i32_118 : BitVec 32 := 0#32
  let c1_i32_120 : BitVec 32 := 1#32
  let arg11 : BitVec 32 := Scf.iv c0_i32_118 c1_i32_120 k0_t1
  let c512_i32_282 : BitVec 32 := 512#32
  let v624 : BitVec 32 := Scalar.muli arg11 c512_i32_282
  v624
def k0_off6 (i : grid0.Coords) (k0_t1 : Fin (k0_t1_loop i).trips) : Fin 3 → Nat :=
  let c0_283 : Index := 0#32
  let c0_i32_118 : BitVec 32 := 0#32
  let c1_i32_120 : BitVec 32 := 1#32
  let arg11 : BitVec 32 := Scf.iv c0_i32_118 c1_i32_120 k0_t1
  let c512_i32_282 : BitVec 32 := 512#32
  let v624 : BitVec 32 := Scalar.muli arg11 c512_i32_282
  let v625 : BitVec 32 := v624
  let v626 : Index := Scalar.indexCast v625
  let c0_284 : Index := 0#32
  ![0, v626.toNat, 0]
def k0_off7 (i : grid0.Coords) (k0_t1 : Fin (k0_t1_loop i).trips) : Fin 3 → Nat :=
  let c0_285 : Index := 0#32
  let c0_i32_118 : BitVec 32 := 0#32
  let c1_i32_120 : BitVec 32 := 1#32
  let arg11 : BitVec 32 := Scf.iv c0_i32_118 c1_i32_120 k0_t1
  let c512_i32_282 : BitVec 32 := 512#32
  let v624 : BitVec 32 := Scalar.muli arg11 c512_i32_282
  let v625 : BitVec 32 := v624
  let v629 : Index := Scalar.indexCast v625
  let c0_286 : Index := 0#32
  ![0, v629.toNat, 0]
def k0_off8 (i : grid0.Coords) (k0_t1 : Fin (k0_t1_loop i).trips) : Fin 3 → Nat :=
  let c0_288 : Index := 0#32
  let c0_i32_118 : BitVec 32 := 0#32
  let c1_i32_120 : BitVec 32 := 1#32
  let arg11 : BitVec 32 := Scf.iv c0_i32_118 c1_i32_120 k0_t1
  let c512_i32_282 : BitVec 32 := 512#32
  let v624 : BitVec 32 := Scalar.muli arg11 c512_i32_282
  let v625 : BitVec 32 := v624
  let v634 : Index := Scalar.indexCast v625
  let c128_289 : Index := 128#32
  ![0, v634.toNat, 128]
def k0_off9 (i : grid0.Coords) (k0_t1 : Fin (k0_t1_loop i).trips) : Fin 3 → Nat :=
  let c0_315 : Index := 0#32
  let c0_i32_118 : BitVec 32 := 0#32
  let c1_i32_120 : BitVec 32 := 1#32
  let arg11 : BitVec 32 := Scf.iv c0_i32_118 c1_i32_120 k0_t1
  let c512_i32_282 : BitVec 32 := 512#32
  let v624 : BitVec 32 := Scalar.muli arg11 c512_i32_282
  let v625 : BitVec 32 := v624
  let v691 : Index := Scalar.indexCast v625
  let c256_316 : Index := 256#32
  ![0, v691.toNat, 256]
def k0_off10 (i : grid0.Coords) (k0_t1 : Fin (k0_t1_loop i).trips) : Fin 3 → Nat :=
  let c0_342 : Index := 0#32
  let c0_i32_118 : BitVec 32 := 0#32
  let c1_i32_120 : BitVec 32 := 1#32
  let arg11 : BitVec 32 := Scf.iv c0_i32_118 c1_i32_120 k0_t1
  let c512_i32_282 : BitVec 32 := 512#32
  let v624 : BitVec 32 := Scalar.muli arg11 c512_i32_282
  let v625 : BitVec 32 := v624
  let v748 : Index := Scalar.indexCast v625
  let c384_343 : Index := 384#32
  ![0, v748.toNat, 384]
@[reducible] def k0_t2_loop (i : grid0.Coords) : Scf.Loop 32 :=
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let v301 : BitVec 32 := Scalar.addi c0_i32_118 v300
  let c1_i32_121 : BitVec 32 := 1#32
  ⟨v304, v301, c1_i32_121⟩
def k0_mult3 (i : grid0.Coords) (k0_t2 : Fin (k0_t2_loop i).trips) : BitVec 32 :=
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let c1_i32_121 : BitVec 32 := 1#32
  let arg11 : BitVec 32 := Scf.iv v304 c1_i32_121 k0_t2
  let c512_i32_282 : BitVec 32 := 512#32
  let v624 : BitVec 32 := Scalar.muli arg11 c512_i32_282
  v624
def k0_off11 (i : grid0.Coords) (k0_t2 : Fin (k0_t2_loop i).trips) : Fin 3 → Nat :=
  let c0_283 : Index := 0#32
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let c1_i32_121 : BitVec 32 := 1#32
  let arg11 : BitVec 32 := Scf.iv v304 c1_i32_121 k0_t2
  let c512_i32_282 : BitVec 32 := 512#32
  let v624 : BitVec 32 := Scalar.muli arg11 c512_i32_282
  let v625 : BitVec 32 := v624
  let v626 : Index := Scalar.indexCast v625
  let c0_284 : Index := 0#32
  ![0, v626.toNat, 0]
def k0_off12 (i : grid0.Coords) (k0_t2 : Fin (k0_t2_loop i).trips) : Fin 3 → Nat :=
  let c0_285 : Index := 0#32
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let c1_i32_121 : BitVec 32 := 1#32
  let arg11 : BitVec 32 := Scf.iv v304 c1_i32_121 k0_t2
  let c512_i32_282 : BitVec 32 := 512#32
  let v624 : BitVec 32 := Scalar.muli arg11 c512_i32_282
  let v625 : BitVec 32 := v624
  let v629 : Index := Scalar.indexCast v625
  let c0_286 : Index := 0#32
  ![0, v629.toNat, 0]
def k0_off13 (i : grid0.Coords) (k0_t2 : Fin (k0_t2_loop i).trips) : Fin 3 → Nat :=
  let c0_288 : Index := 0#32
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let c1_i32_121 : BitVec 32 := 1#32
  let arg11 : BitVec 32 := Scf.iv v304 c1_i32_121 k0_t2
  let c512_i32_282 : BitVec 32 := 512#32
  let v624 : BitVec 32 := Scalar.muli arg11 c512_i32_282
  let v625 : BitVec 32 := v624
  let v634 : Index := Scalar.indexCast v625
  let c128_289 : Index := 128#32
  ![0, v634.toNat, 128]
def k0_off14 (i : grid0.Coords) (k0_t2 : Fin (k0_t2_loop i).trips) : Fin 3 → Nat :=
  let c0_315 : Index := 0#32
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let c1_i32_121 : BitVec 32 := 1#32
  let arg11 : BitVec 32 := Scf.iv v304 c1_i32_121 k0_t2
  let c512_i32_282 : BitVec 32 := 512#32
  let v624 : BitVec 32 := Scalar.muli arg11 c512_i32_282
  let v625 : BitVec 32 := v624
  let v691 : Index := Scalar.indexCast v625
  let c256_316 : Index := 256#32
  ![0, v691.toNat, 256]
def k0_off15 (i : grid0.Coords) (k0_t2 : Fin (k0_t2_loop i).trips) : Fin 3 → Nat :=
  let c0_342 : Index := 0#32
  let c0_i32_118 : BitVec 32 := 0#32
  let arg2 : BitVec 32 := BitVec.ofNat 32 (i 2).val
  let c2_i32_116 : BitVec 32 := 2#32
  let v299 : BitVec 32 := Scalar.muli arg2 c2_i32_116
  let v300 : BitVec 32 := Scalar.subi v299 c0_i32_118
  let c1_i32_119 : BitVec 32 := 1#32
  let v302 : BitVec 32 := Scalar.divsi v300 c1_i32_119
  let v303 : BitVec 32 := Scalar.muli v302 c1_i32_119
  let v304 : BitVec 32 := Scalar.addi c0_i32_118 v303
  let c1_i32_121 : BitVec 32 := 1#32
  let arg11 : BitVec 32 := Scf.iv v304 c1_i32_121 k0_t2
  let c512_i32_282 : BitVec 32 := 512#32
  let v624 : BitVec 32 := Scalar.muli arg11 c512_i32_282
  let v625 : BitVec 32 := v624
  let v748 : Index := Scalar.indexCast v625
  let c384_343 : Index := 384#32
  ![0, v748.toNat, 384]
def k0_mult4 (i : grid0.Coords) : BitVec 32 :=
  let arg2 : BitVec 32 := BitVec.ofNat 32 (i 2).val
  let c1024_i32_122 : BitVec 32 := 1024#32
  let v305 : BitVec 32 := Scalar.muli arg2 c1024_i32_122
  let c512_i32 : BitVec 32 := 512#32
  let v306 : BitVec 32 := Scalar.addi v305 c512_i32
  v306
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxReferenceIdeal.lean ====
abbrev S16x4096x13056 : Shape := ⟨3, ![16, 4096, 13056]⟩
abbrev S16x4096x128 : Shape := ⟨3, ![16, 4096, 128]⟩
abbrev S16x4096x1024 : Shape := ⟨3, ![16, 4096, 1024]⟩
abbrev S16x4096x8x128 : Shape := ⟨4, ![16, 4096, 8, 128]⟩
abbrev S16x8x4096x128 : Shape := ⟨4, ![16, 8, 4096, 128]⟩
abbrev S_ : Shape := ⟨0, ![]⟩
abbrev S16x4096x24 : Shape := ⟨3, ![16, 4096, 24]⟩
abbrev S16x4096x8x3 : Shape := ⟨4, ![16, 4096, 8, 3]⟩
abbrev S16x4096x8 : Shape := ⟨3, ![16, 4096, 8]⟩
abbrev S16x8x4096 : Shape := ⟨3, ![16, 8, 4096]⟩
abbrev S16x8x4096x4096 : Shape := ⟨4, ![16, 8, 4096, 4096]⟩
abbrev S16x8x4096x1 : Shape := ⟨4, ![16, 8, 4096, 1]⟩
abbrev S16x8x1x4096 : Shape := ⟨4, ![16, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 62
  | .vmem => 0
  | .smem => 0
  | _ => 0

abbrev bufTy : (tb : Table) → Fin (tcTables nBuf tb) → BufTy
  | .hbm, ⟨0, _⟩ => ⟨S16x4096x13056, .bf16⟩
  | .hbm, ⟨1, _⟩ => ⟨S16x4096x128, .bf16⟩
  | .hbm, ⟨2, _⟩ => ⟨S16x4096x1024, .bf16⟩
  | .hbm, ⟨3, _⟩ => ⟨S16x4096x1024, .f32⟩
  | .hbm, ⟨4, _⟩ => ⟨S16x4096x8x128, .f32⟩
  | .hbm, ⟨5, _⟩ => ⟨S16x8x4096x128, .f32⟩
  | .hbm, ⟨6, _⟩ => ⟨S16x4096x1024, .bf16⟩
  | .hbm, ⟨7, _⟩ => ⟨S16x4096x1024, .f32⟩
  | .hbm, ⟨8, _⟩ => ⟨S16x4096x8x128, .f32⟩
  | .hbm, ⟨9, _⟩ => ⟨S16x8x4096x128, .f32⟩
  | .hbm, ⟨10, _⟩ => ⟨S16x4096x1024, .bf16⟩
  | .hbm, ⟨11, _⟩ => ⟨S16x4096x1024, .f32⟩
  | .hbm, ⟨12, _⟩ => ⟨S16x4096x8x128, .f32⟩
  | .hbm, ⟨13, _⟩ => ⟨S16x8x4096x128, .f32⟩
  | .hbm, ⟨14, _⟩ => ⟨S_, .f32⟩
  | .hbm, ⟨15, _⟩ => ⟨S_, .f32⟩
  | .hbm, ⟨16, _⟩ => ⟨S16x4096x24, .bf16⟩
  | .hbm, ⟨17, _⟩ => ⟨S16x4096x24, .f32⟩
  | .hbm, ⟨18, _⟩ => ⟨S16x4096x8x3, .f32⟩
  | .hbm, ⟨19, _⟩ => ⟨S_, .f32⟩
  | .hbm, ⟨20, _⟩ => ⟨S16x4096x8, .f32⟩
  | .hbm, ⟨21, _⟩ => ⟨S16x8x4096, .f32⟩
  | .hbm, ⟨22, _⟩ => ⟨S16x8x4096, .f32⟩
  | .hbm, ⟨23, _⟩ => ⟨S16x8x4096, .f32⟩
  | .hbm, ⟨24, _⟩ => ⟨S16x8x4096x4096, .f32⟩
  | .hbm, ⟨25, _⟩ => ⟨S16x8x4096x4096, .f32⟩
  | .hbm, ⟨26, _⟩ => ⟨S16x8x4096x4096, .f32⟩
  | .hbm, ⟨27, _⟩ => ⟨S16x8x4096x1, .f32⟩
  | .hbm, ⟨28, _⟩ => ⟨S16x8x4096x4096, .f32⟩
  | .hbm, ⟨29, _⟩ => ⟨S16x8x4096x4096, .f32⟩
  | .hbm, ⟨30, _⟩ => ⟨S16x8x1x4096, .f32⟩
  | .hbm, ⟨31, _⟩ => ⟨S16x8x4096x4096, .f32⟩
  | .hbm, ⟨32, _⟩ => ⟨S16x8x4096x4096, .f32⟩
  | .hbm, ⟨33, _⟩ => ⟨S4096, .i32⟩
  | .hbm, ⟨34, _⟩ => ⟨S1x4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S16x8x4096x4096, .i1⟩
  | .hbm, ⟨42, _⟩ => ⟨S16x8x4096x4096, .f32⟩
  | .hbm, ⟨43, _⟩ => ⟨S16x8x4096x4096, .f32⟩
  | .hbm, ⟨44, _⟩ => ⟨S_, .f32⟩
  | .hbm, ⟨45, _⟩ => ⟨S16x8x4096, .f32⟩
  | .hbm, ⟨46, _⟩ => ⟨S_, .f32⟩
  | .hbm, ⟨47, _⟩ => ⟨S16x8x4096, .f32⟩
  | .hbm, ⟨48, _⟩ => ⟨S16x8x4096, .f32⟩
  | .hbm, ⟨49, _⟩ => ⟨S16x8x4096x1, .f32⟩
  | .hbm, ⟨50, _⟩ => ⟨S16x8x4096x4096, .f32⟩
  | .hbm, ⟨51, _⟩ => ⟨S16x8x4096x4096, .f32⟩
  | .hbm, ⟨52, _⟩ => ⟨S16x8x4096x4096, .f32⟩
  | .hbm, ⟨53, _⟩ => ⟨S_, .f32⟩
  | .hbm, ⟨54, _⟩ => ⟨S16x8x4096, .f32⟩
  | .hbm, ⟨55, _⟩ => ⟨S16x8x4096x1, .f32⟩
  | .hbm, ⟨56, _⟩ => ⟨S16x8x4096x4096, .f32⟩
  | .hbm, ⟨57, _⟩ => ⟨S16x8x4096x4096, .f32⟩
  | .hbm, ⟨58, _⟩ => ⟨S16x8x4096x128, .f32⟩
  | .hbm, ⟨59, _⟩ => ⟨S16x4096x8x128, .f32⟩
  | .hbm, ⟨60, _⟩ => ⟨S16x4096x1024, .f32⟩
  | .hbm, ⟨61, _⟩ => ⟨S16x4096x1024, .bf16⟩
  | _, _ => ⟨S16x4096x13056, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Merge.lean ====
abbrev S65536x1024 : Shape := ⟨2, ![65536, 1024]⟩
abbrev S65536x13056 : Shape := ⟨2, ![65536, 13056]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x6144 : Shape := ⟨2, ![512, 6144]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 20
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x13056, .bf16⟩
  | .hbm, ⟨4, _⟩ => ⟨S65536x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S65536x1024, .f32⟩
  | .hbm, ⟨14, _⟩ => ⟨S65536x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x6144, .bf16⟩
  | .local _ .vmem, ⟨7, _⟩ => ⟨S512x6144, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S65536x1024 : Shape := ⟨2, ![65536, 1024]⟩
abbrev S65536x13056 : Shape := ⟨2, ![65536, 13056]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x13056, .bf16⟩
  | .hbm, ⟨4, _⟩ => ⟨S65536x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024, .f32⟩
  | .hbm, ⟨10, _⟩ => ⟨S1024, .f32⟩
  | .hbm, ⟨11, _⟩ => ⟨S65536x1024, .bf16⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .bf16⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S1024x1024, .f32⟩
  | .hbm, ⟨35, _⟩ => ⟨S65536x1024, .f32⟩
  | .hbm, ⟨36, _⟩ => ⟨S65536x1024, .f32⟩
  | .hbm, ⟨37, _⟩ => ⟨S65536x1024, .bf16⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .bf16⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S1024x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .bf16⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S_, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S65536x1024, .f32⟩
  | .hbm, ⟨75, _⟩ => ⟨S65536x1024, .bf16⟩
  | .hbm, ⟨76, _⟩ => ⟨S65536x1024, .f32⟩
  | .hbm, ⟨77, _⟩ => ⟨S65536x1024, .f32⟩
  | .hbm, ⟨78, _⟩ => ⟨S65536x1024, .f32⟩
  | .hbm, ⟨79, _⟩ => ⟨S_, .f32⟩
  | .hbm, ⟨80, _⟩ => ⟨S65536x1024, .f32⟩
  | .hbm, ⟨81, _⟩ => ⟨S65536x1024, .f32⟩
  | .hbm, ⟨82, _⟩ => ⟨S_, .f32⟩
  | .hbm, ⟨83, _⟩ => ⟨S65536x1024, .f32⟩
  | .hbm, ⟨84, _⟩ => ⟨S65536x1024, .f32⟩
  | .hbm, ⟨85, _⟩ => ⟨S65536x1024, .f32⟩
  | .hbm, ⟨86, _⟩ => ⟨S65536x1024, .f32⟩
  | .hbm, ⟨87, _⟩ => ⟨S1024x1024, .f32⟩
  | .hbm, ⟨88, _⟩ => ⟨S65536x1024, .f32⟩
  | .hbm, ⟨89, _⟩ => ⟨S65536x1024, .f32⟩
  | .hbm, ⟨90, _⟩ => ⟨S65536x1024, .f32⟩
  | .hbm, ⟨91, _⟩ => ⟨S_, .f32⟩
  | .hbm, ⟨92, _⟩ => ⟨S65536x1024, .f32⟩
  | .hbm, ⟨93, _⟩ => ⟨S65536x1024, .f32⟩
  | .hbm, ⟨94, _⟩ => ⟨S1024x1024, .f32⟩
  | .hbm, ⟨95, _⟩ => ⟨S65536x1024, .f32⟩
  | .hbm, ⟨96, _⟩ => ⟨S65536x1024, .f32⟩
  | .hbm, ⟨97, _⟩ => ⟨S_, .f32⟩
  | .hbm, ⟨98, _⟩ => ⟨S65536, .f32⟩
  | .hbm, ⟨99, _⟩ => ⟨S65536x1, .f32⟩
  | .hbm, ⟨100, _⟩ => ⟨S_, .f32⟩
  | .hbm, ⟨101, _⟩ => ⟨S65536x1, .f32⟩
  | .hbm, ⟨102, _⟩ => ⟨S65536x1, .f32⟩
  | .hbm, ⟨103, _⟩ => ⟨S65536x1024, .f32⟩
  | .hbm, ⟨104, _⟩ => ⟨S65536x1024, .f32⟩
  | .hbm, ⟨105, _⟩ => ⟨S65536x1024, .f32⟩
  | .hbm, ⟨106, _⟩ => ⟨S_, .f32⟩
  | .hbm, ⟨107, _⟩ => ⟨S65536, .f32⟩
  | .hbm, ⟨108, _⟩ => ⟨S65536x1, .f32⟩
  | .hbm, ⟨109, _⟩ => ⟨S_, .f32⟩
  | .hbm, ⟨110, _⟩ => ⟨S65536x1, .f32⟩
  | .hbm, ⟨111, _⟩ => ⟨S65536x1, .f32⟩
  | .hbm, ⟨112, _⟩ => ⟨S65536x1024, .f32⟩
  | .hbm, ⟨113, _⟩ => ⟨S65536x1024, .f32⟩
  | .hbm, ⟨114, _⟩ => ⟨S_, .f32⟩
  | .hbm, ⟨115, _⟩ => ⟨S65536x1, .f32⟩
  | .hbm, ⟨116, _⟩ => ⟨S65536x1, .f32⟩
  | .hbm, ⟨117, _⟩ => ⟨S65536x1, .f32⟩
  | .hbm, ⟨118, _⟩ => ⟨S65536x1024, .f32⟩
  | .hbm, ⟨119, _⟩ => ⟨S65536x1024, .f32⟩
  | .hbm, ⟨120, _⟩ => ⟨S1x1024, .f32⟩
  | .hbm, ⟨121, _⟩ => ⟨S65536x1024, .f32⟩
  | .hbm, ⟨122, _⟩ => ⟨S65536x1024, .f32⟩
  | .hbm, ⟨123, _⟩ => ⟨S1x1024, .f32⟩
  | .hbm, ⟨124, _⟩ => ⟨S65536x1024, .f32⟩
  | .hbm, ⟨125, _⟩ => ⟨S65536x1024, .f32⟩
  | .hbm, ⟨126, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_v37 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_5 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_6 : Ref sig .tc := ⟨.hbm, 97, rfl⟩
abbrev main_v55 : Ref sig .tc := ⟨.hbm, 98, rfl⟩
abbrev main_v56 : Ref sig .tc := ⟨.hbm, 99, rfl⟩
abbrev main_cst_7 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_8 : Ref sig .tc := ⟨.hbm, 106, rfl⟩
abbrev main_v62 : Ref sig .tc := ⟨.hbm, 107, rfl⟩
abbrev main_v63 : Ref sig .tc := ⟨.hbm, 108, rfl⟩
abbrev main_cst_9 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_10 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩

abbrev nD : Nat := 1
abbrev τ : Topo := Topo.v7x

variable {F : FTy → Type} [FloatOps F]
-- ==== Prep.lean ====
abbrev S65536x13056 : Shape := ⟨2, ![65536, 13056]⟩
abbrev S65536x128 : Shape := ⟨2, ![65536, 128]⟩
abbrev S384 : Shape := ⟨1, ![384]⟩
abbrev S256 : Shape := ⟨1, ![256]⟩
abbrev S384x2048 : Shape := ⟨2, ![384, 2048]⟩
abbrev S256x2048 : Shape := ⟨2, ![256, 2048]⟩
abbrev S1x384 : Shape := ⟨2, ![1, 384]⟩
abbrev S1x256 : Shape := ⟨2, ![1, 256]⟩
abbrev S65536x2048 : Shape := ⟨2, ![65536, 2048]⟩
abbrev S65536x1024 : Shape := ⟨2, ![65536, 1024]⟩
abbrev S512x768 : Shape := ⟨2, ![512, 768]⟩
abbrev S512x128 : Shape := ⟨2, ![512, 128]⟩
abbrev S512x2048 : Shape := ⟨2, ![512, 2048]⟩
abbrev S512x1024 : Shape := ⟨2, ![512, 1024]⟩
abbrev S512x256 : Shape := ⟨2, ![512, 256]⟩
abbrev S512x384 : Shape := ⟨2, ![512, 384]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S65536x13056, .bf16⟩
  | .hbm, ⟨1, _⟩ => ⟨S65536x128, .f32⟩
  | .hbm, ⟨2, _⟩ => ⟨S384, .f32⟩
  | .hbm, ⟨3, _⟩ => ⟨S256, .f32⟩
  | .hbm, ⟨4, _⟩ => ⟨S384x2048, .bf16⟩
  | .hbm, ⟨5, _⟩ => ⟨S256x2048, .bf16⟩
  | .hbm, ⟨6, _⟩ => ⟨S1x384, .f32⟩
  | .hbm, ⟨7, _⟩ => ⟨S1x256, .f32⟩
  | .hbm, ⟨8, _⟩ => ⟨S65536x2048, .bf16⟩
  | .hbm, ⟨9, _⟩ => ⟨S65536x2048, .bf16⟩
  | .hbm, ⟨10, _⟩ => ⟨S65536x1024, .bf16⟩
  | .local _ .vmem, ⟨0, _⟩ => ⟨S512x768, .bf16⟩
  | .local _ .vmem, ⟨1, _⟩ => ⟨S512x768, .bf16⟩
  | .local _ .vmem, ⟨2, _⟩ => ⟨S512x128, .f32⟩
  | .local _ .vmem, ⟨3, _⟩ => ⟨S512x128, .f32⟩
  | .local _ .vmem, ⟨4, _⟩ => ⟨S1x384, .f32⟩
  | .local _ .vmem, ⟨5, _⟩ => ⟨S1x256, .f32⟩
  | .local _ .vmem, ⟨6, _⟩ => ⟨S384x2048, .bf16⟩
  | .local _ .vmem, ⟨7, _⟩ => ⟨S256x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | _, _ => ⟨S65536x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepReferenceIdeal.lean ====
abbrev S65536x13056 : Shape := ⟨2, ![65536, 13056]⟩
abbrev S65536x128 : Shape := ⟨2, ![65536, 128]⟩
abbrev S384 : Shape := ⟨1, ![384]⟩
abbrev S256 : Shape := ⟨1, ![256]⟩
abbrev S384x2048 : Shape := ⟨2, ![384, 2048]⟩
abbrev S256x2048 : Shape := ⟨2, ![256, 2048]⟩
abbrev S65536x768 : Shape := ⟨2, ![65536, 768]⟩
abbrev S65536x256 : Shape := ⟨2, ![65536, 256]⟩
abbrev S65536x384 : Shape := ⟨2, ![65536, 384]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S1x384 : Shape := ⟨2, ![1, 384]⟩
abbrev S65536x2048 : Shape := ⟨2, ![65536, 2048]⟩
abbrev S65536x8x256 : Shape := ⟨3, ![65536, 8, 256]⟩
abbrev S1x256 : Shape := ⟨2, ![1, 256]⟩
abbrev S65536x8x64 : Shape := ⟨3, ![65536, 8, 64]⟩
abbrev S65536x1x64 : Shape := ⟨3, ![65536, 1, 64]⟩
abbrev S65536x8x128 : Shape := ⟨3, ![65536, 8, 128]⟩
abbrev S65536x1024 : Shape := ⟨2, ![65536, 1024]⟩

abbrev nBuf : Space → Nat
  | .hbm => 79
  | .vmem => 0
  | .smem => 0
  | _ => 0

abbrev bufTy : (tb : Table) → Fin (tcTables nBuf tb) → BufTy
  | .hbm, ⟨0, _⟩ => ⟨S65536x13056, .bf16⟩
  | .hbm, ⟨1, _⟩ => ⟨S65536x128, .f32⟩
  | .hbm, ⟨2, _⟩ => ⟨S384, .f32⟩
  | .hbm, ⟨3, _⟩ => ⟨S256, .f32⟩
  | .hbm, ⟨4, _⟩ => ⟨S384x2048, .bf16⟩
  | .hbm, ⟨5, _⟩ => ⟨S256x2048, .bf16⟩
  | .hbm, ⟨6, _⟩ => ⟨S65536x768, .bf16⟩
  | .hbm, ⟨7, _⟩ => ⟨S65536x768, .f32⟩
  | .hbm, ⟨8, _⟩ => ⟨S65536x256, .f32⟩
  | .hbm, ⟨9, _⟩ => ⟨S65536x384, .f32⟩
  | .hbm, ⟨10, _⟩ => ⟨S65536x64, .f32⟩
  | .hbm, ⟨11, _⟩ => ⟨S65536x64, .f32⟩
  | .hbm, ⟨12, _⟩ => ⟨S65536x64, .f32⟩
  | .hbm, ⟨13, _⟩ => ⟨S65536x64, .f32⟩
  | .hbm, ⟨14, _⟩ => ⟨S65536x384, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x384, .f32⟩
  | .hbm, ⟨26, _⟩ => ⟨S65536x384, .f32⟩
  | .hbm, ⟨27, _⟩ => ⟨S1x384, .f32⟩
  | .hbm, ⟨28, _⟩ => ⟨S65536x384, .f32⟩
  | .hbm, ⟨29, _⟩ => ⟨S65536x384, .f32⟩
  | .hbm, ⟨30, _⟩ => ⟨S384x2048, .f32⟩
  | .hbm, ⟨31, _⟩ => ⟨S65536x2048, .f32⟩
  | .hbm, ⟨32, _⟩ => ⟨S65536x8x256, .f32⟩
  | .hbm, ⟨33, _⟩ => ⟨S65536x256, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x256, .f32⟩
  | .hbm, ⟨45, _⟩ => ⟨S65536x256, .f32⟩
  | .hbm, ⟨46, _⟩ => ⟨S1x256, .f32⟩
  | .hbm, ⟨47, _⟩ => ⟨S65536x256, .f32⟩
  | .hbm, ⟨48, _⟩ => ⟨S65536x256, .f32⟩
  | .hbm, ⟨49, _⟩ => ⟨S256x2048, .f32⟩
  | .hbm, ⟨50, _⟩ => ⟨S65536x2048, .f32⟩
  | .hbm, ⟨51, _⟩ => ⟨S65536x8x256, .f32⟩
  | .hbm, ⟨52, _⟩ => ⟨S65536x8x64, .f32⟩
  | .hbm, ⟨53, _⟩ => ⟨S65536x1x64, .f32⟩
  | .hbm, ⟨54, _⟩ => ⟨S65536x8x64, .f32⟩
  | .hbm, ⟨55, _⟩ => ⟨S65536x8x64, .f32⟩
  | .hbm, ⟨56, _⟩ => ⟨S65536x8x64, .f32⟩
  | .hbm, ⟨57, _⟩ => ⟨S65536x1x64, .f32⟩
  | .hbm, ⟨58, _⟩ => ⟨S65536x8x64, .f32⟩
  | .hbm, ⟨59, _⟩ => ⟨S65536x8x64, .f32⟩
  | .hbm, ⟨60, _⟩ => ⟨S65536x8x64, .f32⟩
  | .hbm, ⟨61, _⟩ => ⟨S65536x64, .f32⟩
  | .hbm, ⟨62, _⟩ => ⟨S65536x64, .f32⟩
  | .hbm, ⟨63, _⟩ => ⟨S65536x64, .f32⟩
  | .hbm, ⟨64, _⟩ => ⟨S65536x1x64, .f32⟩
  | .hbm, ⟨65, _⟩ => ⟨S65536x8x64, .f32⟩
  | .hbm, ⟨66, _⟩ => ⟨S65536x8x128, .f32⟩
  | .hbm, ⟨67, _⟩ => ⟨S65536x8x256, .f32⟩
  | .hbm, ⟨68, _⟩ => ⟨S65536x2048, .f32⟩
  | .hbm, ⟨69, _⟩ => ⟨S65536x2048, .bf16⟩
  | .hbm, ⟨70, _⟩ => ⟨S65536x8x128, .f32⟩
  | .hbm, ⟨71, _⟩ => ⟨S_, .f32⟩
  | .hbm, ⟨72, _⟩ => ⟨S65536x8x64, .f32⟩
  | .hbm, ⟨73, _⟩ => ⟨S65536x8x256, .f32⟩
  | .hbm, ⟨74, _⟩ => ⟨S65536x2048, .f32⟩
  | .hbm, ⟨75, _⟩ => ⟨S65536x2048, .bf16⟩
  | .hbm, ⟨76, _⟩ => ⟨S65536x8x128, .f32⟩
  | .hbm, ⟨77, _⟩ => ⟨S65536x1024, .f32⟩
  | .hbm, ⟨78, _⟩ => ⟨S65536x1024, .bf16⟩
  | _, _ => ⟨S65536x13056, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== Norm.lean ====
abbrev S65536x1024 : Shape := ⟨2, ![65536, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S65536x1024, .f32⟩
  | .hbm, ⟨6, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Projection.lean ====
/- The combined input projection: a grid point's tile of the result is the product of its rows with its columns, the tiles cover
   the result, and the reference is the same product. -/
module

public import proofs.«01_k».proof.Proof.Gen.ProjIdeal.Value
public import proofs.«01_k».proof.Proof.Gen.ProjReferenceIdeal.Run
public import Idealize.ShloMosaic.Lib.Pointwise

@[expose] public section

set_option maxRecDepth 16384

noncomputable section

open Idealize.ShloMosaic

namespace Projection

/-- Rows times columns. -/
def product (x : FVec Ideal ⟨2, ![65536, 1024]⟩ .bf16) (w : FVec Ideal ⟨2, ![1024, 13056]⟩ .bf16) : FVec Ideal ⟨2, ![65536, 13056]⟩ .bf16 :=
  fun i => ∑ d : Fin 1024, (x (ix2 (i 0) d) : EReal) * w (ix2 d (i 1))

end Projection

namespace Cert.ProjIdeal.Value

open Cert.ProjIdeal Cert.ProjIdeal.Gen Idealize.ShloMosaic.TcCoe Idealize.SL.Sem Projection

/-! ## The tiles: rows `t / 3`, columns `t % 3` -/

theorem indices (t : Fin cfg0.N) :
    (win0_0.index t (0 : Fin 2) = t.val / 3 ∧ win0_0.index t (1 : Fin 2) = 0)
    ∧ (win0_1.index t (0 : Fin 2) = 0 ∧ win0_1.index t (1 : Fin 2) = t.val % 3)
    ∧ win0_2.index t (0 : Fin 2) = t.val / 3 ∧ win0_2.index t (1 : Fin 2) = t.val % 3 :=
  (by decide +kernel : ∀ t : Fin grid0.N,
    (win0_0.index t (0 : Fin 2) = t.val / 3 ∧ win0_0.index t (1 : Fin 2) = 0)
    ∧ (win0_1.index t (0 : Fin 2) = 0 ∧ win0_1.index t (1 : Fin 2) = t.val % 3)
    ∧ win0_2.index t (0 : Fin 2) = t.val / 3 ∧ win0_2.index t (1 : Fin 2) = t.val % 3) t

theorem t_lt (t : Fin cfg0.N) : t.val < 192 := lt_of_lt_of_eq t.isLt N_0

/-- Row `r` of a point's tile, and its column `x`, in the whole array. -/
def row (t : Fin cfg0.N) (r : Fin 1024) : Fin 65536 := ⟨1024 * (t.val / 3) + r.val, by have := t_lt t; omega⟩
def col (t : Fin cfg0.N) (x : Fin 4352) : Fin 13056 := ⟨4352 * (t.val % 3) + x.val, by omega⟩

theorem emb0 (t : Fin cfg0.N) (r d : Fin 1024) : ((cfg0.win 0).blk t).view.emb (ix2 r d) = ix2 (row t r) d := by
  obtain ⟨⟨e0, e1⟩, -, -⟩ := indices t
  funext a; apply Fin.ext
  match a with
  | ⟨0, _⟩ => show win0_0.index t (0 : Fin 2) * 1024 + 1 * r.val = 1024 * (t.val / 3) + r.val; omega
  | ⟨1, _⟩ => show win0_0.index t (1 : Fin 2) * 1024 + 1 * d.val = d.val; omega

theorem emb1 (t : Fin cfg0.N) (d : Fin 1024) (x : Fin 4352) : ((cfg0.win 1).blk t).view.emb (ix2 d x) = ix2 d (col t x) := by
  obtain ⟨-, ⟨e0, e1⟩, -⟩ := indices t
  funext a; apply Fin.ext
  match a with
  | ⟨0, _⟩ => show win0_1.index t (0 : Fin 2) * 1024 + 1 * d.val = d.val; omega
  | ⟨1, _⟩ => show win0_1.index t (1 : Fin 2) * 4352 + 1 * x.val = 4352 * (t.val % 3) + x.val; omega

theorem emb2 (t : Fin cfg0.N) (r : Fin 1024) (x : Fin 4352) : ((cfg0.win 2).blk t).view.emb (ix2 r x) = ix2 (row t r) (col t x) := by
  obtain ⟨-, -, e0, e1⟩ := indices t
  funext a; apply Fin.ext
  match a with
  | ⟨0, _⟩ => show win0_2.index t (0 : Fin 2) * 1024 + 1 * r.val = 1024 * (t.val / 3) + r.val; omega
  | ⟨1, _⟩ => show win0_2.index t (1 : Fin 2) * 4352 + 1 * x.val = 4352 * (t.val % 3) + x.val; omega

/-- What the body stores: the product of its two blocks. -/
theorem out_at (x0 : Vec Ideal S1024x1024 .bf16) (x1 : Vec Ideal S1024x4352 .bf16) (r : Fin 1024) (x : Fin 4352) :
    out0_2 (F := Ideal) x0 x1 (ix2 r x) = ∑ d : Fin 1024, (x0 (ix2 r d) : EReal) * x1 (ix2 d x) := by
  have hz : (![0, 0] : Fin 2 → Nat) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ)

/-- The rows and the weights as launched. -/
def X (c : Dev nD) : FVec Ideal ⟨2, ![65536, 1024]⟩ .bf16 := m ((c : Thread nD τ).loc main_arg0)
def Y (c : Dev nD) : FVec Ideal ⟨2, ![1024, 13056]⟩ .bf16 := m ((c : Thread nD τ).loc main_arg1)

theorem iblk0_at (c : Dev nD) (t : Fin cfg0.N) (r d : Fin 1024) : iblk m c 0 t (ix2 r d) = X m c (ix2 (row t r) d) :=
  congrArg (X m c) (emb0 t r d)

theorem iblk1_at (c : Dev nD) (t : Fin cfg0.N) (d : Fin 1024) (x : Fin 4352) : iblk m c 1 t (ix2 d x) = Y m c (ix2 d (col t x)) :=
  congrArg (Y m c) (emb1 t d x)

/-- What a point writes back is its tile of the product of the arguments. -/
theorem flushed_eq (c : Dev nD) (t : Fin cfg0.N) :
    (dats m 0 c).flushed 2 t = ((cfg0.win 2).blk t).view.read (Elt Ideal) (product (X m c) (Y m c)) := by
  rw [flushed2]
  funext (j : S1024x4352.Idx)
  obtain ⟨r, x, rfl⟩ : ∃ (r : Fin 1024) (x : Fin 4352), j = ix2 r x := ⟨j 0, j 1, eq_ix2 j⟩
  refine (out_at _ _ r x).trans ?_
  show _ = product (X m c) (Y m c) (((cfg0.win 2).blk t).view.emb (ix2 r x))
  rw [emb2]
  exact Finset.sum_congr rfl fun d _ => Ideal.mul_congr (iblk0_at m c t r d) (iblk1_at m c t d x)

/-- Every entry of the result is in some point's tile. -/
theorem covered (i : S65536x13056.Idx) : ∃ t : Fin cfg0.N, (cfg0.win 2).flush t = true ∧ i ∈ ((cfg0.win 2).blk t).view.set := by
  obtain ⟨s, y, rfl⟩ : ∃ (s : Fin 65536) (y : Fin 13056), i = ix2 s y := ⟨i 0, i 1, eq_ix2 i⟩
  have ht : 3 * (s.val / 1024) + y.val / 4352 < cfg0.N := by rw [show cfg0.N = 192 from N_0]; omega
  refine ⟨⟨_, ht⟩, flush0_2 _, ?_⟩
  have h := ((cfg0.win 2).blk (⟨_, ht⟩ : Fin cfg0.N)).view.emb_mem_set (ix2 ⟨s.val % 1024, by omega⟩ ⟨y.val % 4352, by omega⟩)
  rw [emb2] at h
  have e : ix2 s y = ix2 (row ⟨_, ht⟩ ⟨s.val % 1024, by omega⟩) (col ⟨_, ht⟩ ⟨y.val % 4352, by omega⟩) :=
    (ix2_inj ..).2 ⟨Fin.ext (by simp only [row]; omega), Fin.ext (by simp only [col]; omega)⟩
  exact e ▸ h

/-- The kernel returns the product of its arguments and leaves them unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0) = product (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans
    ((dats m 0 c).arrAt_eq_of_cover 2 (product (X m c) (Y m c)) (fun t _ => flushed_eq m c t) covered), (h c).2⟩) (run_blocks m ρ)

end Cert.ProjIdeal.Value

namespace Cert.ProjReferenceIdeal.Value

open Cert.ProjReferenceIdeal Cert.ProjReferenceIdeal.Gen Idealize.ShloMosaic.TcCoe Projection

/-- The reference's result is the product of its arguments. -/
theorem whole (x : FVec Ideal S65536x1024 .bf16) (w : FVec Ideal S1024x13056 .bf16) :
    truncf .bf16 (Host.dotGeneral (F := Ideal) dot_S65536x1024_S1024x13056_S65536x13056_1_0_0_1_n_n none (extf .f32 x bitsLt_bf16_f32)
      (extf .f32 w bitsLt_bf16_f32)) bitsLt_bf16_f32 = product x w := by
  funext (i : S65536x13056.Idx)
  obtain ⟨s, y, rfl⟩ : ∃ (s : Fin 65536) (y : Fin 13056), i = ix2 s y := ⟨i 0, i 1, eq_ix2 i⟩
  show _ = ∑ d : Fin 1024, (x (ix2 s d) : EReal) * w (ix2 d y)
  pointwise []

end Cert.ProjReferenceIdeal.Value

end
-- ==== Proof.Parts.lean ====
/- What the kernel's body stores, head by head, in one form for the four heads: the loop's trip, the first diagonal
   tile, the second diagonal tile and the final quotient. -/
module

public import proofs.«01_k».proof.Proof.Gen.KernelIdeal.Frame
public import Idealize.ShloMosaic.Lib.WritesUnit

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] {σ : RefSig}

/-! ## One tile of 1024 rows after another -/

/-- The maxima after a tile of scores `S`, from the maxima `m` before it. -/
def upM (S : FVec F S1024x512 .f32) (m : Vec F S1x1024x128 .f32) : Vec F S1x1024x128 .f32 := k0_pay44 (k0_pay35 S m)

/-- The lane sums after a tile of scores `S`. -/
def upL (S : FVec F S1024x512 .f32) (m l : Vec F S1x1024x128 .f32) : Vec F S1x1024x128 .f32 := k0_pay43 (k0_pay41 S m l)

/-- The accumulator after a tile of scores `S` and values `v`. -/
def upA (S : FVec F S1024x512 .f32) (v : Vec F S1x512x128 .bf16) (m a : Vec F S1x1024x128 .f32) : Vec F S1x1024x128 .f32 :=
  k0_pay42 S v m a

/-- The unmasked scores of a tile. -/
def score (q : FVec F S1024x256 .bf16) (k : Vec F S1x512x256 .bf16) : FVec F S1024x512 .f32 := k0_pay4 q k

/-! ## The first diagonal tile -/

/-- The scores of the first diagonal tile, masked above the diagonal. -/
def scoreD (q : Vec F S1x1024x256 .bf16) (k : Vec F S1x512x256 .bf16) : FVec F S1024x512 .f32 := k0_pay108 q k

/-- The maxima the first tile writes. -/
def fiM (S : FVec F S1024x512 .f32) : Vec F S1x1024x128 .f32 := k0_pay119 (k0_pay112 S)

/-- The lane sums the first tile writes. -/
def fiL (S : FVec F S1024x512 .f32) : Vec F S1x1024x128 .f32 := k0_pay118 S

/-- The accumulator the first tile writes. -/
def fiA (S : FVec F S1024x512 .f32) (v : Vec F S1x512x128 .bf16) : Vec F S1x1024x128 .f32 := k0_pay117 S v

/-! ## The second diagonal tile, for the lower 512 rows -/

/-- The scores of the second diagonal tile, of the lower 512 rows, masked above the diagonal. -/
def scoreE (q : FVec F S1024x256 .bf16) (k : Vec F S1x512x256 .bf16) : FVec F S512x512 .f32 := k0_pay168 q k

/-- The maxima of the lower rows after the second diagonal tile, as a plain matrix. -/
def loM' (S : FVec F S512x512 .f32) (m : Vec F S1x512x128 .f32) : FVec F S512x128 .f32 :=
  maximumf (shapeCast S512x128 m shapeCasts_S1x512x128_S512x128)
    (broadcastTo S512x128 (shapeCast S512x1 (multiReduction .maximumf [1] S512 S 0xFF800000#32 reduces_S512x512_S512 (.inl rfl) rfl)
      shapeCasts_S512_S512x1) broadcasts_S512x1_S512x128)

/-- The factor that rescales what the lower rows had before. -/
def loF (S : FVec F S512x512 .f32) (m : Vec F S1x512x128 .f32) : FVec F S512x128 .f32 :=
  exp2 (subf (shapeCast S512x128 m shapeCasts_S1x512x128_S512x128) (loM' S m))

/-- The four lane groups of the tile's powers of two. -/
def loP0 (S : FVec F S512x512 .f32) (m : Vec F S1x512x128 .f32) : FVec F S512x128 .f32 :=
  exp2 (subf (extractStridedSlice S512x128 ![0, 0] S slices_S512x512_o0_0_S512x128) (loM' S m))
@[inherit_doc loP0] def loP1 (S : FVec F S512x512 .f32) (m : Vec F S1x512x128 .f32) : FVec F S512x128 .f32 :=
  exp2 (subf (extractStridedSlice S512x128 ![0, 128] S slices_S512x512_o0_128_S512x128) (loM' S m))
@[inherit_doc loP0] def loP2 (S : FVec F S512x512 .f32) (m : Vec F S1x512x128 .f32) : FVec F S512x128 .f32 :=
  exp2 (subf (extractStridedSlice S512x128 ![0, 256] S slices_S512x512_o0_256_S512x128) (loM' S m))
@[inherit_doc loP0] def loP3 (S : FVec F S512x512 .f32) (m : Vec F S1x512x128 .f32) : FVec F S512x128 .f32 :=
  exp2 (subf (extractStridedSlice S512x128 ![0, 384] S slices_S512x512_o0_384_S512x128) (loM' S m))

/-- The maxima of the lower rows after the second diagonal tile. -/
def loM (S : FVec F S512x512 .f32) (m : Vec F S1x512x128 .f32) : Vec F S1x512x128 .f32 :=
  shapeCast S1x512x128 (loM' S m) shapeCasts_S512x128_S1x512x128

/-- The lane sums of the lower rows after the second diagonal tile. -/
def loL (S : FVec F S512x512 .f32) (m l : Vec F S1x512x128 .f32) : Vec F S1x512x128 .f32 :=
  shapeCast S1x512x128 (addf (addf (addf (addf (mulf (loF S m) (shapeCast S512x128 l shapeCasts_S1x512x128_S512x128))
    (loP0 S m)) (loP1 S m)) (loP2 S m)) (loP3 S m)) shapeCasts_S512x128_S1x512x128

/-- The accumulator of the lower rows after the second diagonal tile. -/
def loA (S : FVec F S512x512 .f32) (v : Vec F S1x512x128 .bf16) (m a : Vec F S1x512x128 .f32) : Vec F S1x512x128 .f32 :=
  shapeCast S1x512x128 (addf (mulf (loF S m) (shapeCast S512x128 a shapeCasts_S1x512x128_S512x128))
    (matmul dot_S512x512_S512x128_S512x128_1_0_0_1_n_n none
      (concatenate S512x512 1 [⟨S512x128, truncf .bf16 (loP0 S m) bitsLt_bf16_f32⟩, ⟨S512x128, truncf .bf16 (loP1 S m) bitsLt_bf16_f32⟩,
        ⟨S512x128, truncf .bf16 (loP2 S m) bitsLt_bf16_f32⟩, ⟨S512x128, truncf .bf16 (loP3 S m) bitsLt_bf16_f32⟩]
        concatenates_S512x128_S512x128_S512x128_S512x128_S512x512_d1)
      (shapeCast S512x128 v shapeCasts_S1x512x128_S512x128) (constant S512x128 .f32 0x00000000#32)))
    shapeCasts_S512x128_S1x512x128

/-- The quotient a head writes out. -/
def fin (l a : Vec F S1x1024x128 .f32) : Vec F S1x1024x128 .bf16 := k0_pay3 l a

/-! ## The lists of pieces -/

/-- The four heads' blocks of a scratch array, the last head's written last. -/
def four (p₀ p₁ p₂ p₃ : Vec F S1x1024x128 .f32) : List (View.Piece (Elt F) S4x1024x128 .f32) :=
  [⟨Rect.unit ![3, 0, 0] S1x1024x128.size inb_S4x1024x128_S1x1024x128_3_0_0, p₃⟩,
   ⟨Rect.unit ![2, 0, 0] S1x1024x128.size inb_S4x1024x128_S1x1024x128_2_0_0, p₂⟩,
   ⟨Rect.unit ![1, 0, 0] S1x1024x128.size inb_S4x1024x128_S1x1024x128_1_0_0, p₁⟩,
   ⟨Rect.unit ![0, 0, 0] S1x1024x128.size inb_S4x1024x128_S1x1024x128_0_0_0, p₀⟩]

/-- Head `g`'s block of a scratch array's contents. -/
def blk0 (v : View σ .tc .vmem S4x1024x128 .f32) (f : v.ty.Contents (Elt F)) : Vec F S1x1024x128 .f32 :=
  v.readAt (Elt F) (Rect.unit (s := S4x1024x128) ![0, 0, 0] S1x1024x128.size inb_S4x1024x128_S1x1024x128_0_0_0).toLoadRect f
@[inherit_doc blk0] def blk1 (v : View σ .tc .vmem S4x1024x128 .f32) (f : v.ty.Contents (Elt F)) : Vec F S1x1024x128 .f32 :=
  v.readAt (Elt F) (Rect.unit (s := S4x1024x128) ![1, 0, 0] S1x1024x128.size inb_S4x1024x128_S1x1024x128_1_0_0).toLoadRect f
@[inherit_doc blk0] def blk2 (v : View σ .tc .vmem S4x1024x128 .f32) (f : v.ty.Contents (Elt F)) : Vec F S1x1024x128 .f32 :=
  v.readAt (Elt F) (Rect.unit (s := S4x1024x128) ![2, 0, 0] S1x1024x128.size inb_S4x1024x128_S1x1024x128_2_0_0).toLoadRect f
@[inherit_doc blk0] def blk3 (v : View σ .tc .vmem S4x1024x128 .f32) (f : v.ty.Contents (Elt F)) : Vec F S1x1024x128 .f32 :=
  v.readAt (Elt F) (Rect.unit (s := S4x1024x128) ![3, 0, 0] S1x1024x128.size inb_S4x1024x128_S1x1024x128_3_0_0).toLoadRect f

/-! The four heads' accumulators are printed in four forms; they are the same function. -/

theorem upA_0 (q : FVec F S1024x256 .bf16) (k : Vec F S1x512x256 .bf16) (v : Vec F S1x512x128 .bf16) (m a : Vec F S1x1024x128 .f32) :
    k0_pay18 (k0_pay6 v) (k0_pay9 q k m) (k0_pay11 q k m) (k0_pay13 q k m) (k0_pay15 q k m) (k0_pay16 q k m) a = upA (score q k) v m a := rfl
theorem upA_1 (S : FVec F S1024x512 .f32) (v : Vec F S1x512x128 .bf16) (m a : Vec F S1x1024x128 .f32) :
    k0_pay30 S (k0_pay22 v) (k0_pay24 S m) (k0_pay25 S m) a = upA S v m a := rfl
theorem upA_3 (S : FVec F S1024x512 .f32) (v : Vec F S1x512x128 .bf16) (m a : Vec F S1x1024x128 .f32) :
    k0_pay159 (k0_pay47 S m) (k0_pay53 S v m) a = upA S v m a := rfl
theorem score_2 (q : FVec F S1024x256 .bf16) (k : Vec F S1x512x256 .bf16) : k0_pay21 q k = score q k := rfl

set_option maxHeartbeats 4000000 in
/-- One trip of the loop: every head's block of the three scratch arrays is updated by the trip's tile. -/
theorem trip_pieces (𝒱 : Variants) (c : Dev nD) (bd : Option 𝒱.V) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole) (arg2 : BitVec 32) (v1 v3 v5 v7 : FVec F S1024x256 .bf16) (v182 : FVec F S512x128 .bf16) (v186 : FVec F S1024x128 .f32) (v192 v197 : FVec F S1024x128 .bf16) (v201 : FVec F S1024x128 .f32) (v202 : FVec F S1024x128 .bf16) (v203 : FVec F S1024x128 .f32) (X4 : BufTy.Contents (Elt F) arg4.view.ty) (X5 : BufTy.Contents (Elt F) arg5.view.ty) (k : Fin (k0_t1_loop i).trips) (f7 : BufTy.Contents (Elt F) arg7.view.ty) (f8 : BufTy.Contents (Elt F) arg8.view.ty) (f9 : BufTy.Contents (Elt F) arg9.view.ty)
    (S₀ S₁ S₂ S₃ : FVec F S1024x512 .f32) (w₀ w₁ w₂ w₃ : Vec F S1x512x128 .bf16)
    (hS₀ : S₀ = score v1 (arg4.view.readAt (Elt F) (Rect.unit (s := S1x4096x1024) (k0_off9 i k) S1x512x256.size (k0_off9_inb i k)).toLoadRect X4))
    (hS₁ : S₁ = score v3 (arg4.view.readAt (Elt F) (Rect.unit (s := S1x4096x1024) (k0_off10 i k) S1x512x256.size (k0_off10_inb i k)).toLoadRect X4))
    (hS₂ : S₂ = score v5 (arg4.view.readAt (Elt F) (Rect.unit (s := S1x4096x1024) (k0_off12 i k) S1x512x256.size (k0_off12_inb i k)).toLoadRect X4))
    (hS₃ : S₃ = score v7 (arg4.view.readAt (Elt F) (Rect.unit (s := S1x4096x1024) (k0_off14 i k) S1x512x256.size (k0_off14_inb i k)).toLoadRect X4))
    (hw₀ : w₀ = arg5.view.readAt (Elt F) (Rect.unit (s := S1x4096x512) (k0_off11 i k) S1x512x128.size (k0_off11_inb i k)).toLoadRect X5)
    (hw₁ : w₁ = arg5.view.readAt (Elt F) (Rect.unit (s := S1x4096x512) (k0_off13 i k) S1x512x128.size (k0_off13_inb i k)).toLoadRect X5)
    (hw₂ : w₂ = arg5.view.readAt (Elt F) (Rect.unit (s := S1x4096x512) (k0_off15 i k) S1x512x128.size (k0_off15_inb i k)).toLoadRect X5)
    (hw₃ : w₃ = arg5.view.readAt (Elt F) (Rect.unit (s := S1x4096x512) (k0_off16 i k) S1x512x128.size (k0_off16_inb i k)).toLoadRect X5) :
    tripL_k0_t1 (F := F) 𝒱 c bd i arg3 harg3 arg4 harg4 arg5 harg5 arg6 harg6 arg7 harg7 arg8 harg8 arg9 harg9 arg2 v1 v3 v5 v7 v182 v186 v192 v197 v201 v202 v203 X4 X5 k f7 f8 f9
      = (four (upM S₀ (blk0 arg7.view f7)) (upM S₁ (blk1 arg7.view f7)) (upM S₂ (blk2 arg7.view f7)) (upM S₃ (blk3 arg7.view f7)),
         four (upL S₀ (blk0 arg7.view f7) (blk0 arg8.view f8)) (upL S₁ (blk1 arg7.view f7) (blk1 arg8.view f8))
           (upL S₂ (blk2 arg7.view f7) (blk2 arg8.view f8)) (upL S₃ (blk3 arg7.view f7) (blk3 arg8.view f8)),
         four (upA S₀ w₀ (blk0 arg7.view f7) (blk0 arg9.view f9)) (upA S₁ w₁ (blk1 arg7.view f7) (blk1 arg9.view f9))
           (upA S₂ w₂ (blk2 arg7.view f7) (blk2 arg9.view f9)) (upA S₃ w₃ (blk3 arg7.view f7) (blk3 arg9.view f9))) := by
  subst hS₀ hS₁ hS₂ hS₃ hw₀ hw₁ hw₂ hw₃
  unfold tripL_k0_t1 trip_k0_t1
  dsimp only [four]
  refine congrArg₂ Prod.mk rfl (congrArg₂ Prod.mk rfl ?_)
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  · exact upA_3 (score v7 _) _ (blk3 arg7.view f7) (blk3 arg9.view f9)
  · exact congrArg (fun S => k0_pay42 S _ (blk2 arg7.view f7) (blk2 arg9.view f9)) (score_2 v5 _)
  · exact upA_1 (score v3 _) _ (blk1 arg7.view f7) (blk1 arg9.view f9)
  · exact upA_0 v1 _ _ (blk0 arg7.view f7) (blk0 arg9.view f9)

end Cert.KernelIdeal.Value

end
-- ==== Proof.Body.lean ====
/- What the kernel's body leaves in its output block, as one expression: the first diagonal tile, the loop, the second
   diagonal tile and the quotients, in one form for the four heads. -/
module

public import proofs.«01_k».proof.Proof.Parts
public import Idealize.ShloMosaic.Lib.LoopRemainder

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] {σ : RefSig}

/-! ## The blocks the body loads -/

/-- Head 0's queries of the block. -/
def qB0 (arg3 : Memref sig .tc .vmem S1x1024x1024 .bf16) (X : BufTy.Contents (Elt F) arg3.view.ty) : Vec F S1x1024x256 .bf16 :=
  arg3.view.readAt (Elt F) (Rect.unit (s := S1x1024x1024) ![0, 0, 0] S1x1024x256.size inb_S1x1024x1024_S1x1024x256_0_0_0).toLoadRect X

/-- Head 1's queries of the block. -/
def qB1 (arg3 : Memref sig .tc .vmem S1x1024x1024 .bf16) (X : BufTy.Contents (Elt F) arg3.view.ty) : Vec F S1x1024x256 .bf16 :=
  arg3.view.readAt (Elt F) (Rect.unit (s := S1x1024x1024) ![0, 0, 256] S1x1024x256.size inb_S1x1024x1024_S1x1024x256_0_0_256).toLoadRect X

/-- Head 2's queries of the block. -/
def qB2 (arg3 : Memref sig .tc .vmem S1x1024x1024 .bf16) (X : BufTy.Contents (Elt F) arg3.view.ty) : Vec F S1x1024x256 .bf16 :=
  arg3.view.readAt (Elt F) (Rect.unit (s := S1x1024x1024) ![0, 0, 512] S1x1024x256.size inb_S1x1024x1024_S1x1024x256_0_0_512).toLoadRect X

/-- Head 3's queries of the block. -/
def qB3 (arg3 : Memref sig .tc .vmem S1x1024x1024 .bf16) (X : BufTy.Contents (Elt F) arg3.view.ty) : Vec F S1x1024x256 .bf16 :=
  arg3.view.readAt (Elt F) (Rect.unit (s := S1x1024x1024) ![0, 0, 768] S1x1024x256.size inb_S1x1024x1024_S1x1024x256_0_0_768).toLoadRect X

/-- A block of 512 keys of one head, from the corner `o`. -/
def kB (arg4 : Memref sig .tc .vmem S1x4096x1024 .bf16) (X : BufTy.Contents (Elt F) arg4.view.ty) (o : Fin 3 → ℕ)
    (h : ∀ a, o a + S1x512x256.size a ≤ S1x4096x1024.size a) : Vec F S1x512x256 .bf16 :=
  arg4.view.readAt (Elt F) (Rect.unit (s := S1x4096x1024) o S1x512x256.size h).toLoadRect X

/-- A block of 512 values of one head, from the corner `o`. -/
def vB (arg5 : Memref σ .tc .vmem S1x4096x512 .bf16) (X : BufTy.Contents (Elt F) arg5.view.ty) (o : Fin 3 → ℕ)
    (h : ∀ a, o a + S1x512x128.size a ≤ S1x4096x512.size a) : Vec F S1x512x128 .bf16 :=
  arg5.view.readAt (Elt F) (Rect.unit (s := S1x4096x512) o S1x512x128.size h).toLoadRect X

/-! ## The lower half of a head's block of a scratch array -/

/-- The lower 512 rows of head 0's block of a scratch array's contents. -/
def low0 (v : View σ .tc .vmem S4x1024x128 .f32) (f : v.ty.Contents (Elt F)) : Vec F S1x512x128 .f32 :=
  v.readAt (Elt F) (Rect.unit (s := S4x1024x128) ![0, 512, 0] S1x512x128.size inb_S4x1024x128_S1x512x128_0_512_0).toLoadRect f
/-- The piece that writes the lower 512 rows of head 0's block. -/
def pc0 (p : Vec F S1x512x128 .f32) : View.Piece (Elt F) S4x1024x128 .f32 :=
  ⟨Rect.unit ![0, 512, 0] S1x512x128.size inb_S4x1024x128_S1x512x128_0_512_0, p⟩

/-- The lower 512 rows of head 1's block of a scratch array's contents. -/
def low1 (v : View σ .tc .vmem S4x1024x128 .f32) (f : v.ty.Contents (Elt F)) : Vec F S1x512x128 .f32 :=
  v.readAt (Elt F) (Rect.unit (s := S4x1024x128) ![1, 512, 0] S1x512x128.size inb_S4x1024x128_S1x512x128_1_512_0).toLoadRect f
/-- The piece that writes the lower 512 rows of head 1's block. -/
def pc1 (p : Vec F S1x512x128 .f32) : View.Piece (Elt F) S4x1024x128 .f32 :=
  ⟨Rect.unit ![1, 512, 0] S1x512x128.size inb_S4x1024x128_S1x512x128_1_512_0, p⟩

/-- The lower 512 rows of head 2's block of a scratch array's contents. -/
def low2 (v : View σ .tc .vmem S4x1024x128 .f32) (f : v.ty.Contents (Elt F)) : Vec F S1x512x128 .f32 :=
  v.readAt (Elt F) (Rect.unit (s := S4x1024x128) ![2, 512, 0] S1x512x128.size inb_S4x1024x128_S1x512x128_2_512_0).toLoadRect f
/-- The piece that writes the lower 512 rows of head 2's block. -/
def pc2 (p : Vec F S1x512x128 .f32) : View.Piece (Elt F) S4x1024x128 .f32 :=
  ⟨Rect.unit ![2, 512, 0] S1x512x128.size inb_S4x1024x128_S1x512x128_2_512_0, p⟩

/-- The lower 512 rows of head 3's block of a scratch array's contents. -/
def low3 (v : View σ .tc .vmem S4x1024x128 .f32) (f : v.ty.Contents (Elt F)) : Vec F S1x512x128 .f32 :=
  v.readAt (Elt F) (Rect.unit (s := S4x1024x128) ![3, 512, 0] S1x512x128.size inb_S4x1024x128_S1x512x128_3_512_0).toLoadRect f
/-- The piece that writes the lower 512 rows of head 3's block. -/
def pc3 (p : Vec F S1x512x128 .f32) : View.Piece (Elt F) S4x1024x128 .f32 :=
  ⟨Rect.unit ![3, 512, 0] S1x512x128.size inb_S4x1024x128_S1x512x128_3_512_0, p⟩

/-- The four heads' blocks of the output, the last head's written last. -/
def outs (p₀ p₁ p₂ p₃ : Vec F S1x1024x128 .bf16) : List (View.Piece (Elt F) S1x1024x512 .bf16) :=
  [⟨Rect.unit ![0, 0, 384] S1x1024x128.size inb_S1x1024x512_S1x1024x128_0_0_384, p₃⟩,
   ⟨Rect.unit ![0, 0, 256] S1x1024x128.size inb_S1x1024x512_S1x1024x128_0_0_256, p₂⟩,
   ⟨Rect.unit ![0, 0, 128] S1x1024x128.size inb_S1x1024x512_S1x1024x128_0_0_128, p₁⟩,
   ⟨Rect.unit ![0, 0, 0] S1x1024x128.size inb_S1x1024x512_S1x1024x128_0_0_0, p₀⟩]

/-! ## The heads' printed forms are the same functions -/

section forms
variable (q : Vec F S1x1024x256 .bf16) (k : Vec F S1x512x256 .bf16) (v : Vec F S1x512x128 .bf16) (S : FVec F S1024x512 .f32)
  (E : FVec F S512x512 .f32) (m l a : Vec F S1x512x128 .f32) (M A : Vec F S1x1024x128 .f32)

theorem scoreD_1 : k0_pay111 (k0_pay109 q k) k0_pay110 (iota .tc S1024x512 32 [1] iota_S1024x512_d1_w32) 0#32 = scoreD q k := rfl
theorem scoreD_2 : k0_pay120 (k0_pay106 q) k = scoreD q k := rfl
theorem scoreD_3 : k0_pay131 (k0_pay107 q) k = scoreD q k := rfl
theorem fiM_1 : k0_pay130 (k0_pay121 S) = fiM S := rfl
theorem fiM_2 : k0_pay144 (k0_pay133 S) = fiM S := rfl
theorem fiM_3 : k0_pay158 (k0_pay146 S) = fiM S := rfl
theorem fiL_1 : k0_pay129 (k0_pay126 S) = fiL S := rfl
theorem fiL_2 : k0_pay143 S (k0_pay133 S) (k0_pay137 S) (k0_pay139 S) = fiL S := rfl
theorem fiL_3 : k0_pay157 (k0_pay146 S) (k0_pay152 S) (k0_pay154 S) = fiL S := rfl
theorem fiA_1 : k0_pay128 (k0_pay127 S v) = fiA S v := rfl
theorem fiA_2 : k0_pay142 S (k0_pay132 v) (k0_pay133 S) (k0_pay135 S) (k0_pay138 S) (k0_pay139 S) = fiA S v := rfl
theorem fiA_3 : k0_pay156 (k0_pay145 v) (k0_pay146 S) (k0_pay148 S) (k0_pay150 S) (k0_pay153 S) (k0_pay154 S) = fiA S v := rfl

theorem scoreE_0 : k0_pay167 (k0_pay165 (k0_pay104 q) k) k0_pay166 (iota .tc S512x512 32 [1] iota_S512x512_d1_w32) = scoreE (k0_pay104 q) k := rfl
theorem scoreE_2 : k0_pay185 (k0_pay106 q) k = scoreE (k0_pay106 q) k := rfl
theorem scoreE_3 : k0_pay201 (k0_pay107 q) k = scoreE (k0_pay107 q) k := rfl
theorem loM_0 (R : FVec F S512x512 .f32) (j : IVec S512x512 32) : k0_pay182 (k0_pay171 R k0_pay166 j m) = loM (k0_pay167 R k0_pay166 j) m := rfl
theorem loM_1 : k0_pay199 (k0_pay188 E m) = loM E m := rfl
theorem loM_2 : k0_pay217 (k0_pay204 E m) = loM E m := rfl
theorem loL_0 (R : FVec F S512x512 .f32) (j : IVec S512x512 32) : k0_pay181 (k0_pay167 R k0_pay166 j) (k0_pay171 R k0_pay166 j m) (k0_pay176 R k0_pay166 j m l)
    = loL (k0_pay167 R k0_pay166 j) m l := rfl
theorem loL_1 : k0_pay198 E (k0_pay188 E m) (k0_pay193 E m l) (k0_pay195 E m) = loL E m l := rfl
theorem loL_2 : k0_pay216 (k0_pay204 E m) (k0_pay211 E m l) (k0_pay213 E) = loL E m l := rfl
theorem loL_3 : k0_pay1 (k0_pay226 E m l) = loL E m l := rfl
theorem loA_0 (R : FVec F S512x512 .f32) (j : IVec S512x512 32) : k0_pay180 (k0_pay167 R k0_pay166 j) (k0_pay169 v) (k0_pay171 R k0_pay166 j m)
    (k0_pay172 R k0_pay166 j m) (k0_pay174 R k0_pay166 j m) (k0_pay177 R k0_pay166 j m) a = loA (k0_pay167 R k0_pay166 j) v m a := rfl
theorem loA_1 : k0_pay197 E (k0_pay186 v) (k0_pay188 E m) (k0_pay189 E m) (k0_pay191 E m) (k0_pay194 E m) (k0_pay195 E m) a = loA E v m a := rfl
theorem loA_2 : k0_pay215 (k0_pay202 v) (k0_pay204 E m) (k0_pay205 E m) (k0_pay207 E m) (k0_pay209 E m) (k0_pay212 E m) (k0_pay213 E) a = loA E v m a := rfl
theorem loA_3 : k0_pay227 E v m a = loA E v m a := rfl
theorem fin_0 : k0_pay184 (k0_pay183 M A) = fin M A := rfl
theorem fin_1 : k0_pay200 M A = fin M A := rfl
theorem fin_2 : k0_pay218 M A = fin M A := rfl

end forms

/-! ## What the body leaves -/

/-- The three scratch arrays after the first diagonal tile. -/
theorem first_m (c : Dev nD) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec F S1x1024x1024 .bf16) (x1 : Vec F S1x4096x1024 .bf16) (x2 : Vec F S1x4096x512 .bf16)
    (S0 S1 S2 S3 : FVec F S1024x512 .f32) (w0 w1 w2 w3 u0 u1 u2 u3 : Vec F S1x512x128 .bf16) (E0 E1 E2 E3 : FVec F S512x512 .f32)
    (hS0 : S0 = scoreD (qB0 arg3 (harg3.unread x0)) (kB arg4 (harg4.unread x1) (k0_off1 i 0#32) (k0_off1_inb i 0)))
    (hw0 : w0 = vB arg5 (harg5.unread x2) (k0_off3 i 0#32) (k0_off3_inb i 0))
    (hE0 : E0 = scoreE (k0_pay104 (qB0 arg3 (harg3.unread x0))) (kB arg4 (harg4.unread x1) (k0_off1 i 512#32) (k0_off1_inb i 1)))
    (hu0 : u0 = vB arg5 (harg5.unread x2) (k0_off3 i 512#32) (k0_off3_inb i 1))
    (hS1 : S1 = scoreD (qB1 arg3 (harg3.unread x0)) (kB arg4 (harg4.unread x1) (k0_off2 i 0#32) (k0_off2_inb i 0)))
    (hw1 : w1 = vB arg5 (harg5.unread x2) (k0_off5 i 0#32) (k0_off5_inb i 0))
    (hE1 : E1 = scoreE (k0_pay105 (qB1 arg3 (harg3.unread x0))) (kB arg4 (harg4.unread x1) (k0_off2 i 512#32) (k0_off2_inb i 1)))
    (hu1 : u1 = vB arg5 (harg5.unread x2) (k0_off5 i 512#32) (k0_off5_inb i 1))
    (hS2 : S2 = scoreD (qB2 arg3 (harg3.unread x0)) (kB arg4 (harg4.unread x1) (k0_off4 i 0#32) (k0_off4_inb i 0)))
    (hw2 : w2 = vB arg5 (harg5.unread x2) (k0_off7 i 0#32) (k0_off7_inb i 0))
    (hE2 : E2 = scoreE (k0_pay106 (qB2 arg3 (harg3.unread x0))) (kB arg4 (harg4.unread x1) (k0_off4 i 512#32) (k0_off4_inb i 1)))
    (hu2 : u2 = vB arg5 (harg5.unread x2) (k0_off7 i 512#32) (k0_off7_inb i 1))
    (hS3 : S3 = scoreD (qB3 arg3 (harg3.unread x0)) (kB arg4 (harg4.unread x1) (k0_off6 i 0#32) (k0_off6_inb i 0)))
    (hw3 : w3 = vB arg5 (harg5.unread x2) (k0_off8 i 0#32) (k0_off8_inb i 0))
    (hE3 : E3 = scoreE (k0_pay107 (qB3 arg3 (harg3.unread x0))) (kB arg4 (harg4.unread x1) (k0_off6 i 512#32) (k0_off6_inb i 1)))
    (hu3 : u3 = vB arg5 (harg5.unread x2) (k0_off8 i 512#32) (k0_off8_inb i 1))
 :
    kernelRun0_A.sl.HS0_4 c i arg3 harg3 arg4 harg4 x0 x1 = four (fiM S0) (fiM S1) (fiM S2) (fiM S3) := by
  subst hS0 hS1 hS2 hS3
  rfl

@[inherit_doc first_m]
theorem first_l (c : Dev nD) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec F S1x1024x1024 .bf16) (x1 : Vec F S1x4096x1024 .bf16) (x2 : Vec F S1x4096x512 .bf16)
    (S0 S1 S2 S3 : FVec F S1024x512 .f32) (w0 w1 w2 w3 u0 u1 u2 u3 : Vec F S1x512x128 .bf16) (E0 E1 E2 E3 : FVec F S512x512 .f32)
    (hS0 : S0 = scoreD (qB0 arg3 (harg3.unread x0)) (kB arg4 (harg4.unread x1) (k0_off1 i 0#32) (k0_off1_inb i 0)))
    (hw0 : w0 = vB arg5 (harg5.unread x2) (k0_off3 i 0#32) (k0_off3_inb i 0))
    (hE0 : E0 = scoreE (k0_pay104 (qB0 arg3 (harg3.unread x0))) (kB arg4 (harg4.unread x1) (k0_off1 i 512#32) (k0_off1_inb i 1)))
    (hu0 : u0 = vB arg5 (harg5.unread x2) (k0_off3 i 512#32) (k0_off3_inb i 1))
    (hS1 : S1 = scoreD (qB1 arg3 (harg3.unread x0)) (kB arg4 (harg4.unread x1) (k0_off2 i 0#32) (k0_off2_inb i 0)))
    (hw1 : w1 = vB arg5 (harg5.unread x2) (k0_off5 i 0#32) (k0_off5_inb i 0))
    (hE1 : E1 = scoreE (k0_pay105 (qB1 arg3 (harg3.unread x0))) (kB arg4 (harg4.unread x1) (k0_off2 i 512#32) (k0_off2_inb i 1)))
    (hu1 : u1 = vB arg5 (harg5.unread x2) (k0_off5 i 512#32) (k0_off5_inb i 1))
    (hS2 : S2 = scoreD (qB2 arg3 (harg3.unread x0)) (kB arg4 (harg4.unread x1) (k0_off4 i 0#32) (k0_off4_inb i 0)))
    (hw2 : w2 = vB arg5 (harg5.unread x2) (k0_off7 i 0#32) (k0_off7_inb i 0))
    (hE2 : E2 = scoreE (k0_pay106 (qB2 arg3 (harg3.unread x0))) (kB arg4 (harg4.unread x1) (k0_off4 i 512#32) (k0_off4_inb i 1)))
    (hu2 : u2 = vB arg5 (harg5.unread x2) (k0_off7 i 512#32) (k0_off7_inb i 1))
    (hS3 : S3 = scoreD (qB3 arg3 (harg3.unread x0)) (kB arg4 (harg4.unread x1) (k0_off6 i 0#32) (k0_off6_inb i 0)))
    (hw3 : w3 = vB arg5 (harg5.unread x2) (k0_off8 i 0#32) (k0_off8_inb i 0))
    (hE3 : E3 = scoreE (k0_pay107 (qB3 arg3 (harg3.unread x0))) (kB arg4 (harg4.unread x1) (k0_off6 i 512#32) (k0_off6_inb i 1)))
    (hu3 : u3 = vB arg5 (harg5.unread x2) (k0_off8 i 512#32) (k0_off8_inb i 1))
 :
    kernelRun0_A.sl.HS1_4 c i arg3 harg3 arg4 harg4 x0 x1 = four (fiL S0) (fiL S1) (fiL S2) (fiL S3) := by
  subst hS0 hS1 hS2 hS3
  rfl

@[inherit_doc first_m]
theorem first_a (c : Dev nD) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec F S1x1024x1024 .bf16) (x1 : Vec F S1x4096x1024 .bf16) (x2 : Vec F S1x4096x512 .bf16)
    (S0 S1 S2 S3 : FVec F S1024x512 .f32) (w0 w1 w2 w3 u0 u1 u2 u3 : Vec F S1x512x128 .bf16) (E0 E1 E2 E3 : FVec F S512x512 .f32)
    (hS0 : S0 = scoreD (qB0 arg3 (harg3.unread x0)) (kB arg4 (harg4.unread x1) (k0_off1 i 0#32) (k0_off1_inb i 0)))
    (hw0 : w0 = vB arg5 (harg5.unread x2) (k0_off3 i 0#32) (k0_off3_inb i 0))
    (hE0 : E0 = scoreE (k0_pay104 (qB0 arg3 (harg3.unread x0))) (kB arg4 (harg4.unread x1) (k0_off1 i 512#32) (k0_off1_inb i 1)))
    (hu0 : u0 = vB arg5 (harg5.unread x2) (k0_off3 i 512#32) (k0_off3_inb i 1))
    (hS1 : S1 = scoreD (qB1 arg3 (harg3.unread x0)) (kB arg4 (harg4.unread x1) (k0_off2 i 0#32) (k0_off2_inb i 0)))
    (hw1 : w1 = vB arg5 (harg5.unread x2) (k0_off5 i 0#32) (k0_off5_inb i 0))
    (hE1 : E1 = scoreE (k0_pay105 (qB1 arg3 (harg3.unread x0))) (kB arg4 (harg4.unread x1) (k0_off2 i 512#32) (k0_off2_inb i 1)))
    (hu1 : u1 = vB arg5 (harg5.unread x2) (k0_off5 i 512#32) (k0_off5_inb i 1))
    (hS2 : S2 = scoreD (qB2 arg3 (harg3.unread x0)) (kB arg4 (harg4.unread x1) (k0_off4 i 0#32) (k0_off4_inb i 0)))
    (hw2 : w2 = vB arg5 (harg5.unread x2) (k0_off7 i 0#32) (k0_off7_inb i 0))
    (hE2 : E2 = scoreE (k0_pay106 (qB2 arg3 (harg3.unread x0))) (kB arg4 (harg4.unread x1) (k0_off4 i 512#32) (k0_off4_inb i 1)))
    (hu2 : u2 = vB arg5 (harg5.unread x2) (k0_off7 i 512#32) (k0_off7_inb i 1))
    (hS3 : S3 = scoreD (qB3 arg3 (harg3.unread x0)) (kB arg4 (harg4.unread x1) (k0_off6 i 0#32) (k0_off6_inb i 0)))
    (hw3 : w3 = vB arg5 (harg5.unread x2) (k0_off8 i 0#32) (k0_off8_inb i 0))
    (hE3 : E3 = scoreE (k0_pay107 (qB3 arg3 (harg3.unread x0))) (kB arg4 (harg4.unread x1) (k0_off6 i 512#32) (k0_off6_inb i 1)))
    (hu3 : u3 = vB arg5 (harg5.unread x2) (k0_off8 i 512#32) (k0_off8_inb i 1))
 :
    kernelRun0_A.sl.HS2_4 c i arg3 harg3 arg4 harg4 arg5 harg5 x0 x1 x2 = four (fiA S0 w0) (fiA S1 w1) (fiA S2 w2) (fiA S3 w3) := by
  subst hS0 hS1 hS2 hS3 hw0 hw1 hw2 hw3
  rfl

/-- The output's pieces, from what the three scratch arrays hold before the second diagonal tile (as written pieces
`B7`, `B8`, `B9`): head after head, the tile updates the head's lower rows and the head's quotient is written. -/
def tailOut (v7 v8 v9 : View σ .tc .vmem S4x1024x128 .f32) (B7 B8 B9 : List (View.Piece (Elt F) S4x1024x128 .f32))
    (E0 E1 E2 E3 : FVec F S512x512 .f32) (u0 u1 u2 u3 : Vec F S1x512x128 .bf16) : List (View.Piece (Elt F) S1x1024x512 .bf16) :=
  let m0 := low0 v7 (v7.writes (Elt F) v7.junk B7)
  let L0 := pc0 (loL E0 m0 (low0 v8 (v8.writes (Elt F) v8.junk B8))) :: B8
  let A0 := pc0 (loA E0 u0 m0 (low0 v9 (v9.writes (Elt F) v9.junk B9))) :: B9
  let M0 := pc0 (loM E0 m0) :: B7
  let m1 := low1 v7 (v7.writes (Elt F) v7.junk M0)
  let L1 := pc1 (loL E1 m1 (low1 v8 (v8.writes (Elt F) v8.junk L0))) :: L0
  let A1 := pc1 (loA E1 u1 m1 (low1 v9 (v9.writes (Elt F) v9.junk A0))) :: A0
  let M1 := pc1 (loM E1 m1) :: M0
  let m2 := low2 v7 (v7.writes (Elt F) v7.junk M1)
  let L2 := pc2 (loL E2 m2 (low2 v8 (v8.writes (Elt F) v8.junk L1))) :: L1
  let A2 := pc2 (loA E2 u2 m2 (low2 v9 (v9.writes (Elt F) v9.junk A1))) :: A1
  let M2 := pc2 (loM E2 m2) :: M1
  let m3 := low3 v7 (v7.writes (Elt F) v7.junk M2)
  let L3 := pc3 (loL E3 m3 (low3 v8 (v8.writes (Elt F) v8.junk L2))) :: L2
  let A3 := pc3 (loA E3 u3 m3 (low3 v9 (v9.writes (Elt F) v9.junk A2))) :: A2
  outs (fin (blk0 v8 (v8.writes (Elt F) v8.junk L0)) (blk0 v9 (v9.writes (Elt F) v9.junk A0)))
    (fin (blk1 v8 (v8.writes (Elt F) v8.junk L1)) (blk1 v9 (v9.writes (Elt F) v9.junk A1)))
    (fin (blk2 v8 (v8.writes (Elt F) v8.junk L2)) (blk2 v9 (v9.writes (Elt F) v9.junk A2)))
    (fin (blk3 v8 (v8.writes (Elt F) v8.junk L3)) (blk3 v9 (v9.writes (Elt F) v9.junk A3)))

set_option maxHeartbeats 4000000 in
/-- The output's pieces: the second diagonal tile and the quotients, over what the loop leaves. -/
theorem body_tail (c : Dev nD) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec F S1x1024x1024 .bf16) (x1 : Vec F S1x4096x1024 .bf16) (x2 : Vec F S1x4096x512 .bf16)
    (S0 S1 S2 S3 : FVec F S1024x512 .f32) (w0 w1 w2 w3 u0 u1 u2 u3 : Vec F S1x512x128 .bf16) (E0 E1 E2 E3 : FVec F S512x512 .f32)
    (hS0 : S0 = scoreD (qB0 arg3 (harg3.unread x0)) (kB arg4 (harg4.unread x1) (k0_off1 i 0#32) (k0_off1_inb i 0)))
    (hw0 : w0 = vB arg5 (harg5.unread x2) (k0_off3 i 0#32) (k0_off3_inb i 0))
    (hE0 : E0 = scoreE (k0_pay104 (qB0 arg3 (harg3.unread x0))) (kB arg4 (harg4.unread x1) (k0_off1 i 512#32) (k0_off1_inb i 1)))
    (hu0 : u0 = vB arg5 (harg5.unread x2) (k0_off3 i 512#32) (k0_off3_inb i 1))
    (hS1 : S1 = scoreD (qB1 arg3 (harg3.unread x0)) (kB arg4 (harg4.unread x1) (k0_off2 i 0#32) (k0_off2_inb i 0)))
    (hw1 : w1 = vB arg5 (harg5.unread x2) (k0_off5 i 0#32) (k0_off5_inb i 0))
    (hE1 : E1 = scoreE (k0_pay105 (qB1 arg3 (harg3.unread x0))) (kB arg4 (harg4.unread x1) (k0_off2 i 512#32) (k0_off2_inb i 1)))
    (hu1 : u1 = vB arg5 (harg5.unread x2) (k0_off5 i 512#32) (k0_off5_inb i 1))
    (hS2 : S2 = scoreD (qB2 arg3 (harg3.unread x0)) (kB arg4 (harg4.unread x1) (k0_off4 i 0#32) (k0_off4_inb i 0)))
    (hw2 : w2 = vB arg5 (harg5.unread x2) (k0_off7 i 0#32) (k0_off7_inb i 0))
    (hE2 : E2 = scoreE (k0_pay106 (qB2 arg3 (harg3.unread x0))) (kB arg4 (harg4.unread x1) (k0_off4 i 512#32) (k0_off4_inb i 1)))
    (hu2 : u2 = vB arg5 (harg5.unread x2) (k0_off7 i 512#32) (k0_off7_inb i 1))
    (hS3 : S3 = scoreD (qB3 arg3 (harg3.unread x0)) (kB arg4 (harg4.unread x1) (k0_off6 i 0#32) (k0_off6_inb i 0)))
    (hw3 : w3 = vB arg5 (harg5.unread x2) (k0_off8 i 0#32) (k0_off8_inb i 0))
    (hE3 : E3 = scoreE (k0_pay107 (qB3 arg3 (harg3.unread x0))) (kB arg4 (harg4.unread x1) (k0_off6 i 512#32) (k0_off6_inb i 1)))
    (hu3 : u3 = vB arg5 (harg5.unread x2) (k0_off8 i 512#32) (k0_off8_inb i 1))
 :
    (kernelRun0_A (F := F) c i arg3 harg3 arg4 harg4 arg5 harg5 arg6 harg6 arg7 harg7 arg8 harg8 arg9 harg9 x0 x1 x2).1
      = tailOut arg7.view arg8.view arg9.view ((kernelRun0_A.sl.HS0_1 c i arg3 harg3 arg4 harg4 arg5 harg5 arg6 harg6 arg7 harg7 arg8 harg8 arg9 harg9 x0 x1 x2).tail)
          ((kernelRun0_A.sl.HS1_1 c i arg3 harg3 arg4 harg4 arg5 harg5 arg6 harg6 arg7 harg7 arg8 harg8 arg9 harg9 x0 x1 x2).tail)
          ((kernelRun0_A.sl.HS2_1 c i arg3 harg3 arg4 harg4 arg5 harg5 arg6 harg6 arg7 harg7 arg8 harg8 arg9 harg9 x0 x1 x2).tail) E0 E1 E2 E3 u0 u1 u2 u3 := by
  subst hE0 hE1 hE2 hE3 hu0 hu1 hu2 hu3
  rfl

/-- The remainder loop makes no trip. -/
theorem trips2 (i : grid0.Coords) : Scf.trips (k0_t2_loop i).lb (k0_t2_loop i).ub (k0_t2_loop i).st = 0 :=
  Scf.rem_trips _ _

set_option maxHeartbeats 4000000 in
/-- What the three scratch arrays hold before the second diagonal tile: the first diagonal tile's pieces under the loop's. -/
theorem body_base (c : Dev nD) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec F S1x1024x1024 .bf16) (x1 : Vec F S1x4096x1024 .bf16) (x2 : Vec F S1x4096x512 .bf16) :
    ∃ (v182 : FVec F S512x128 .bf16) (v186 : FVec F S1024x128 .f32) (v192 v197 : FVec F S1024x128 .bf16) (v201 : FVec F S1024x128 .f32) (v202 : FVec F S1024x128 .bf16) (v203 : FVec F S1024x128 .f32),
      let pb := pb_k0_t1 (F := F) Variants.none c none i arg3 harg3 arg4 harg4 arg5 harg5 arg6 harg6 arg7 harg7 arg8 harg8 arg9 harg9 (BitVec.ofNat 32 ↑(i 2))
        (k0_pay104 (qB0 arg3 (harg3.unread x0))) (k0_pay105 (qB1 arg3 (harg3.unread x0))) (k0_pay106 (qB2 arg3 (harg3.unread x0))) (k0_pay107 (qB3 arg3 (harg3.unread x0)))
        v182 v186 v192 v197 v201 v202 v203 (harg4.unread x1) (harg5.unread x2)
        (arg7.view.writes (Elt F) arg7.view.junk (kernelRun0_A.sl.HS0_4 c i arg3 harg3 arg4 harg4 x0 x1))
        (arg8.view.writes (Elt F) arg8.view.junk (kernelRun0_A.sl.HS1_4 c i arg3 harg3 arg4 harg4 x0 x1))
        (arg9.view.writes (Elt F) arg9.view.junk (kernelRun0_A.sl.HS2_4 c i arg3 harg3 arg4 harg4 arg5 harg5 x0 x1 x2))
        (k0_t1_loop i).trips
      (kernelRun0_A.sl.HS0_1 c i arg3 harg3 arg4 harg4 arg5 harg5 arg6 harg6 arg7 harg7 arg8 harg8 arg9 harg9 x0 x1 x2).tail = pb.1 ++ kernelRun0_A.sl.HS0_4 c i arg3 harg3 arg4 harg4 x0 x1
      ∧ (kernelRun0_A.sl.HS1_1 c i arg3 harg3 arg4 harg4 arg5 harg5 arg6 harg6 arg7 harg7 arg8 harg8 arg9 harg9 x0 x1 x2).tail = pb.2.1 ++ kernelRun0_A.sl.HS1_4 c i arg3 harg3 arg4 harg4 x0 x1
      ∧ (kernelRun0_A.sl.HS2_1 c i arg3 harg3 arg4 harg4 arg5 harg5 arg6 harg6 arg7 harg7 arg8 harg8 arg9 harg9 x0 x1 x2).tail = pb.2.2 ++ kernelRun0_A.sl.HS2_4 c i arg3 harg3 arg4 harg4 arg5 harg5 x0 x1 x2 := by
  refine ⟨kernelRun0_A.sl.r_19 c i arg5 harg5 x2, kernelRun0_A.sl.r_20 c i arg3 harg3 arg4 harg4 x0 x1, kernelRun0_A.sl.r_21 c i arg3 harg3 arg4 harg4 x0 x1, kernelRun0_A.sl.r_22 c i arg3 harg3 arg4 harg4 x0 x1, kernelRun0_A.sl.r_23 c i arg3 harg3 arg4 harg4 x0 x1, kernelRun0_A.sl.r_24 c i arg3 harg3 arg4 harg4 x0 x1, kernelRun0_A.sl.r_25 c i arg3 harg3 arg4 harg4 x0 x1, ?_, ?_, ?_⟩
  · unfold kernelRun0_A.sl.HS0_1
    dsimp only [List.tail]
    rw [trips2]
    rfl
  · unfold kernelRun0_A.sl.HS1_1
    dsimp only [List.tail]
    rw [trips2]
    rfl
  · unfold kernelRun0_A.sl.HS2_1
    dsimp only [List.tail]
    rw [trips2]
    rfl

end Cert.KernelIdeal.Value

end
-- ==== Proof.Reads.lean ====
/- The body's vector expressions over the extended reals, read entry by entry. -/
module

public import proofs.«01_k».proof.Proof.Body
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- The word the reductions start from is the bottom element. -/
theorem neg_inf : Ideal.ofBits .f32 4286578688#32 = ⊥ := by simp [Ideal.ofBits, Ideal.ieee]

variable (S : FVec Ideal S1024x512 .f32) (E : FVec Ideal S512x512 .f32) (w : Vec Ideal S1x512x128 .bf16)
  (m l a : Vec Ideal S1x1024x128 .f32) (m' l' a' : Vec Ideal S1x512x128 .f32)

theorem upM_at (r : Fin 1024) (e : Fin 128) : upM S m (ix3 0 r e)
    = max (m (ix3 0 r e)) (Finset.univ.fold max ⊥ fun k : Fin 512 => S (ix2 r k)) := by
  pointwise [upM, k0_pay44, k0_pay35, k0_pay34]
  rw [neg_inf]

theorem upL_at (r : Fin 1024) (e : Fin 128) : upL S m l (ix3 0 r e)
    = Ideal.exp2 (m (ix3 0 r e) - upM S m (ix3 0 r e)) * l (ix3 0 r e)
      + Ideal.exp2 (S (ix2 r ⟨e.val, by omega⟩) - upM S m (ix3 0 r e))
      + Ideal.exp2 (S (ix2 r ⟨128 + e.val, by omega⟩) - upM S m (ix3 0 r e))
      + Ideal.exp2 (S (ix2 r ⟨256 + e.val, by omega⟩) - upM S m (ix3 0 r e))
      + Ideal.exp2 (S (ix2 r ⟨384 + e.val, by omega⟩) - upM S m (ix3 0 r e)) := by
  rw [upM_at]
  pointwise [upL, k0_pay43, k0_pay41, k0_pay40, k0_pay39, k0_pay38, k0_pay37, k0_pay36, k0_pay35, k0_pay34]
  simp only [neg_inf]
  rfl

theorem upA_at (r : Fin 1024) (e : Fin 128) : upA S w m a (ix3 0 r e)
    = Ideal.exp2 (m (ix3 0 r e) - upM S m (ix3 0 r e)) * a (ix3 0 r e)
      + ∑ j : Fin 512, Ideal.exp2 (S (ix2 r j) - upM S m (ix3 0 r ⟨j.val % 128, Nat.mod_lt _ (by decide)⟩)) * w (ix3 0 j e) := by
  simp only [upM_at]
  pointwise [upA, k0_pay42, k0_pay40, k0_pay39, k0_pay38, k0_pay37, k0_pay36, k0_pay35, k0_pay34]
  simp only [neg_inf]
  rfl

theorem fiM_at (r : Fin 1024) (e : Fin 128) : fiM S (ix3 0 r e) = Finset.univ.fold max ⊥ fun k : Fin 512 => S (ix2 r k) := by
  pointwise [fiM, k0_pay119, k0_pay112]
  simp only [neg_inf]

theorem fiL_at (r : Fin 1024) (e : Fin 128) : fiL S (ix3 0 r e)
    = Ideal.exp2 (S (ix2 r ⟨e.val, by omega⟩) - fiM S (ix3 0 r e))
      + Ideal.exp2 (S (ix2 r ⟨128 + e.val, by omega⟩) - fiM S (ix3 0 r e))
      + Ideal.exp2 (S (ix2 r ⟨256 + e.val, by omega⟩) - fiM S (ix3 0 r e))
      + Ideal.exp2 (S (ix2 r ⟨384 + e.val, by omega⟩) - fiM S (ix3 0 r e)) := by
  rw [fiM_at]
  pointwise [fiL, k0_pay118, k0_pay116, k0_pay115, k0_pay114, k0_pay113, k0_pay112]
  simp only [neg_inf]
  rfl

theorem fin_at (r : Fin 1024) (e : Fin 128) : fin l a (ix3 0 r e) = Ideal.div (a (ix3 0 r e)) (∑ x : Fin 128, l (ix3 0 r x)) := by
  pointwise [fin, k0_pay3]

theorem loM_at (r : Fin 512) (e : Fin 128) : loM E m' (ix3 0 r e)
    = max (m' (ix3 0 r e)) (Finset.univ.fold max ⊥ fun k : Fin 512 => E (ix2 r k)) := by
  pointwise [loM, loM']
  simp only [neg_inf]

theorem loL_at (r : Fin 512) (e : Fin 128) : loL E m' l' (ix3 0 r e)
    = Ideal.exp2 (m' (ix3 0 r e) - loM E m' (ix3 0 r e)) * l' (ix3 0 r e)
      + Ideal.exp2 (E (ix2 r ⟨e.val, by omega⟩) - loM E m' (ix3 0 r e))
      + Ideal.exp2 (E (ix2 r ⟨128 + e.val, by omega⟩) - loM E m' (ix3 0 r e))
      + Ideal.exp2 (E (ix2 r ⟨256 + e.val, by omega⟩) - loM E m' (ix3 0 r e))
      + Ideal.exp2 (E (ix2 r ⟨384 + e.val, by omega⟩) - loM E m' (ix3 0 r e)) := by
  rw [loM_at]
  pointwise [loL, loF, loP0, loP1, loP2, loP3, loM']
  simp only [neg_inf]
  rfl

theorem fiA_at (r : Fin 1024) (e : Fin 128) : fiA S w (ix3 0 r e)
    = ∑ j : Fin 512, Ideal.exp2 (S (ix2 r j) - fiM S (ix3 0 r ⟨j.val % 128, Nat.mod_lt _ (by decide)⟩)) * w (ix3 0 j e) := by
  simp only [fiM_at]
  pointwise [fiA, k0_pay117, k0_pay116, k0_pay115, k0_pay114, k0_pay113, k0_pay112]
  simp only [neg_inf]
  rfl

theorem loA_at (r : Fin 512) (e : Fin 128) : loA E w m' a' (ix3 0 r e)
    = Ideal.exp2 (m' (ix3 0 r e) - loM E m' (ix3 0 r e)) * a' (ix3 0 r e)
      + ∑ j : Fin 512, Ideal.exp2 (E (ix2 r j) - loM E m' (ix3 0 r ⟨j.val % 128, Nat.mod_lt _ (by decide)⟩)) * w (ix3 0 j e) := by
  simp only [loM_at]
  pointwise [loA, loF, loP0, loP1, loP2, loP3, loM']
  simp only [neg_inf]
  rfl

/-! ## Scores -/

variable (q : Vec Ideal S1x1024x256 .bf16) (k : Vec Ideal S1x512x256 .bf16)

theorem score_at (r : Fin 1024) (j : Fin 512) : score (k0_pay104 q) k (ix2 r j) = ∑ x : Fin 256, q (ix3 0 r x) * k (ix3 0 j x) := by
  pointwise [score, k0_pay4, k0_pay104]

/-- Signed comparison of two small words. -/
theorem sle_word {a b : ℕ} (ha : a < 4096) (hb : b < 4096) :
    IntOp.cmpi .sle (BitVec.ofNat 32 a) (BitVec.ofNat 32 b) = if a ≤ b then 1#1 else 0#1 := by
  have h1 : (BitVec.ofNat 32 a).toInt = a := by
    have h : (BitVec.ofNat 32 a).toNat = a := by rw [BitVec.toNat_ofNat]; omega
    rw [BitVec.toInt_eq_toNat_of_lt (by omega), h]
  have h2 : (BitVec.ofNat 32 b).toInt = b := by
    have h : (BitVec.ofNat 32 b).toNat = b := by rw [BitVec.toNat_ofNat]; omega
    rw [BitVec.toInt_eq_toNat_of_lt (by omega), h]
  have : (BitVec.ofNat 32 a).sle (BitVec.ofNat 32 b) = decide (a ≤ b) := by
    rw [BitVec.sle, h1, h2]; simp
  by_cases h : a ≤ b <;> simp [IntOp.cmpi, this, h]

theorem scoreD_at (r : Fin 1024) (j : Fin 512) : scoreD q k (ix2 r j)
    = if j.val ≤ r.val then ∑ x : Fin 256, q (ix3 0 r x) * k (ix3 0 j x) else ⊥ := by
  have h0 : ∀ w : BitVec 32, IntOp.addi 0#32 w = w := fun w => by simp [IntOp.addi]
  pointwise [scoreD, k0_pay108, k0_pay104]
  rw [h0, h0, sle_word (by omega) (by omega), neg_inf]
  split <;> simp [Scalar.select]

theorem scoreE_at (r : Fin 512) (j : Fin 512) : scoreE (k0_pay104 q) k (ix2 r j)
    = if j.val ≤ r.val then ∑ x : Fin 256, q (ix3 0 ⟨512 + r.val, by omega⟩ x) * k (ix3 0 j x) else ⊥ := by
  have h0 : ∀ a b : ℕ, IntOp.addi (BitVec.ofNat 32 a) (BitVec.ofNat 32 b) = BitVec.ofNat 32 (a + b) := fun a b => by
    simp [IntOp.addi, BitVec.ofNat_add]
  pointwise [scoreE, k0_pay168, k0_pay104]
  rw [h0 512, h0 512, sle_word (by omega) (by omega), neg_inf]
  by_cases h : j.val ≤ r.val
  · rw [if_pos h, if_pos (by omega)]; simp [Scalar.select]
  · rw [if_neg h, if_neg (by omega)]; simp [Scalar.select]

end Cert.KernelIdeal.Value

end
-- ==== Proof.Scratch.lean ====
/- What the scratch arrays and the output block read after the body's stores, and the blocks the body loads, entry by
   entry. -/
module

public import proofs.«01_k».proof.Proof.Reads
public import Idealize.ShloMosaic.Lib.WholeRead

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] {σ : RefSig}

section reads
variable (v : View σ .tc .vmem S4x1024x128 .f32) (f : v.ty.Contents (Elt F))

/-! ## Blocks of a scratch array -/

theorem blk0_at (r : Fin 1024) (e : Fin 128) : blk0 v f (ix3 0 r e) = v.read (Elt F) f (ix3 0 r e) := by
  unfold blk0
  rw [View.readAt_apply]
  exact congrArg _ (by pointwise)

theorem low0_at (r : Fin 512) (e : Fin 128) : low0 v f (ix3 0 r e) = v.read (Elt F) f (ix3 0 ⟨512 + r.val, by omega⟩ e) := by
  unfold low0
  rw [View.readAt_apply]
  exact congrArg _ (by pointwise)

theorem blk1_at (r : Fin 1024) (e : Fin 128) : blk1 v f (ix3 0 r e) = v.read (Elt F) f (ix3 1 r e) := by
  unfold blk1
  rw [View.readAt_apply]
  exact congrArg _ (by pointwise)

theorem low1_at (r : Fin 512) (e : Fin 128) : low1 v f (ix3 0 r e) = v.read (Elt F) f (ix3 1 ⟨512 + r.val, by omega⟩ e) := by
  unfold low1
  rw [View.readAt_apply]
  exact congrArg _ (by pointwise)

theorem blk2_at (r : Fin 1024) (e : Fin 128) : blk2 v f (ix3 0 r e) = v.read (Elt F) f (ix3 2 r e) := by
  unfold blk2
  rw [View.readAt_apply]
  exact congrArg _ (by pointwise)

theorem low2_at (r : Fin 512) (e : Fin 128) : low2 v f (ix3 0 r e) = v.read (Elt F) f (ix3 2 ⟨512 + r.val, by omega⟩ e) := by
  unfold low2
  rw [View.readAt_apply]
  exact congrArg _ (by pointwise)

theorem blk3_at (r : Fin 1024) (e : Fin 128) : blk3 v f (ix3 0 r e) = v.read (Elt F) f (ix3 3 r e) := by
  unfold blk3
  rw [View.readAt_apply]
  exact congrArg _ (by pointwise)

theorem low3_at (r : Fin 512) (e : Fin 128) : low3 v f (ix3 0 r e) = v.read (Elt F) f (ix3 3 ⟨512 + r.val, by omega⟩ e) := by
  unfold low3
  rw [View.readAt_apply]
  exact congrArg _ (by pointwise)

/-! ## After the four heads' stores -/

variable (p₀ p₁ p₂ p₃ : Vec F S1x1024x128 .f32)

theorem four0_at (r : Fin 1024) (e : Fin 128) :
    v.read (Elt F) (v.writes (Elt F) f (four p₀ p₁ p₂ p₃)) (ix3 0 r e) = p₀ (ix3 0 r e) := by
  unfold four
  rw [View.read_writes_cons_unit_of_not_mem v f _ _ _ _ rfl 0 (.inl (show 0 < 3 by decide))]
  rw [View.read_writes_cons_unit_of_not_mem v f _ _ _ _ rfl 0 (.inl (show 0 < 2 by decide))]
  rw [View.read_writes_cons_unit_of_not_mem v f _ _ _ _ rfl 0 (.inl (show 0 < 1 by decide))]
  exact View.read_writes_cons_unit_of_mem v f _ _ _ _ (ix3 0 r e) rfl (by rw [Fin.forall_fin_succ, Fin.forall_fin_succ, Fin.forall_fin_succ]; simp)

theorem four1_at (r : Fin 1024) (e : Fin 128) :
    v.read (Elt F) (v.writes (Elt F) f (four p₀ p₁ p₂ p₃)) (ix3 1 r e) = p₁ (ix3 0 r e) := by
  unfold four
  rw [View.read_writes_cons_unit_of_not_mem v f _ _ _ _ rfl 0 (.inl (show 1 < 3 by decide))]
  rw [View.read_writes_cons_unit_of_not_mem v f _ _ _ _ rfl 0 (.inl (show 1 < 2 by decide))]
  exact View.read_writes_cons_unit_of_mem v f _ _ _ _ (ix3 0 r e) rfl (by rw [Fin.forall_fin_succ, Fin.forall_fin_succ, Fin.forall_fin_succ]; simp)

theorem four2_at (r : Fin 1024) (e : Fin 128) :
    v.read (Elt F) (v.writes (Elt F) f (four p₀ p₁ p₂ p₃)) (ix3 2 r e) = p₂ (ix3 0 r e) := by
  unfold four
  rw [View.read_writes_cons_unit_of_not_mem v f _ _ _ _ rfl 0 (.inl (show 2 < 3 by decide))]
  exact View.read_writes_cons_unit_of_mem v f _ _ _ _ (ix3 0 r e) rfl (by rw [Fin.forall_fin_succ, Fin.forall_fin_succ, Fin.forall_fin_succ]; simp)

theorem four3_at (r : Fin 1024) (e : Fin 128) :
    v.read (Elt F) (v.writes (Elt F) f (four p₀ p₁ p₂ p₃)) (ix3 3 r e) = p₃ (ix3 0 r e) := by
  unfold four
  exact View.read_writes_cons_unit_of_mem v f _ _ _ _ (ix3 0 r e) rfl (by rw [Fin.forall_fin_succ, Fin.forall_fin_succ, Fin.forall_fin_succ]; simp)

/-! ## After the lower rows' store of one head -/

variable (p : Vec F S1x512x128 .f32) (L : List (View.Piece (Elt F) S4x1024x128 .f32))

theorem pc0_hit (r : Fin 512) (e : Fin 128) :
    v.read (Elt F) (v.writes (Elt F) f (pc0 p :: L)) (ix3 0 ⟨512 + r.val, by omega⟩ e) = p (ix3 0 r e) :=
  View.read_writes_cons_unit_of_mem v f _ _ _ _ (ix3 0 r e) rfl (by rw [Fin.forall_fin_succ, Fin.forall_fin_succ, Fin.forall_fin_succ]; simp)

theorem pc0_up (g : Fin 4) (r : Fin 1024) (hr : r.val < 512) (e : Fin 128) :
    v.read (Elt F) (v.writes (Elt F) f (pc0 p :: L)) (ix3 g r e) = v.read (Elt F) (v.writes (Elt F) f L) (ix3 g r e) :=
  View.read_writes_cons_unit_of_not_mem v f _ _ _ _ rfl 1 (.inl hr)

theorem pc0_miss (g : Fin 4) (hg : 0 < g.val) (r : Fin 1024) (e : Fin 128) :
    v.read (Elt F) (v.writes (Elt F) f (pc0 p :: L)) (ix3 g r e) = v.read (Elt F) (v.writes (Elt F) f L) (ix3 g r e) :=
  View.read_writes_cons_unit_of_not_mem v f _ _ _ _ rfl 0 (.inr hg)

theorem pc1_hit (r : Fin 512) (e : Fin 128) :
    v.read (Elt F) (v.writes (Elt F) f (pc1 p :: L)) (ix3 1 ⟨512 + r.val, by omega⟩ e) = p (ix3 0 r e) :=
  View.read_writes_cons_unit_of_mem v f _ _ _ _ (ix3 0 r e) rfl (by rw [Fin.forall_fin_succ, Fin.forall_fin_succ, Fin.forall_fin_succ]; simp)

theorem pc1_up (g : Fin 4) (r : Fin 1024) (hr : r.val < 512) (e : Fin 128) :
    v.read (Elt F) (v.writes (Elt F) f (pc1 p :: L)) (ix3 g r e) = v.read (Elt F) (v.writes (Elt F) f L) (ix3 g r e) :=
  View.read_writes_cons_unit_of_not_mem v f _ _ _ _ rfl 1 (.inl hr)

theorem pc1_miss (g : Fin 4) (hg : 1 < g.val) (r : Fin 1024) (e : Fin 128) :
    v.read (Elt F) (v.writes (Elt F) f (pc1 p :: L)) (ix3 g r e) = v.read (Elt F) (v.writes (Elt F) f L) (ix3 g r e) :=
  View.read_writes_cons_unit_of_not_mem v f _ _ _ _ rfl 0 (.inr hg)

theorem pc2_hit (r : Fin 512) (e : Fin 128) :
    v.read (Elt F) (v.writes (Elt F) f (pc2 p :: L)) (ix3 2 ⟨512 + r.val, by omega⟩ e) = p (ix3 0 r e) :=
  View.read_writes_cons_unit_of_mem v f _ _ _ _ (ix3 0 r e) rfl (by rw [Fin.forall_fin_succ, Fin.forall_fin_succ, Fin.forall_fin_succ]; simp)

theorem pc2_up (g : Fin 4) (r : Fin 1024) (hr : r.val < 512) (e : Fin 128) :
    v.read (Elt F) (v.writes (Elt F) f (pc2 p :: L)) (ix3 g r e) = v.read (Elt F) (v.writes (Elt F) f L) (ix3 g r e) :=
  View.read_writes_cons_unit_of_not_mem v f _ _ _ _ rfl 1 (.inl hr)

theorem pc2_miss (g : Fin 4) (hg : 2 < g.val) (r : Fin 1024) (e : Fin 128) :
    v.read (Elt F) (v.writes (Elt F) f (pc2 p :: L)) (ix3 g r e) = v.read (Elt F) (v.writes (Elt F) f L) (ix3 g r e) :=
  View.read_writes_cons_unit_of_not_mem v f _ _ _ _ rfl 0 (.inr hg)

theorem pc3_hit (r : Fin 512) (e : Fin 128) :
    v.read (Elt F) (v.writes (Elt F) f (pc3 p :: L)) (ix3 3 ⟨512 + r.val, by omega⟩ e) = p (ix3 0 r e) :=
  View.read_writes_cons_unit_of_mem v f _ _ _ _ (ix3 0 r e) rfl (by rw [Fin.forall_fin_succ, Fin.forall_fin_succ, Fin.forall_fin_succ]; simp)

theorem pc3_up (g : Fin 4) (r : Fin 1024) (hr : r.val < 512) (e : Fin 128) :
    v.read (Elt F) (v.writes (Elt F) f (pc3 p :: L)) (ix3 g r e) = v.read (Elt F) (v.writes (Elt F) f L) (ix3 g r e) :=
  View.read_writes_cons_unit_of_not_mem v f _ _ _ _ rfl 1 (.inl hr)

theorem pc3_miss (g : Fin 4) (hg : 3 < g.val) (r : Fin 1024) (e : Fin 128) :
    v.read (Elt F) (v.writes (Elt F) f (pc3 p :: L)) (ix3 g r e) = v.read (Elt F) (v.writes (Elt F) f L) (ix3 g r e) :=
  View.read_writes_cons_unit_of_not_mem v f _ _ _ _ rfl 0 (.inr hg)

end reads

/-! ## After the four heads' output stores -/

variable (v : View σ .tc .vmem S1x1024x512 .bf16) (f : v.ty.Contents (Elt F)) (p₀ p₁ p₂ p₃ : Vec F S1x1024x128 .bf16)

theorem outs0_at (r : Fin 1024) (e : Fin 128) :
    v.read (Elt F) (v.writes (Elt F) f (outs p₀ p₁ p₂ p₃)) (ix3 0 r ⟨0 + e.val, by omega⟩) = p₀ (ix3 0 r e) := by
  unfold outs
  rw [View.read_writes_cons_unit_of_not_mem v f _ _ _ _ rfl 2 (.inl (show 0 + e.val < 384 by omega))]
  rw [View.read_writes_cons_unit_of_not_mem v f _ _ _ _ rfl 2 (.inl (show 0 + e.val < 256 by omega))]
  rw [View.read_writes_cons_unit_of_not_mem v f _ _ _ _ rfl 2 (.inl (show 0 + e.val < 128 by omega))]
  exact View.read_writes_cons_unit_of_mem v f _ _ _ _ (ix3 0 r e) rfl (by rw [Fin.forall_fin_succ, Fin.forall_fin_succ, Fin.forall_fin_succ]; simp)

theorem outs1_at (r : Fin 1024) (e : Fin 128) :
    v.read (Elt F) (v.writes (Elt F) f (outs p₀ p₁ p₂ p₃)) (ix3 0 r ⟨128 + e.val, by omega⟩) = p₁ (ix3 0 r e) := by
  unfold outs
  rw [View.read_writes_cons_unit_of_not_mem v f _ _ _ _ rfl 2 (.inl (show 128 + e.val < 384 by omega))]
  rw [View.read_writes_cons_unit_of_not_mem v f _ _ _ _ rfl 2 (.inl (show 128 + e.val < 256 by omega))]
  exact View.read_writes_cons_unit_of_mem v f _ _ _ _ (ix3 0 r e) rfl (by rw [Fin.forall_fin_succ, Fin.forall_fin_succ, Fin.forall_fin_succ]; simp)

theorem outs2_at (r : Fin 1024) (e : Fin 128) :
    v.read (Elt F) (v.writes (Elt F) f (outs p₀ p₁ p₂ p₃)) (ix3 0 r ⟨256 + e.val, by omega⟩) = p₂ (ix3 0 r e) := by
  unfold outs
  rw [View.read_writes_cons_unit_of_not_mem v f _ _ _ _ rfl 2 (.inl (show 256 + e.val < 384 by omega))]
  exact View.read_writes_cons_unit_of_mem v f _ _ _ _ (ix3 0 r e) rfl (by rw [Fin.forall_fin_succ, Fin.forall_fin_succ, Fin.forall_fin_succ]; simp)

theorem outs3_at (r : Fin 1024) (e : Fin 128) :
    v.read (Elt F) (v.writes (Elt F) f (outs p₀ p₁ p₂ p₃)) (ix3 0 r ⟨384 + e.val, by omega⟩) = p₃ (ix3 0 r e) := by
  unfold outs
  exact View.read_writes_cons_unit_of_mem v f _ _ _ _ (ix3 0 r e) rfl (by rw [Fin.forall_fin_succ, Fin.forall_fin_succ, Fin.forall_fin_succ]; simp)

/-! ## The loaded blocks -/

theorem qB0_at (arg3 : Memref sig .tc .vmem S1x1024x1024 .bf16) (h : arg3.IsWhole) (x : Vec F S1x1024x1024 .bf16) (r : Fin 1024) (c : Fin 256) :
    qB0 arg3 (h.unread x) (ix3 0 r c) = x (ix3 0 r ⟨0 + c.val, by omega⟩) := by
  unfold qB0
  rw [h.readAt_unread]
  exact congrArg _ (by pointwise)

theorem qB1_at (arg3 : Memref sig .tc .vmem S1x1024x1024 .bf16) (h : arg3.IsWhole) (x : Vec F S1x1024x1024 .bf16) (r : Fin 1024) (c : Fin 256) :
    qB1 arg3 (h.unread x) (ix3 0 r c) = x (ix3 0 r ⟨256 + c.val, by omega⟩) := by
  unfold qB1
  rw [h.readAt_unread]
  exact congrArg _ (by pointwise)

theorem qB2_at (arg3 : Memref sig .tc .vmem S1x1024x1024 .bf16) (h : arg3.IsWhole) (x : Vec F S1x1024x1024 .bf16) (r : Fin 1024) (c : Fin 256) :
    qB2 arg3 (h.unread x) (ix3 0 r c) = x (ix3 0 r ⟨512 + c.val, by omega⟩) := by
  unfold qB2
  rw [h.readAt_unread]
  exact congrArg _ (by pointwise)

theorem qB3_at (arg3 : Memref sig .tc .vmem S1x1024x1024 .bf16) (h : arg3.IsWhole) (x : Vec F S1x1024x1024 .bf16) (r : Fin 1024) (c : Fin 256) :
    qB3 arg3 (h.unread x) (ix3 0 r c) = x (ix3 0 r ⟨768 + c.val, by omega⟩) := by
  unfold qB3
  rw [h.readAt_unread]
  exact congrArg _ (by pointwise)

theorem kB_at (arg4 : Memref sig .tc .vmem S1x4096x1024 .bf16) (hw : arg4.IsWhole) (x : Vec F S1x4096x1024 .bf16) (o : Fin 3 → ℕ) (h)
    (n c₀ : ℕ) (ho : o = ![0, n, c₀]) (hn : n + 512 ≤ 4096) (hc : c₀ + 256 ≤ 1024) (j : Fin 512) (c : Fin 256) :
    kB arg4 (hw.unread x) o h (ix3 0 j c) = x (ix3 0 ⟨n + j.val, by omega⟩ ⟨c₀ + c.val, by omega⟩) := by
  subst ho
  unfold kB
  rw [hw.readAt_unread]
  exact congrArg _ (by pointwise)

theorem vB_at (arg5 : Memref σ .tc .vmem S1x4096x512 .bf16) (hw : arg5.IsWhole) (x : Vec F S1x4096x512 .bf16) (o : Fin 3 → ℕ) (h)
    (n c₀ : ℕ) (ho : o = ![0, n, c₀]) (hn : n + 512 ≤ 4096) (hc : c₀ + 128 ≤ 512) (j : Fin 512) (c : Fin 128) :
    vB arg5 (hw.unread x) o h (ix3 0 j c) = x (ix3 0 ⟨n + j.val, by omega⟩ ⟨c₀ + c.val, by omega⟩) := by
  subst ho
  unfold vB
  rw [hw.readAt_unread]
  exact congrArg _ (by pointwise)

/-! ## Where the blocks lie, and how many trips the loop makes -/

theorem off1_eq (i : grid0.Coords) (d : Fin 2) : k0_off1 i (BitVec.ofNat 32 (512 * d.val)) = ![0, 1024 * (i 2).val + 512 * d.val, 0] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off1
  exact congrArg (fun x => ![0, x, 0]) (h (i 2) d)

theorem off2_eq (i : grid0.Coords) (d : Fin 2) : k0_off2 i (BitVec.ofNat 32 (512 * d.val)) = ![0, 1024 * (i 2).val + 512 * d.val, 256] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off2
  exact congrArg (fun x => ![0, x, 256]) (h (i 2) d)

theorem off3_eq (i : grid0.Coords) (d : Fin 2) : k0_off3 i (BitVec.ofNat 32 (512 * d.val)) = ![0, 1024 * (i 2).val + 512 * d.val, 0] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off3
  exact congrArg (fun x => ![0, x, 0]) (h (i 2) d)

theorem off4_eq (i : grid0.Coords) (d : Fin 2) : k0_off4 i (BitVec.ofNat 32 (512 * d.val)) = ![0, 1024 * (i 2).val + 512 * d.val, 512] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off4
  exact congrArg (fun x => ![0, x, 512]) (h (i 2) d)

theorem off5_eq (i : grid0.Coords) (d : Fin 2) : k0_off5 i (BitVec.ofNat 32 (512 * d.val)) = ![0, 1024 * (i 2).val + 512 * d.val, 128] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off5
  exact congrArg (fun x => ![0, x, 128]) (h (i 2) d)

theorem off6_eq (i : grid0.Coords) (d : Fin 2) : k0_off6 i (BitVec.ofNat 32 (512 * d.val)) = ![0, 1024 * (i 2).val + 512 * d.val, 768] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off6
  exact congrArg (fun x => ![0, x, 768]) (h (i 2) d)

theorem off7_eq (i : grid0.Coords) (d : Fin 2) : k0_off7 i (BitVec.ofNat 32 (512 * d.val)) = ![0, 1024 * (i 2).val + 512 * d.val, 256] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off7
  exact congrArg (fun x => ![0, x, 256]) (h (i 2) d)

theorem off8_eq (i : grid0.Coords) (d : Fin 2) : k0_off8 i (BitVec.ofNat 32 (512 * d.val)) = ![0, 1024 * (i 2).val + 512 * d.val, 384] := by
  have h : ∀ (n : Fin 4) (d : Fin 2), (Scalar.indexCast (Scalar.addi (Scalar.muli (BitVec.ofNat 32 n.val) 1024#32) (BitVec.ofNat 32 (512 * d.val)))).toNat
    = 1024 * n.val + 512 * d.val := by decide +kernel
  unfold k0_off8
  exact congrArg (fun x => ![0, x, 384]) (h (i 2) d)

theorem trips1 (i : grid0.Coords) : (k0_t1_loop i).trips = 2 * (i 2).val := by
  have h : ∀ n : Fin 4, Scf.trips (0#32) (Scalar.addi (0#32) (Scalar.muli (Scalar.divsi (Scalar.subi (Scalar.muli (BitVec.ofNat 32 n.val) 2#32) 0#32) 1#32) 1#32)) 1#32
    = 2 * n.val := by decide +kernel
  exact h (i 2)

theorem trips1_lt (i : grid0.Coords) (k : Fin (k0_t1_loop i).trips) : k.val < 2 * (i 2).val := by
  exact lt_of_lt_of_eq k.isLt (trips1 i)

theorem off9_eq (i : grid0.Coords) (k : Fin (k0_t1_loop i).trips) : k0_off9 i k = ![0, 512 * k.val, 0] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off9
  exact congrArg (fun x => ![0, x, 0]) (h ⟨k.val, hk⟩)

theorem off10_eq (i : grid0.Coords) (k : Fin (k0_t1_loop i).trips) : k0_off10 i k = ![0, 512 * k.val, 256] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off10
  exact congrArg (fun x => ![0, x, 256]) (h ⟨k.val, hk⟩)

theorem off11_eq (i : grid0.Coords) (k : Fin (k0_t1_loop i).trips) : k0_off11 i k = ![0, 512 * k.val, 0] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off11
  exact congrArg (fun x => ![0, x, 0]) (h ⟨k.val, hk⟩)

theorem off12_eq (i : grid0.Coords) (k : Fin (k0_t1_loop i).trips) : k0_off12 i k = ![0, 512 * k.val, 512] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off12
  exact congrArg (fun x => ![0, x, 512]) (h ⟨k.val, hk⟩)

theorem off13_eq (i : grid0.Coords) (k : Fin (k0_t1_loop i).trips) : k0_off13 i k = ![0, 512 * k.val, 128] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off13
  exact congrArg (fun x => ![0, x, 128]) (h ⟨k.val, hk⟩)

theorem off14_eq (i : grid0.Coords) (k : Fin (k0_t1_loop i).trips) : k0_off14 i k = ![0, 512 * k.val, 768] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off14
  exact congrArg (fun x => ![0, x, 768]) (h ⟨k.val, hk⟩)

theorem off15_eq (i : grid0.Coords) (k : Fin (k0_t1_loop i).trips) : k0_off15 i k = ![0, 512 * k.val, 256] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off15
  exact congrArg (fun x => ![0, x, 256]) (h ⟨k.val, hk⟩)

theorem off16_eq (i : grid0.Coords) (k : Fin (k0_t1_loop i).trips) : k0_off16 i k = ![0, 512 * k.val, 384] := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  unfold k0_off16
  exact congrArg (fun x => ![0, x, 384]) (h ⟨k.val, hk⟩)

end Cert.KernelIdeal.Value

end
-- ==== Proof.Softmax.lean ====
/- The mathematics of one row of a softmax that is computed tile by tile: scores in base 2, a running maximum, a
   running sum kept in 128 lanes and a running weighted sum of values, against the softmax taken at once.
   Everything is over the extended reals: a score is a real or `⊥` (a masked key), a value is anything. -/
module

public import Idealize.ShloMosaic.PureOps.Ideal
public import Idealize.ShloMosaic.Lib.Pointwise

@[expose] public section

noncomputable section

namespace FlashRow

open Idealize.ShloMosaic
open scoped BigOperators

/-! ## Powers of two and exponentials of shifted scores -/

/-- The power of two of a difference of reals is a positive real. -/
theorem exp2_sub_real (x y : ℝ) : ∃ p : ℝ, 0 < p ∧ Ideal.exp2 ((x : EReal) - y) = p :=
  ⟨Real.rpow 2 (x - y), Real.rpow_pos_of_pos (by norm_num) _, by rw [← EReal.coe_sub, Ideal.exp2_coe]⟩

/-- A score that is not `⊤`, shifted by a real, has a nonnegative real power of two, positive when the score is real. -/
theorem exp2_score {x : EReal} (hx : x ≠ ⊤) (μ : ℝ) :
    ∃ p : ℝ, 0 ≤ p ∧ (x ≠ ⊥ → 0 < p) ∧ Ideal.exp2 (x - μ) = p := by
  induction x with
  | bot => exact ⟨0, le_rfl, fun h => absurd rfl h, by rw [EReal.bot_sub, Ideal.exp2_bot]; rfl⟩
  | top => exact absurd rfl hx
  | coe x =>
    obtain ⟨p, hp, e⟩ := exp2_sub_real x μ
    exact ⟨p, hp.le, fun _ => hp, e⟩

/-- Changing the shift multiplies the power of two by the power of the difference of the shifts. -/
theorem exp2_shift {x : EReal} (hx : x ≠ ⊤) (μ μ' : ℝ) :
    Ideal.exp2 ((μ : EReal) - μ') * Ideal.exp2 (x - μ) = Ideal.exp2 (x - μ') := by
  induction x with
  | bot => rw [EReal.bot_sub, EReal.bot_sub, Ideal.exp2_bot, mul_zero]
  | top => exact absurd rfl hx
  | coe x =>
    rw [← EReal.coe_sub, ← EReal.coe_sub, ← EReal.coe_sub, Ideal.exp2_coe, Ideal.exp2_coe, Ideal.exp2_coe, ← EReal.coe_mul]
    congr 1
    show (2 : ℝ) ^ (μ - μ') * (2 : ℝ) ^ (x - μ) = (2 : ℝ) ^ (x - μ')
    rw [← Real.rpow_add (by norm_num)]
    congr 1; ring

/-- The exponential of a score turned to base e, shifted by any real, is the power of two of the score shifted by `μ`, times one
    positive real that does not depend on the score. -/
theorem exp_score (c m μ : ℝ) : ∃ C : ℝ, 0 < C ∧ ∀ x : EReal, x ≠ ⊤ →
    Ideal.exp (x * (Real.log 2 : ℝ) + c - m) = Ideal.exp2 (x - μ) * C := by
  refine ⟨Real.exp (μ * Real.log 2 + c - m), Real.exp_pos _, fun x hx => ?_⟩
  induction x with
  | bot =>
    rw [EReal.bot_mul_coe_of_pos (Real.log_pos (by norm_num)), EReal.bot_add, EReal.bot_sub, EReal.bot_sub, Ideal.exp_bot,
      Ideal.exp2_bot, zero_mul]
  | top => exact absurd rfl hx
  | coe x =>
    rw [← EReal.coe_mul, ← EReal.coe_add, ← EReal.coe_sub, ← EReal.coe_sub, Ideal.exp_coe, Ideal.exp2_coe, ← EReal.coe_mul]
    congr 1
    show Real.exp _ = (2 : ℝ) ^ (x - μ) * _
    rw [Real.rpow_def_of_pos (by norm_num), ← Real.exp_add]
    congr 1; ring

/-! ## Sums over the extended reals -/

/-- A nonnegative real factor goes into a finite sum. -/
theorem coe_mul_sum {ι : Type} (T : Finset ι) (f : ι → EReal) {p : ℝ} (hp : 0 ≤ p) :
    (p : EReal) * ∑ t ∈ T, f t = ∑ t ∈ T, (p : EReal) * f t := by
  classical
  induction T using Finset.induction_on with
  | empty => simp
  | insert a T ha ih =>
    rw [Finset.sum_insert ha, Finset.sum_insert ha,
      EReal.left_distrib_of_nonneg_of_ne_top (EReal.coe_nonneg.2 hp) (EReal.coe_ne_top p), ih]

/-- A finite sum of nonnegative reals, one of them positive, is a positive real. -/
theorem sum_pos_real {ι : Type} (T : Finset ι) (f : ι → EReal) (w : ι → ℝ) (hf : ∀ t ∈ T, f t = w t) (hw : ∀ t ∈ T, 0 ≤ w t)
    (t₀ : ι) (h₀ : t₀ ∈ T) (hp : 0 < w t₀) : ∃ Z : ℝ, 0 < Z ∧ ∑ t ∈ T, f t = Z := by
  classical
  refine ⟨∑ t ∈ T, w t, Finset.sum_pos' hw ⟨t₀, h₀, hp⟩, ?_⟩
  rw [Finset.sum_congr rfl hf]
  clear hf hw h₀
  induction T using Finset.induction_on with
  | empty => simp
  | insert a T ha ih => rw [Finset.sum_insert ha, Finset.sum_insert ha, ih, EReal.coe_add]

/-- The largest of finitely many scores, none of them `⊤`, is not `⊤`. -/
theorem fold_max_ne_top {n : ℕ} (f : Fin n → EReal) (hf : ∀ k, f k ≠ ⊤) : Finset.univ.fold max (⊥ : EReal) f ≠ ⊤ :=
  ((Finset.fold_max_lt ⊤).2 ⟨bot_lt_top, fun k _ => lt_top_iff_ne_top.2 (hf k)⟩).ne

/-- The largest of finitely many scores, one of them not `⊥`, is not `⊥`. -/
theorem fold_max_ne_bot {n : ℕ} (f : Fin n → EReal) (k : Fin n) (hk : f k ≠ ⊥) : Finset.univ.fold max (⊥ : EReal) f ≠ ⊥ :=
  ((bot_lt_iff_ne_bot.2 hk).trans_le ((Finset.le_fold_max _).2 (Or.inr ⟨k, Finset.mem_univ k, le_rfl⟩))).ne'

/-- An extended real that is neither `⊤` nor `⊥` is a real. -/
theorem real_of_ne {x : EReal} (h₁ : x ≠ ⊤) (h₂ : x ≠ ⊥) : ∃ r : ℝ, x = r :=
  ⟨x.toReal, (EReal.coe_toReal h₁ h₂).symm⟩

/-! ## The state of a row -/

/-- The state of one row after the key tiles `T` (512 keys each): the maximum's slots all hold one real `μ`; slot `e` of the sum
    holds the shifted powers of two of the keys whose number is `e` mod 128; slot `e` of the accumulator holds the sum of the
    values of column `e` weighted by those powers. -/
def RowState (s : ℕ → EReal) (v : ℕ → Fin 128 → EReal) (T : Finset ℕ) (M L A : Fin 128 → EReal) : Prop :=
  ∃ μ : ℝ, (∀ e, M e = μ)
    ∧ (∀ e, L e = ∑ t ∈ T, ∑ c : Fin 4, Ideal.exp2 (s (512 * t + (c.val * 128 + e.val)) - μ))
    ∧ ∀ e, A e = ∑ t ∈ T, ∑ j : Fin 512, Ideal.exp2 (s (512 * t + j.val) - μ) * v (512 * t + j.val) e

variable {s : ℕ → EReal} {v : ℕ → Fin 128 → EReal} {T : Finset ℕ} {M L A M' L' A' : Fin 128 → EReal}

/-- The first tile, which writes the row's state from nothing, leaves the state of that tile alone. -/
theorem RowState.first {t : ℕ} (hs : ∀ k, s k ≠ ⊤) (j₀ : Fin 512) (h₀ : s (512 * t + j₀.val) ≠ ⊥)
    (hM : ∀ e, M e = Finset.univ.fold max (⊥ : EReal) fun k : Fin 512 => s (512 * t + k.val))
    (hL : ∀ e : Fin 128, L e = Ideal.exp2 (s (512 * t + e.val) - M e) + Ideal.exp2 (s (512 * t + (128 + e.val)) - M e)
      + Ideal.exp2 (s (512 * t + (256 + e.val)) - M e) + Ideal.exp2 (s (512 * t + (384 + e.val)) - M e))
    (hA : ∀ e, A e = ∑ j : Fin 512, Ideal.exp2 (s (512 * t + j.val) - M ⟨j.val % 128, Nat.mod_lt _ (by norm_num)⟩)
      * v (512 * t + j.val) e) :
    RowState s v {t} M L A := by
  obtain ⟨μ, hμ⟩ := real_of_ne (fold_max_ne_top _ fun k : Fin 512 => hs (512 * t + k.val)) (fold_max_ne_bot _ j₀ h₀)
  have hM' : ∀ e, M e = μ := fun e => (hM e).trans hμ
  refine ⟨μ, hM', fun e => ?_, fun e => ?_⟩
  · rw [hL, Finset.sum_singleton, Fin.sum_univ_four, hM']; simp
  · rw [hA, Finset.sum_singleton]; simp only [hM']

/-- A further tile: the new maximum, the rescaled sum plus the tile's powers of two, the rescaled accumulator plus the tile's
    weighted values are the state after one tile more. -/
theorem RowState.step (h : RowState s v T M L A) {t : ℕ} (ht : t ∉ T) (hs : ∀ k, s k ≠ ⊤)
    (hM : ∀ e, M' e = max (M e) (Finset.univ.fold max (⊥ : EReal) fun k : Fin 512 => s (512 * t + k.val)))
    (hL : ∀ e : Fin 128, L' e = Ideal.exp2 (M e - M' e) * L e
      + Ideal.exp2 (s (512 * t + e.val) - M' e) + Ideal.exp2 (s (512 * t + (128 + e.val)) - M' e)
      + Ideal.exp2 (s (512 * t + (256 + e.val)) - M' e) + Ideal.exp2 (s (512 * t + (384 + e.val)) - M' e))
    (hA : ∀ e, A' e = Ideal.exp2 (M e - M' e) * A e
      + ∑ j : Fin 512, Ideal.exp2 (s (512 * t + j.val) - M' ⟨j.val % 128, Nat.mod_lt _ (by norm_num)⟩) * v (512 * t + j.val) e) :
    RowState s v (insert t T) M' L' A' := by
  obtain ⟨μ, hμ, hl, ha⟩ := h
  have hF := fold_max_ne_top _ fun k : Fin 512 => hs (512 * t + k.val)
  generalize Finset.univ.fold max (⊥ : EReal) (fun k : Fin 512 => s (512 * t + k.val)) = F at hM hF
  obtain ⟨μ', hμ'⟩ := real_of_ne (x := max (μ : EReal) F) (by simp [hF]) (by simp)
  have hM' : ∀ e, M' e = μ' := fun e => by rw [hM, hμ, hμ']
  obtain ⟨p, hp, hpe⟩ := exp2_sub_real μ μ'
  refine ⟨μ', hM', fun e => ?_, fun e => ?_⟩
  · rw [hL, Finset.sum_insert ht, Fin.sum_univ_four, hM', hμ, hl, hpe, coe_mul_sum _ _ hp.le]
    have : ∀ x ∈ T, (p : EReal) * ∑ c : Fin 4, Ideal.exp2 (s (512 * x + (c.val * 128 + e.val)) - μ)
        = ∑ c : Fin 4, Ideal.exp2 (s (512 * x + (c.val * 128 + e.val)) - μ') := fun x _ => by
      rw [coe_mul_sum _ _ hp.le]
      exact Finset.sum_congr rfl fun c _ => by rw [← hpe, exp2_shift (hs _)]
    rw [Finset.sum_congr rfl this]
    simp only [Fin.val_zero, Fin.val_one, Fin.val_two, zero_mul, zero_add, one_mul]
    rw [show ((3 : Fin 4) : ℕ) * 128 = 384 from rfl, show 2 * 128 = 256 from rfl]
    ac_rfl
  · rw [hA, Finset.sum_insert ht, hM', hμ, ha, hpe, coe_mul_sum _ _ hp.le, add_comm]
    refine congrArg₂ (· + ·) (by simp only [hM']) (Finset.sum_congr rfl fun x _ => ?_)
    rw [coe_mul_sum _ _ hp.le]
    exact Finset.sum_congr rfl fun c _ => by rw [← mul_assoc, ← hpe, exp2_shift (hs _)]

/-- Tiles whose keys are all masked change nothing. -/
theorem RowState.extend (h : RowState s v T M L A) {T' : Finset ℕ} (hT : T ⊆ T')
    (hz : ∀ t ∈ T', t ∉ T → ∀ j < 512, s (512 * t + j) = ⊥) : RowState s v T' M L A := by
  obtain ⟨μ, hμ, hl, ha⟩ := h
  refine ⟨μ, hμ, fun e => (hl e).trans ?_, fun e => (ha e).trans ?_⟩
  · refine Finset.sum_subset hT fun t h₁ h₂ => Finset.sum_eq_zero fun c _ => ?_
    rw [hz t h₁ h₂ _ (by omega), EReal.bot_sub, Ideal.exp2_bot]
  · refine Finset.sum_subset hT fun t h₁ h₂ => Finset.sum_eq_zero fun c _ => ?_
    rw [hz t h₁ h₂ _ c.isLt, EReal.bot_sub, Ideal.exp2_bot, zero_mul]

/-- A sum over eight tiles of 512 keys is the sum over 4096 keys. -/
theorem sum_tiles (f : ℕ → EReal) : ∑ t ∈ Finset.range 8, ∑ j : Fin 512, f (512 * t + j.val) = ∑ k : Fin 4096, f k.val := by
  rw [Finset.sum_range, Fin.sum_univ_tiles 8 512 rfl (fun k : Fin 4096 => f k.val)]
  exact Finset.sum_congr rfl fun t _ => Finset.sum_congr rfl fun j _ => by rw [mul_comm]

/-- A sum over four groups of 128 lanes is the sum over the 512 keys of the tile. -/
theorem sum_lanes (f : ℕ → EReal) : ∑ e : Fin 128, ∑ c : Fin 4, f (c.val * 128 + e.val) = ∑ j : Fin 512, f j.val := by
  rw [Finset.sum_comm, Fin.sum_univ_tiles 4 128 rfl (fun k : Fin 512 => f k.val)]

/-- The accumulator over the lane-summed denominator is the softmax, taken at once and with any real shift, applied to the
    values: the scores `s` in base 2 against the scores `s · ln 2 + c` in base e. -/
theorem RowState.finish (h : RowState s v T M L A) (hT : T ⊆ Finset.range 8) (hs : ∀ k, s k ≠ ⊤)
    (hz : ∀ t < 8, t ∉ T → ∀ j < 512, s (512 * t + j) = ⊥) (k₀ : Fin 4096) (h₀ : s k₀.val ≠ ⊥)
    (sr : Fin 4096 → EReal) (c m : ℝ) (hsr : ∀ k, sr k = s k.val * (Real.log 2 : ℝ) + c) (e : Fin 128) :
    Ideal.div (A e) (∑ i : Fin 128, L i)
      = ∑ k : Fin 4096, Ideal.div (Ideal.exp (sr k - m)) (∑ k' : Fin 4096, Ideal.exp (sr k' - m)) * v k.val e := by
  obtain ⟨μ, -, hl, ha⟩ := h.extend hT fun t h₁ h₂ => hz t (Finset.mem_range.1 h₁) h₂
  have hZ : ∑ i : Fin 128, L i = ∑ k : Fin 4096, Ideal.exp2 (s k.val - μ) := by
    rw [Finset.sum_congr rfl fun i _ => hl i, Finset.sum_comm, ← sum_tiles fun k => Ideal.exp2 (s k - μ)]
    exact Finset.sum_congr rfl fun t _ => sum_lanes fun j => Ideal.exp2 (s (512 * t + j) - μ)
  have hA : A e = ∑ k : Fin 4096, Ideal.exp2 (s k.val - μ) * v k.val e :=
    (ha e).trans (sum_tiles fun k => Ideal.exp2 (s k - μ) * v k e)
  choose w hw₀ hwp hw using fun k : Fin 4096 => exp2_score (hs k.val) μ
  obtain ⟨Z, hZp, hZe⟩ := sum_pos_real Finset.univ (fun k : Fin 4096 => Ideal.exp2 (s k.val - μ)) w (fun k _ => hw k)
    (fun k _ => hw₀ k) k₀ (Finset.mem_univ _) (hwp k₀ h₀)
  obtain ⟨C, hC, hexp⟩ := exp_score c m μ
  have hE : ∀ k : Fin 4096, Ideal.exp (sr k - m) = Ideal.exp2 (s k.val - μ) * C := fun k => by rw [hsr, hexp _ (hs _)]
  have hD : ∑ k' : Fin 4096, Ideal.exp (sr k' - m) = ((C * Z : ℝ) : EReal) := by
    rw [EReal.coe_mul, ← hZe, coe_mul_sum _ _ hC.le]
    exact Finset.sum_congr rfl fun k _ => by rw [hE, mul_comm]
  rw [hZ, hZe, hA, hD, Ideal.div_coe hZp.ne', mul_comm, coe_mul_sum _ _ (by positivity)]
  refine Finset.sum_congr rfl fun k _ => ?_
  rw [Ideal.div_coe (mul_pos hC hZp).ne', hE, hw, ← mul_assoc, ← EReal.coe_mul, ← EReal.coe_mul, ← EReal.coe_mul]
  congr 2
  field_simp

end FlashRow

end
-- ==== Proof.Rows.lean ====
/- The row states the scratch arrays hold: after the first diagonal tile, after every trip of the loop, and after the
   second diagonal tile; and the quotients the output block reads. -/
module

public import proofs.«01_k».proof.Proof.Scratch
public import proofs.«01_k».proof.Proof.Softmax

@[expose] public section

set_option maxRecDepth 16384

noncomputable section

namespace Cert.KernelIdeal.Value

open Cert.KernelIdeal Cert.KernelIdeal.Gen Idealize.ShloMosaic Idealize.ShloMosaic.TcCoe Idealize.SL.Sem FlashRow

/-! ## One row -/

variable {σ : RefSig}

section row
variable {s : ℕ → EReal} {v : ℕ → Fin 128 → EReal} {T : Finset ℕ} {t : ℕ} (hs : ∀ k, s k ≠ ⊤)
include hs

/-- The first tile leaves the state of that tile in the row. -/
theorem first_row (S : FVec Ideal S1024x512 .f32) (w : Vec Ideal S1x512x128 .bf16) (r : Fin 1024)
    (hS : ∀ j : Fin 512, S (ix2 r j) = s (512 * t + j.val)) (hw : ∀ (j : Fin 512) e, w (ix3 0 j e) = v (512 * t + j.val) e)
    (h₀ : s (512 * t) ≠ ⊥) :
    RowState s v {t} (fun e => fiM S (ix3 0 r e)) (fun e => fiL S (ix3 0 r e)) (fun e => fiA S w (ix3 0 r e)) := by
  refine RowState.first hs ⟨0, by decide⟩ h₀ (fun e => ?_) (fun e => ?_) (fun e => ?_)
  · rw [fiM_at]; simp only [hS]
  · rw [fiL_at]; simp only [hS]
  · rw [fiA_at]; simp only [hS, hw]

/-- A further tile of 1024 rows. -/
theorem step_row (S : FVec Ideal S1024x512 .f32) (w : Vec Ideal S1x512x128 .bf16) (m l a : Vec Ideal S1x1024x128 .f32) (r : Fin 1024)
    (h : RowState s v T (fun e => m (ix3 0 r e)) (fun e => l (ix3 0 r e)) (fun e => a (ix3 0 r e))) (ht : t ∉ T)
    (hS : ∀ j : Fin 512, S (ix2 r j) = s (512 * t + j.val)) (hw : ∀ (j : Fin 512) e, w (ix3 0 j e) = v (512 * t + j.val) e) :
    RowState s v (insert t T) (fun e => upM S m (ix3 0 r e)) (fun e => upL S m l (ix3 0 r e)) (fun e => upA S w m a (ix3 0 r e)) := by
  refine h.step ht hs (fun e => ?_) (fun e => ?_) (fun e => ?_)
  · rw [upM_at]; simp only [hS]
  · rw [upL_at]; simp only [hS]
  · rw [upA_at]; simp only [hS, hw]

/-- A further tile of 512 rows. -/
theorem low_row (E : FVec Ideal S512x512 .f32) (w : Vec Ideal S1x512x128 .bf16) (m l a : Vec Ideal S1x512x128 .f32) (r : Fin 512)
    (h : RowState s v T (fun e => m (ix3 0 r e)) (fun e => l (ix3 0 r e)) (fun e => a (ix3 0 r e))) (ht : t ∉ T)
    (hS : ∀ j : Fin 512, E (ix2 r j) = s (512 * t + j.val)) (hw : ∀ (j : Fin 512) e, w (ix3 0 j e) = v (512 * t + j.val) e) :
    RowState s v (insert t T) (fun e => loM E m (ix3 0 r e)) (fun e => loL E m l (ix3 0 r e)) (fun e => loA E w m a (ix3 0 r e)) := by
  refine h.step ht hs (fun e => ?_) (fun e => ?_) (fun e => ?_)
  · rw [loM_at]; simp only [hS]
  · rw [loL_at]; simp only [hS]
  · rw [loA_at]; simp only [hS, hw]

end row

/-- A row that is not among the upper 512 is one of the lower 512. -/
theorem lower_row (r : Fin 1024) (hr : ¬ r.val < 512) : ∃ (r' : Fin 512) (h : 512 + r'.val < 1024), r = ⟨512 + r'.val, h⟩ :=
  ⟨⟨r.val - 512, by omega⟩, by simp; omega, Fin.ext (by simp; omega)⟩

/-! ## All heads and rows -/

section block
variable {s : Fin 4 → Fin 1024 → ℕ → EReal} {v : Fin 4 → ℕ → Fin 128 → EReal} {T : Finset ℕ} {t : ℕ}
  {v7 v8 v9 : View σ .tc .vmem S4x1024x128 .f32}

/-- The three scratch arrays hold every row's state over the tiles `T`. -/
def Held (s : Fin 4 → Fin 1024 → ℕ → EReal) (v : Fin 4 → ℕ → Fin 128 → EReal) (T : Finset ℕ)
    (v7 v8 v9 : View σ .tc .vmem S4x1024x128 .f32)
    (f7 : v7.ty.Contents (Elt Ideal)) (f8 : v8.ty.Contents (Elt Ideal)) (f9 : v9.ty.Contents (Elt Ideal)) : Prop :=
  ∀ (g : Fin 4) (r : Fin 1024), RowState (s g r) (v g) T (fun e => v7.read (Elt Ideal) f7 (ix3 g r e))
    (fun e => v8.read (Elt Ideal) f8 (ix3 g r e)) (fun e => v9.read (Elt Ideal) f9 (ix3 g r e))

variable (hs : ∀ g r k, s g r k ≠ ⊤)
  (S0 S1 S2 S3 : FVec Ideal S1024x512 .f32) (E0 E1 E2 E3 : FVec Ideal S512x512 .f32) (w0 w1 w2 w3 : Vec Ideal S1x512x128 .bf16)
include hs

/-- The first diagonal tile's stores leave every row's state over that tile. -/
theorem held_first (f7 : v7.ty.Contents (Elt Ideal)) (f8 : v8.ty.Contents (Elt Ideal)) (f9 : v9.ty.Contents (Elt Ideal))
    (hS0 : ∀ (r : Fin 1024) (j : Fin 512), S0 (ix2 r j) = s 0 r (512 * t + j.val))
    (hS1 : ∀ (r : Fin 1024) (j : Fin 512), S1 (ix2 r j) = s 1 r (512 * t + j.val))
    (hS2 : ∀ (r : Fin 1024) (j : Fin 512), S2 (ix2 r j) = s 2 r (512 * t + j.val))
    (hS3 : ∀ (r : Fin 1024) (j : Fin 512), S3 (ix2 r j) = s 3 r (512 * t + j.val))
    (hw0 : ∀ (j : Fin 512) e, w0 (ix3 0 j e) = v 0 (512 * t + j.val) e)
    (hw1 : ∀ (j : Fin 512) e, w1 (ix3 0 j e) = v 1 (512 * t + j.val) e)
    (hw2 : ∀ (j : Fin 512) e, w2 (ix3 0 j e) = v 2 (512 * t + j.val) e)
    (hw3 : ∀ (j : Fin 512) e, w3 (ix3 0 j e) = v 3 (512 * t + j.val) e)
    (h₀ : ∀ g r, s g r (512 * t) ≠ ⊥) :
    Held s v {t} v7 v8 v9 (v7.writes (Elt Ideal) f7 (four (fiM S0) (fiM S1) (fiM S2) (fiM S3)))
      (v8.writes (Elt Ideal) f8 (four (fiL S0) (fiL S1) (fiL S2) (fiL S3))) (v9.writes (Elt Ideal) f9 (four (fiA S0 w0) (fiA S1 w1) (fiA S2 w2) (fiA S3 w3))) := by
  intro g r
  match g with
  | ⟨0, _⟩ =>
    have h := first_row (hs 0 r) S0 w0 r (hS0 r) hw0 (h₀ 0 r)
    simpa only [Fin.mk_zero, Fin.mk_one, Fin.reduceFinMk, Fin.isValue, four0_at] using h
  | ⟨1, _⟩ =>
    have h := first_row (hs 1 r) S1 w1 r (hS1 r) hw1 (h₀ 1 r)
    simpa only [Fin.mk_zero, Fin.mk_one, Fin.reduceFinMk, Fin.isValue, four1_at] using h
  | ⟨2, _⟩ =>
    have h := first_row (hs 2 r) S2 w2 r (hS2 r) hw2 (h₀ 2 r)
    simpa only [Fin.mk_zero, Fin.mk_one, Fin.reduceFinMk, Fin.isValue, four2_at] using h
  | ⟨3, _⟩ =>
    have h := first_row (hs 3 r) S3 w3 r (hS3 r) hw3 (h₀ 3 r)
    simpa only [Fin.mk_zero, Fin.mk_one, Fin.reduceFinMk, Fin.isValue, four3_at] using h

/-- One trip's stores add the trip's tile to every row's state. -/
theorem held_step (f7 : v7.ty.Contents (Elt Ideal)) (f8 : v8.ty.Contents (Elt Ideal)) (f9 : v9.ty.Contents (Elt Ideal))
    (H : Held s v T v7 v8 v9 f7 f8 f9) (ht : t ∉ T)
    (hS0 : ∀ (r : Fin 1024) (j : Fin 512), S0 (ix2 r j) = s 0 r (512 * t + j.val))
    (hS1 : ∀ (r : Fin 1024) (j : Fin 512), S1 (ix2 r j) = s 1 r (512 * t + j.val))
    (hS2 : ∀ (r : Fin 1024) (j : Fin 512), S2 (ix2 r j) = s 2 r (512 * t + j.val))
    (hS3 : ∀ (r : Fin 1024) (j : Fin 512), S3 (ix2 r j) = s 3 r (512 * t + j.val))
    (hw0 : ∀ (j : Fin 512) e, w0 (ix3 0 j e) = v 0 (512 * t + j.val) e)
    (hw1 : ∀ (j : Fin 512) e, w1 (ix3 0 j e) = v 1 (512 * t + j.val) e)
    (hw2 : ∀ (j : Fin 512) e, w2 (ix3 0 j e) = v 2 (512 * t + j.val) e)
    (hw3 : ∀ (j : Fin 512) e, w3 (ix3 0 j e) = v 3 (512 * t + j.val) e)
 :
    Held s v (insert t T) v7 v8 v9 (v7.writes (Elt Ideal) f7 (four (upM S0 (blk0 v7 f7)) (upM S1 (blk1 v7 f7)) (upM S2 (blk2 v7 f7)) (upM S3 (blk3 v7 f7))))
      (v8.writes (Elt Ideal) f8 (four (upL S0 (blk0 v7 f7) (blk0 v8 f8)) (upL S1 (blk1 v7 f7) (blk1 v8 f8)) (upL S2 (blk2 v7 f7) (blk2 v8 f8)) (upL S3 (blk3 v7 f7) (blk3 v8 f8))))
      (v9.writes (Elt Ideal) f9 (four (upA S0 w0 (blk0 v7 f7) (blk0 v9 f9)) (upA S1 w1 (blk1 v7 f7) (blk1 v9 f9)) (upA S2 w2 (blk2 v7 f7) (blk2 v9 f9)) (upA S3 w3 (blk3 v7 f7) (blk3 v9 f9)))) := by
  intro g r
  match g with
  | ⟨0, _⟩ =>
    have h := step_row (hs 0 r) S0 w0 (blk0 v7 f7) (blk0 v8 f8) (blk0 v9 f9) r
      (by simpa only [blk0_at] using H 0 r) ht (hS0 r) hw0
    simpa only [Fin.mk_zero, Fin.mk_one, Fin.reduceFinMk, Fin.isValue, four0_at] using h
  | ⟨1, _⟩ =>
    have h := step_row (hs 1 r) S1 w1 (blk1 v7 f7) (blk1 v8 f8) (blk1 v9 f9) r
      (by simpa only [blk1_at] using H 1 r) ht (hS1 r) hw1
    simpa only [Fin.mk_zero, Fin.mk_one, Fin.reduceFinMk, Fin.isValue, four1_at] using h
  | ⟨2, _⟩ =>
    have h := step_row (hs 2 r) S2 w2 (blk2 v7 f7) (blk2 v8 f8) (blk2 v9 f9) r
      (by simpa only [blk2_at] using H 2 r) ht (hS2 r) hw2
    simpa only [Fin.mk_zero, Fin.mk_one, Fin.reduceFinMk, Fin.isValue, four2_at] using h
  | ⟨3, _⟩ =>
    have h := step_row (hs 3 r) S3 w3 (blk3 v7 f7) (blk3 v8 f8) (blk3 v9 f9) r
      (by simpa only [blk3_at] using H 3 r) ht (hS3 r) hw3
    simpa only [Fin.mk_zero, Fin.mk_one, Fin.reduceFinMk, Fin.isValue, four3_at] using h

/-- The three lists of stores leave head `g`'s rows with their states over the tiles `T`. -/
def HeldL (s : Fin 4 → Fin 1024 → ℕ → EReal) (v : Fin 4 → ℕ → Fin 128 → EReal) (T : Finset ℕ)
    (v7 v8 v9 : View σ .tc .vmem S4x1024x128 .f32) (B7 B8 B9 : List (View.Piece (Elt Ideal) S4x1024x128 .f32)) (g : Fin 4) : Prop :=
  ∀ r : Fin 1024, RowState (s g r) (v g) T (fun e => v7.read (Elt Ideal) (v7.writes (Elt Ideal) v7.junk B7) (ix3 g r e))
    (fun e => v8.read (Elt Ideal) (v8.writes (Elt Ideal) v8.junk B8) (ix3 g r e))
    (fun e => v9.read (Elt Ideal) (v9.writes (Elt Ideal) v9.junk B9) (ix3 g r e))

omit hs in

theorem HeldL.pc0 {B7 B8 B9 : List (View.Piece (Elt Ideal) S4x1024x128 .f32)} {g : Fin 4}
    (H : HeldL s v T v7 v8 v9 B7 B8 B9 g) (hg : 0 < g.val) (p7 p8 p9 : Vec Ideal S1x512x128 .f32) :
    HeldL s v T v7 v8 v9 (pc0 p7 :: B7) (pc0 p8 :: B8) (pc0 p9 :: B9) g := by
  intro r
  simpa only [pc0_miss _ _ _ _ g hg] using H r

omit hs in
theorem HeldL.pc1 {B7 B8 B9 : List (View.Piece (Elt Ideal) S4x1024x128 .f32)} {g : Fin 4}
    (H : HeldL s v T v7 v8 v9 B7 B8 B9 g) (hg : 1 < g.val) (p7 p8 p9 : Vec Ideal S1x512x128 .f32) :
    HeldL s v T v7 v8 v9 (pc1 p7 :: B7) (pc1 p8 :: B8) (pc1 p9 :: B9) g := by
  intro r
  simpa only [pc1_miss _ _ _ _ g hg] using H r

omit hs in
theorem HeldL.pc2 {B7 B8 B9 : List (View.Piece (Elt Ideal) S4x1024x128 .f32)} {g : Fin 4}
    (H : HeldL s v T v7 v8 v9 B7 B8 B9 g) (hg : 2 < g.val) (p7 p8 p9 : Vec Ideal S1x512x128 .f32) :
    HeldL s v T v7 v8 v9 (pc2 p7 :: B7) (pc2 p8 :: B8) (pc2 p9 :: B9) g := by
  intro r
  simpa only [pc2_miss _ _ _ _ g hg] using H r

omit hs in
theorem HeldL.pc3 {B7 B8 B9 : List (View.Piece (Elt Ideal) S4x1024x128 .f32)} {g : Fin 4}
    (H : HeldL s v T v7 v8 v9 B7 B8 B9 g) (hg : 3 < g.val) (p7 p8 p9 : Vec Ideal S1x512x128 .f32) :
    HeldL s v T v7 v8 v9 (pc3 p7 :: B7) (pc3 p8 :: B8) (pc3 p9 :: B9) g := by
  intro r
  simpa only [pc3_miss _ _ _ _ g hg] using H r

/-- Head 0's quotient, over lists of stores that leave its rows with their states. -/
theorem head0 {B7 B8 B9 : List (View.Piece (Elt Ideal) S4x1024x128 .f32)} (H : HeldL s v T v7 v8 v9 B7 B8 B9 0) (ht : t ∉ T)
    (E : FVec Ideal S512x512 .f32) (w : Vec Ideal S1x512x128 .bf16)
    (hE : ∀ (r j : Fin 512), E (ix2 r j) = s 0 ⟨512 + r.val, by omega⟩ (512 * t + j.val))
    (hw : ∀ (j : Fin 512) e, w (ix3 0 j e) = v 0 (512 * t + j.val) e) (r : Fin 1024) (e : Fin 128)
    (m : Vec Ideal S1x512x128 .f32) (hm : m = low0 v7 (v7.writes (Elt Ideal) v7.junk B7)) :
    ∃ M L A : Fin 128 → EReal, RowState (s 0 r) (v 0) (if r.val < 512 then T else insert t T) M L A
      ∧ fin (blk0 v8 (v8.writes (Elt Ideal) v8.junk (pc0 (loL E m (low0 v8 (v8.writes (Elt Ideal) v8.junk B8))) :: B8)))
          (blk0 v9 (v9.writes (Elt Ideal) v9.junk (pc0 (loA E w m (low0 v9 (v9.writes (Elt Ideal) v9.junk B9))) :: B9))) (ix3 0 r e)
        = Ideal.div (A e) (∑ x, L x) := by
  subst hm
  by_cases hr : r.val < 512
  · refine ⟨_, _, _, by rw [if_pos hr]; exact H r, ?_⟩
    rw [fin_at]
    simp only [blk0_at, pc0_up _ _ _ _ 0 r hr]
  · obtain ⟨r', h', rfl⟩ := lower_row r hr
    rw [if_neg hr, fin_at]
    simp only [blk0_at, pc0_hit]
    exact ⟨_, _, _, low_row (hs 0 _) E w _ _ _ r' (by simpa only [low0_at] using H ⟨512 + r'.val, by omega⟩) ht (hE r') hw, rfl⟩

/-- Head 1's quotient, over lists of stores that leave its rows with their states. -/
theorem head1 {B7 B8 B9 : List (View.Piece (Elt Ideal) S4x1024x128 .f32)} (H : HeldL s v T v7 v8 v9 B7 B8 B9 1) (ht : t ∉ T)
    (E : FVec Ideal S512x512 .f32) (w : Vec Ideal S1x512x128 .bf16)
    (hE : ∀ (r j : Fin 512), E (ix2 r j) = s 1 ⟨512 + r.val, by omega⟩ (512 * t + j.val))
    (hw : ∀ (j : Fin 512) e, w (ix3 0 j e) = v 1 (512 * t + j.val) e) (r : Fin 1024) (e : Fin 128)
    (m : Vec Ideal S1x512x128 .f32) (hm : m = low1 v7 (v7.writes (Elt Ideal) v7.junk B7)) :
    ∃ M L A : Fin 128 → EReal, RowState (s 1 r) (v 1) (if r.val < 512 then T else insert t T) M L A
      ∧ fin (blk1 v8 (v8.writes (Elt Ideal) v8.junk (pc1 (loL E m (low1 v8 (v8.writes (Elt Ideal) v8.junk B8))) :: B8)))
          (blk1 v9 (v9.writes (Elt Ideal) v9.junk (pc1 (loA E w m (low1 v9 (v9.writes (Elt Ideal) v9.junk B9))) :: B9))) (ix3 0 r e)
        = Ideal.div (A e) (∑ x, L x) := by
  subst hm
  by_cases hr : r.val < 512
  · refine ⟨_, _, _, by rw [if_pos hr]; exact H r, ?_⟩
    rw [fin_at]
    simp only [blk1_at, pc1_up _ _ _ _ 1 r hr]
  · obtain ⟨r', h', rfl⟩ := lower_row r hr
    rw [if_neg hr, fin_at]
    simp only [blk1_at, pc1_hit]
    exact ⟨_, _, _, low_row (hs 1 _) E w _ _ _ r' (by simpa only [low1_at] using H ⟨512 + r'.val, by omega⟩) ht (hE r') hw, rfl⟩

/-- Head 2's quotient, over lists of stores that leave its rows with their states. -/
theorem head2 {B7 B8 B9 : List (View.Piece (Elt Ideal) S4x1024x128 .f32)} (H : HeldL s v T v7 v8 v9 B7 B8 B9 2) (ht : t ∉ T)
    (E : FVec Ideal S512x512 .f32) (w : Vec Ideal S1x512x128 .bf16)
    (hE : ∀ (r j : Fin 512), E (ix2 r j) = s 2 ⟨512 + r.val, by omega⟩ (512 * t + j.val))
    (hw : ∀ (j : Fin 512) e, w (ix3 0 j e) = v 2 (512 * t + j.val) e) (r : Fin 1024) (e : Fin 128)
    (m : Vec Ideal S1x512x128 .f32) (hm : m = low2 v7 (v7.writes (Elt Ideal) v7.junk B7)) :
    ∃ M L A : Fin 128 → EReal, RowState (s 2 r) (v 2) (if r.val < 512 then T else insert t T) M L A
      ∧ fin (blk2 v8 (v8.writes (Elt Ideal) v8.junk (pc2 (loL E m (low2 v8 (v8.writes (Elt Ideal) v8.junk B8))) :: B8)))
          (blk2 v9 (v9.writes (Elt Ideal) v9.junk (pc2 (loA E w m (low2 v9 (v9.writes (Elt Ideal) v9.junk B9))) :: B9))) (ix3 0 r e)
        = Ideal.div (A e) (∑ x, L x) := by
  subst hm
  by_cases hr : r.val < 512
  · refine ⟨_, _, _, by rw [if_pos hr]; exact H r, ?_⟩
    rw [fin_at]
    simp only [blk2_at, pc2_up _ _ _ _ 2 r hr]
  · obtain ⟨r', h', rfl⟩ := lower_row r hr
    rw [if_neg hr, fin_at]
    simp only [blk2_at, pc2_hit]
    exact ⟨_, _, _, low_row (hs 2 _) E w _ _ _ r' (by simpa only [low2_at] using H ⟨512 + r'.val, by omega⟩) ht (hE r') hw, rfl⟩

/-- Head 3's quotient, over lists of stores that leave its rows with their states. -/
theorem head3 {B7 B8 B9 : List (View.Piece (Elt Ideal) S4x1024x128 .f32)} (H : HeldL s v T v7 v8 v9 B7 B8 B9 3) (ht : t ∉ T)
    (E : FVec Ideal S512x512 .f32) (w : Vec Ideal S1x512x128 .bf16)
    (hE : ∀ (r j : Fin 512), E (ix2 r j) = s 3 ⟨512 + r.val, by omega⟩ (512 * t + j.val))
    (hw : ∀ (j : Fin 512) e, w (ix3 0 j e) = v 3 (512 * t + j.val) e) (r : Fin 1024) (e : Fin 128)
    (m : Vec Ideal S1x512x128 .f32) (hm : m = low3 v7 (v7.writes (Elt Ideal) v7.junk B7)) :
    ∃ M L A : Fin 128 → EReal, RowState (s 3 r) (v 3) (if r.val < 512 then T else insert t T) M L A
      ∧ fin (blk3 v8 (v8.writes (Elt Ideal) v8.junk (pc3 (loL E m (low3 v8 (v8.writes (Elt Ideal) v8.junk B8))) :: B8)))
          (blk3 v9 (v9.writes (Elt Ideal) v9.junk (pc3 (loA E w m (low3 v9 (v9.writes (Elt Ideal) v9.junk B9))) :: B9))) (ix3 0 r e)
        = Ideal.div (A e) (∑ x, L x) := by
  subst hm
  by_cases hr : r.val < 512
  · refine ⟨_, _, _, by rw [if_pos hr]; exact H r, ?_⟩
    rw [fin_at]
    simp only [blk3_at, pc3_up _ _ _ _ 3 r hr]
  · obtain ⟨r', h', rfl⟩ := lower_row r hr
    rw [if_neg hr, fin_at]
    simp only [blk3_at, pc3_hit]
    exact ⟨_, _, _, low_row (hs 3 _) E w _ _ _ r' (by simpa only [low3_at] using H ⟨512 + r'.val, by omega⟩) ht (hE r') hw, rfl⟩

/-- What an output entry reads: the quotient of its row's accumulator by the row's lane sums, the row's state holding the
tiles `T`, and the second diagonal tile too for a lower row. -/
theorem tailOut_at (vo : View σ .tc .vmem S1x1024x512 .bf16) (fo : vo.ty.Contents (Elt Ideal)) (B7 B8 B9 : List (View.Piece (Elt Ideal) S4x1024x128 .f32))
    (H : Held s v T v7 v8 v9 (v7.writes (Elt Ideal) v7.junk B7) (v8.writes (Elt Ideal) v8.junk B8) (v9.writes (Elt Ideal) v9.junk B9))
    (ht : t ∉ T)
    (hE0 : ∀ (r j : Fin 512), E0 (ix2 r j) = s 0 ⟨512 + r.val, by omega⟩ (512 * t + j.val))
    (hE1 : ∀ (r j : Fin 512), E1 (ix2 r j) = s 1 ⟨512 + r.val, by omega⟩ (512 * t + j.val))
    (hE2 : ∀ (r j : Fin 512), E2 (ix2 r j) = s 2 ⟨512 + r.val, by omega⟩ (512 * t + j.val))
    (hE3 : ∀ (r j : Fin 512), E3 (ix2 r j) = s 3 ⟨512 + r.val, by omega⟩ (512 * t + j.val))
    (hw0 : ∀ (j : Fin 512) e, w0 (ix3 0 j e) = v 0 (512 * t + j.val) e)
    (hw1 : ∀ (j : Fin 512) e, w1 (ix3 0 j e) = v 1 (512 * t + j.val) e)
    (hw2 : ∀ (j : Fin 512) e, w2 (ix3 0 j e) = v 2 (512 * t + j.val) e)
    (hw3 : ∀ (j : Fin 512) e, w3 (ix3 0 j e) = v 3 (512 * t + j.val) e)
    (g : Fin 4) (r : Fin 1024) (e : Fin 128) :
    ∃ M L A : Fin 128 → EReal, RowState (s g r) (v g) (if r.val < 512 then T else insert t T) M L A
      ∧ vo.read (Elt Ideal) (vo.writes (Elt Ideal) fo (tailOut v7 v8 v9 B7 B8 B9 E0 E1 E2 E3 w0 w1 w2 w3)) (ix3 0 r ⟨128 * g.val + e.val, by omega⟩)
        = Ideal.div (A e) (∑ x, L x) := by
  unfold tailOut
  have H : ∀ g, HeldL s v T v7 v8 v9 B7 B8 B9 g := fun g r => H g r
  match g with
  | ⟨0, _⟩ =>
    obtain ⟨M, L, A, h₁, h₂⟩ := head0 hs (H 0) ht E0 w0 hE0 hw0 r e _ rfl
    exact ⟨M, L, A, h₁, (outs0_at vo fo _ _ _ _ r e).trans h₂⟩
  | ⟨1, _⟩ =>
    obtain ⟨M, L, A, h₁, h₂⟩ := head1 hs ((H 1).pc0 (by decide) _ _ _) ht E1 w1 hE1 hw1 r e _ rfl
    exact ⟨M, L, A, h₁, (outs1_at vo fo _ _ _ _ r e).trans h₂⟩
  | ⟨2, _⟩ =>
    obtain ⟨M, L, A, h₁, h₂⟩ := head2 hs (((H 2).pc0 (by decide) _ _ _).pc1 (by decide) _ _ _) ht E2 w2 hE2 hw2 r e _ rfl
    exact ⟨M, L, A, h₁, (outs2_at vo fo _ _ _ _ r e).trans h₂⟩
  | ⟨3, _⟩ =>
    obtain ⟨M, L, A, h₁, h₂⟩ := head3 hs ((((H 3).pc0 (by decide) _ _ _).pc1 (by decide) _ _ _).pc2 (by decide) _ _ _) ht E3 w3 hE3 hw3 r e _ rfl
    exact ⟨M, L, A, h₁, (outs3_at vo fo _ _ _ _ r e).trans h₂⟩

end block

end Cert.KernelIdeal.Value

end
-- ==== Proof.Block.lean ====
/- What one block computes: the scores and values its tiles hold, the loop's trips, and the output block's entries as
   quotients of the rows' states. -/
module

public import proofs.«01_k».proof.Proof.Rows

@[expose] public section

set_option maxRecDepth 16384

noncomputable section

namespace Cert.KernelIdeal.Value

open Cert.KernelIdeal Cert.KernelIdeal.Gen Idealize.ShloMosaic Idealize.ShloMosaic.TcCoe Idealize.SL.Sem FlashRow

/-- Row `r`'s score of key `κ` under head `g`, in the block of rows that begins at row `1024 n`: the product of the
query and the key, nothing past the diagonal. -/
def sc (x0 : Vec Ideal S1x1024x1024 .bf16) (x1 : Vec Ideal S1x4096x1024 .bf16) (n : ℕ) (g : Fin 4) (r : Fin 1024) (κ : ℕ) : EReal :=
  if κ ≤ 1024 * n + r.val then ∑ x : Fin 256, x0 (ix3 0 r ⟨256 * g.val + x.val, by omega⟩) *
    x1 (ix3 0 (Fin.ofNat 4096 κ) ⟨256 * g.val + x.val, by omega⟩) else ⊥

/-- Key `κ`'s value under head `g`. -/
def vl (x2 : Vec Ideal S1x4096x512 .bf16) (g : Fin 4) (κ : ℕ) (e : Fin 128) : EReal :=
  x2 (ix3 0 (Fin.ofNat 4096 κ) ⟨128 * g.val + e.val, by omega⟩)

theorem ofNat_eq {n : ℕ} (h : n < 4096) : Fin.ofNat 4096 n = ⟨n, h⟩ := Fin.ext (Nat.mod_eq_of_lt h)

section tiles
variable (x0 : Vec Ideal S1x1024x1024 .bf16) (x1 : Vec Ideal S1x4096x1024 .bf16) (x2 : Vec Ideal S1x4096x512 .bf16) (i : grid0.Coords)
  (arg3 : Memref sig .tc .vmem S1x1024x1024 .bf16) (harg3 : arg3.IsWhole) (arg4 : Memref sig .tc .vmem S1x4096x1024 .bf16) (harg4 : arg4.IsWhole)
  (arg5 : Memref sig .tc .vmem S1x4096x512 .bf16) (harg5 : arg5.IsWhole)

theorem i2_lt : (i 2).val < 4 := (i 2).isLt

/-- The values a tile loads. -/
theorem vtile (o : Fin 3 → ℕ) (h) (t : ℕ) (g : Fin 4) (ho : o = ![0, 512 * t, 128 * g.val]) (ht : t < 8) (j : Fin 512) (e : Fin 128) :
    vB arg5 (harg5.unread x2) o h (ix3 0 j e) = vl x2 g (512 * t + j.val) e := by
  rw [vB_at arg5 harg5 x2 o h _ _ ho (by omega) (by omega), vl, ofNat_eq (by omega)]

/-- The keys a tile loads. -/
theorem ktile (o : Fin 3 → ℕ) (h) (t : ℕ) (g : Fin 4) (ho : o = ![0, 512 * t, 256 * g.val]) (ht : t < 8) (j : Fin 512) (c : Fin 256) :
    kB arg4 (harg4.unread x1) o h (ix3 0 j c) = x1 (ix3 0 (Fin.ofNat 4096 (512 * t + j.val)) ⟨256 * g.val + c.val, by omega⟩) := by
  rw [kB_at arg4 harg4 x1 o h _ _ ho (by omega) (by omega), ofNat_eq (by omega)]

/-- The first diagonal tile's scores. -/
theorem dtile (n : ℕ) (hn : n < 4) (g : Fin 4) (Q : Vec Ideal S1x1024x256 .bf16) (K : Vec Ideal S1x512x256 .bf16)
    (hQ : ∀ (r : Fin 1024) (c : Fin 256), Q (ix3 0 r c) = x0 (ix3 0 r ⟨256 * g.val + c.val, by omega⟩))
    (hK : ∀ (j : Fin 512) (c : Fin 256), K (ix3 0 j c) = x1 (ix3 0 (Fin.ofNat 4096 (512 * (2 * n) + j.val)) ⟨256 * g.val + c.val, by omega⟩))
    (r : Fin 1024) (j : Fin 512) : scoreD Q K (ix2 r j) = sc x0 x1 n g r (512 * (2 * n) + j.val) := by
  rw [scoreD_at, sc]
  simp only [hQ, hK]
  by_cases h : j.val ≤ r.val
  · rw [if_pos h, if_pos (by omega)]
  · rw [if_neg h, if_neg (by omega)]

/-- The second diagonal tile's scores. -/
theorem etile (n : ℕ) (hn : n < 4) (g : Fin 4) (Q : Vec Ideal S1x1024x256 .bf16) (K : Vec Ideal S1x512x256 .bf16)
    (hQ : ∀ (r : Fin 1024) (c : Fin 256), Q (ix3 0 r c) = x0 (ix3 0 r ⟨256 * g.val + c.val, by omega⟩))
    (hK : ∀ (j : Fin 512) (c : Fin 256), K (ix3 0 j c) = x1 (ix3 0 (Fin.ofNat 4096 (512 * (2 * n + 1) + j.val)) ⟨256 * g.val + c.val, by omega⟩))
    (r j : Fin 512) : scoreE (k0_pay104 Q) K (ix2 r j) = sc x0 x1 n g ⟨512 + r.val, by omega⟩ (512 * (2 * n + 1) + j.val) := by
  rw [scoreE_at, sc]
  simp only [hQ, hK]
  by_cases h : j.val ≤ r.val
  · rw [if_pos h, if_pos (show _ ≤ 1024 * n + (512 + r.val) by omega)]
  · rw [if_neg h, if_neg (show ¬ _ ≤ 1024 * n + (512 + r.val) by omega)]

/-- A trip's scores: its tile lies below the diagonal, so nothing is cut off. -/
theorem ltile (n t : ℕ) (hn : n < 4) (ht : t < 2 * n) (g : Fin 4) (Q : Vec Ideal S1x1024x256 .bf16) (K : Vec Ideal S1x512x256 .bf16)
    (hQ : ∀ (r : Fin 1024) (c : Fin 256), Q (ix3 0 r c) = x0 (ix3 0 r ⟨256 * g.val + c.val, by omega⟩))
    (hK : ∀ (j : Fin 512) (c : Fin 256), K (ix3 0 j c) = x1 (ix3 0 (Fin.ofNat 4096 (512 * t + j.val)) ⟨256 * g.val + c.val, by omega⟩))
    (r : Fin 1024) (j : Fin 512) : score (k0_pay104 Q) K (ix2 r j) = sc x0 x1 n g r (512 * t + j.val) := by
  rw [score_at, sc]
  simp only [hQ, hK]
  rw [if_pos (by omega)]

end tiles

set_option maxHeartbeats 4000000 in
/-- After `k` trips of the loop every row's state holds the first diagonal tile and the tiles of those trips. -/
theorem held_loop (c : Dev nD) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec Ideal S1x1024x1024 .bf16) (x1 : Vec Ideal S1x4096x1024 .bf16) (x2 : Vec Ideal S1x4096x512 .bf16) (arg2 : BitVec 32) (v182 : FVec Ideal S512x128 .bf16) (v186 : FVec Ideal S1024x128 .f32) (v192 v197 : FVec Ideal S1024x128 .bf16) (v201 : FVec Ideal S1024x128 .f32) (v202 : FVec Ideal S1024x128 .bf16) (v203 : FVec Ideal S1024x128 .f32)
    (G7 : BufTy.Contents (Elt Ideal) arg7.view.ty) (G8 : BufTy.Contents (Elt Ideal) arg8.view.ty) (G9 : BufTy.Contents (Elt Ideal) arg9.view.ty)
    (hs : ∀ g r κ, sc x0 x1 (i 2).val g r κ ≠ ⊤)
    (H : Held (sc x0 x1 (i 2).val) (vl x2) {2 * (i 2).val} arg7.view arg8.view arg9.view G7 G8 G9) (k : ℕ) (hk : k ≤ (k0_t1_loop i).trips) :
    Held (sc x0 x1 (i 2).val) (vl x2) (insert (2 * (i 2).val) (Finset.range k)) arg7.view arg8.view arg9.view
      (arg7.view.writes (Elt Ideal) G7 (pb_k0_t1 (F := Ideal) Variants.none c none i arg3 harg3 arg4 harg4 arg5 harg5 arg6 harg6 arg7 harg7 arg8 harg8 arg9 harg9 arg2 (k0_pay104 (qB0 arg3 (harg3.unread x0))) (k0_pay105 (qB1 arg3 (harg3.unread x0))) (k0_pay106 (qB2 arg3 (harg3.unread x0))) (k0_pay107 (qB3 arg3 (harg3.unread x0))) v182 v186 v192 v197 v201 v202 v203 (harg4.unread x1) (harg5.unread x2) G7 G8 G9 k).1)
      (arg8.view.writes (Elt Ideal) G8 (pb_k0_t1 (F := Ideal) Variants.none c none i arg3 harg3 arg4 harg4 arg5 harg5 arg6 harg6 arg7 harg7 arg8 harg8 arg9 harg9 arg2 (k0_pay104 (qB0 arg3 (harg3.unread x0))) (k0_pay105 (qB1 arg3 (harg3.unread x0))) (k0_pay106 (qB2 arg3 (harg3.unread x0))) (k0_pay107 (qB3 arg3 (harg3.unread x0))) v182 v186 v192 v197 v201 v202 v203 (harg4.unread x1) (harg5.unread x2) G7 G8 G9 k).2.1)
      (arg9.view.writes (Elt Ideal) G9 (pb_k0_t1 (F := Ideal) Variants.none c none i arg3 harg3 arg4 harg4 arg5 harg5 arg6 harg6 arg7 harg7 arg8 harg8 arg9 harg9 arg2 (k0_pay104 (qB0 arg3 (harg3.unread x0))) (k0_pay105 (qB1 arg3 (harg3.unread x0))) (k0_pay106 (qB2 arg3 (harg3.unread x0))) (k0_pay107 (qB3 arg3 (harg3.unread x0))) v182 v186 v192 v197 v201 v202 v203 (harg4.unread x1) (harg5.unread x2) G7 G8 G9 k).2.2) := by
  induction k with
  | zero => exact H
  | succ k ih =>
    have hk' : k < (k0_t1_loop i).trips := hk
    have hk2 : k < 2 * (i 2).val := trips1_lt i ⟨k, hk'⟩
    have hn : (i 2).val < 4 := i2_lt i
    have ih := ih (le_of_lt hk')
    rw [pb_k0_t1_succ (k := ⟨k, hk'⟩), trip_pieces (k := ⟨k, hk'⟩)
      (hS₀ := rfl) (hS₁ := rfl) (hS₂ := rfl) (hS₃ := rfl) (hw₀ := rfl) (hw₁ := rfl) (hw₂ := rfl) (hw₃ := rfl)]
    dsimp only
    rw [View.writes_append, View.writes_append, View.writes_append, Finset.range_add_one, Finset.insert_comm]
    refine held_step (t := k) hs _ _ _ _ _ _ _ _ _ _ _ ih ?_ ?_ ?_ ?_ ?_ ?_ ?_ ?_ ?_
    · simp; omega

    · exact ltile x0 x1 _ k hn hk2 0 _ _ (qB0_at arg3 harg3 x0) (ktile x1 arg4 harg4 _ _ k 0 (off9_eq i ⟨k, hk'⟩) (by omega))
    · exact ltile x0 x1 _ k hn hk2 1 _ _ (qB1_at arg3 harg3 x0) (ktile x1 arg4 harg4 _ _ k 1 (off10_eq i ⟨k, hk'⟩) (by omega))
    · exact ltile x0 x1 _ k hn hk2 2 _ _ (qB2_at arg3 harg3 x0) (ktile x1 arg4 harg4 _ _ k 2 (off12_eq i ⟨k, hk'⟩) (by omega))
    · exact ltile x0 x1 _ k hn hk2 3 _ _ (qB3_at arg3 harg3 x0) (ktile x1 arg4 harg4 _ _ k 3 (off14_eq i ⟨k, hk'⟩) (by omega))
    · exact vtile x2 arg5 harg5 _ _ k 0 (off11_eq i ⟨k, hk'⟩) (by omega)
    · exact vtile x2 arg5 harg5 _ _ k 1 (off13_eq i ⟨k, hk'⟩) (by omega)
    · exact vtile x2 arg5 harg5 _ _ k 2 (off15_eq i ⟨k, hk'⟩) (by omega)
    · exact vtile x2 arg5 harg5 _ _ k 3 (off16_eq i ⟨k, hk'⟩) (by omega)

set_option maxHeartbeats 4000000 in
/-- The output block's entries: the quotient of the row's accumulator by its lane sums, the row's state holding every tile
up to the row's own. -/
theorem body_row (c : Dev nD) (i : grid0.Coords) (arg3 : Memref sig .tc .vmem S1x1024x1024 .bf16) (harg3 : arg3.IsWhole) (arg4 : Memref sig .tc .vmem S1x4096x1024 .bf16) (harg4 : arg4.IsWhole) (arg5 : Memref sig .tc .vmem S1x4096x512 .bf16) (harg5 : arg5.IsWhole) (arg6 : Memref sig .tc .vmem S1x1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec Ideal S1x1024x1024 .bf16) (x1 : Vec Ideal S1x4096x1024 .bf16) (x2 : Vec Ideal S1x4096x512 .bf16)
    (hs : ∀ g r κ, sc x0 x1 (i 2).val g r κ ≠ ⊤) (h₀ : ∀ g r, sc x0 x1 (i 2).val g r (512 * (2 * (i 2).val)) ≠ ⊥)
    (vo : View sig .tc .vmem S1x1024x512 .bf16) (fo : vo.ty.Contents (Elt Ideal)) (g : Fin 4) (r : Fin 1024) (e : Fin 128) :
    ∃ M L A : Fin 128 → EReal, RowState (sc x0 x1 (i 2).val g r) (vl x2 g)
        (if r.val < 512 then insert (2 * (i 2).val) (Finset.range (2 * (i 2).val))
          else insert (2 * (i 2).val + 1) (insert (2 * (i 2).val) (Finset.range (2 * (i 2).val)))) M L A
      ∧ vo.read (Elt Ideal) (vo.writes (Elt Ideal) fo (kernelRun0_A (F := Ideal) c i arg3 harg3 arg4 harg4 arg5 harg5 arg6 harg6 arg7 harg7 arg8 harg8 arg9 harg9 x0 x1 x2).1) (ix3 0 r ⟨128 * g.val + e.val, by omega⟩)
        = Ideal.div (A e) (∑ x, L x) := by
  have hn : (i 2).val < 4 := i2_lt i
  have o1 : ∀ (a : Fin 3 → ℕ) (c : ℕ), a = ![0, 1024 * (i 2).val + 512 * (0 : Fin 2).val, c] → a = ![0, 512 * (2 * (i 2).val), c] := by
    intro a c h; rw [h]; congr 2; simp; omega
  have o2 : ∀ (a : Fin 3 → ℕ) (c : ℕ), a = ![0, 1024 * (i 2).val + 512 * (1 : Fin 2).val, c] → a = ![0, 512 * (2 * (i 2).val + 1), c] := by
    intro a c h; rw [h]; congr 2; simp; omega
  obtain ⟨v182, v186, v192, v197, v201, v202, v203, hB7, hB8, hB9⟩ := body_base (F := Ideal) c i arg3 harg3 arg4 harg4 arg5 harg5 arg6 harg6 arg7 harg7 arg8 harg8 arg9 harg9 x0 x1 x2
  have hm := first_m (F := Ideal) c i arg3 harg3 arg4 harg4 arg5 harg5 arg6 harg6 arg7 harg7 arg8 harg8 arg9 harg9 x0 x1 x2 _ _ _ _ _ _ _ _ _ _ _ _ _ _ _ _ rfl rfl rfl rfl rfl rfl rfl rfl rfl rfl rfl rfl rfl rfl rfl rfl
  have hl := first_l (F := Ideal) c i arg3 harg3 arg4 harg4 arg5 harg5 arg6 harg6 arg7 harg7 arg8 harg8 arg9 harg9 x0 x1 x2 _ _ _ _ _ _ _ _ _ _ _ _ _ _ _ _ rfl rfl rfl rfl rfl rfl rfl rfl rfl rfl rfl rfl rfl rfl rfl rfl
  have ha := first_a (F := Ideal) c i arg3 harg3 arg4 harg4 arg5 harg5 arg6 harg6 arg7 harg7 arg8 harg8 arg9 harg9 x0 x1 x2 _ _ _ _ _ _ _ _ _ _ _ _ _ _ _ _ rfl rfl rfl rfl rfl rfl rfl rfl rfl rfl rfl rfl rfl rfl rfl rfl
  rw [body_tail (F := Ideal) c i arg3 harg3 arg4 harg4 arg5 harg5 arg6 harg6 arg7 harg7 arg8 harg8 arg9 harg9 x0 x1 x2 _ _ _ _ _ _ _ _ _ _ _ _ _ _ _ _ rfl rfl rfl rfl rfl rfl rfl rfl rfl rfl rfl rfl rfl rfl rfl rfl ]
  refine tailOut_at (t := 2 * (i 2).val + 1) hs _ _ _ _ _ _ _ _ vo fo _ _ _ ?_ ?_ ?_ ?_ ?_ ?_ ?_ ?_ ?_ ?_ g r e
  · rw [hB7, hB8, hB9, View.writes_append, View.writes_append, View.writes_append]
    have := held_loop c i arg3 harg3 arg4 harg4 arg5 harg5 arg6 harg6 arg7 harg7 arg8 harg8 arg9 harg9 x0 x1 x2 (BitVec.ofNat 32 ↑(i 2)) v182 v186 v192 v197 v201 v202 v203 (arg7.view.writes (Elt Ideal) arg7.view.junk (kernelRun0_A.sl.HS0_4 c i arg3 harg3 arg4 harg4 x0 x1)) (arg8.view.writes (Elt Ideal) arg8.view.junk (kernelRun0_A.sl.HS1_4 c i arg3 harg3 arg4 harg4 x0 x1)) (arg9.view.writes (Elt Ideal) arg9.view.junk (kernelRun0_A.sl.HS2_4 c i arg3 harg3 arg4 harg4 arg5 harg5 x0 x1 x2)) hs (by
      rw [hm, hl, ha]
      refine held_first (t := 2 * (i 2).val) hs _ _ _ _ _ _ _ _ _ _ _ ?_ ?_ ?_ ?_ ?_ ?_ ?_ ?_ h₀
      · exact dtile x0 x1 _ hn 0 _ _ (qB0_at arg3 harg3 x0) (ktile x1 arg4 harg4 _ _ _ 0 (o1 _ _ (off1_eq i 0)) (by omega))
      · exact dtile x0 x1 _ hn 1 _ _ (qB1_at arg3 harg3 x0) (ktile x1 arg4 harg4 _ _ _ 1 (o1 _ _ (off2_eq i 0)) (by omega))
      · exact dtile x0 x1 _ hn 2 _ _ (qB2_at arg3 harg3 x0) (ktile x1 arg4 harg4 _ _ _ 2 (o1 _ _ (off4_eq i 0)) (by omega))
      · exact dtile x0 x1 _ hn 3 _ _ (qB3_at arg3 harg3 x0) (ktile x1 arg4 harg4 _ _ _ 3 (o1 _ _ (off6_eq i 0)) (by omega))
      · exact vtile x2 arg5 harg5 _ _ _ 0 (o1 _ _ (off3_eq i 0)) (by omega)
      · exact vtile x2 arg5 harg5 _ _ _ 1 (o1 _ _ (off5_eq i 0)) (by omega)
      · exact vtile x2 arg5 harg5 _ _ _ 2 (o1 _ _ (off7_eq i 0)) (by omega)
      · exact vtile x2 arg5 harg5 _ _ _ 3 (o1 _ _ (off8_eq i 0)) (by omega)
      ) (k0_t1_loop i).trips le_rfl
    rwa [trips1] at this ⊢
  · simp
  · exact etile x0 x1 _ hn 0 _ _ (qB0_at arg3 harg3 x0) (ktile x1 arg4 harg4 _ _ _ 0 (o2 _ _ (off1_eq i 1)) (by omega))
  · exact etile x0 x1 _ hn 1 _ _ (qB1_at arg3 harg3 x0) (ktile x1 arg4 harg4 _ _ _ 1 (o2 _ _ (off2_eq i 1)) (by omega))
  · exact etile x0 x1 _ hn 2 _ _ (qB2_at arg3 harg3 x0) (ktile x1 arg4 harg4 _ _ _ 2 (o2 _ _ (off4_eq i 1)) (by omega))
  · exact etile x0 x1 _ hn 3 _ _ (qB3_at arg3 harg3 x0) (ktile x1 arg4 harg4 _ _ _ 3 (o2 _ _ (off6_eq i 1)) (by omega))
  · exact vtile x2 arg5 harg5 _ _ _ 0 (o2 _ _ (off3_eq i 1)) (by omega)
  · exact vtile x2 arg5 harg5 _ _ _ 1 (o2 _ _ (off5_eq i 1)) (by omega)
  · exact vtile x2 arg5 harg5 _ _ _ 2 (o2 _ _ (off7_eq i 1)) (by omega)
  · exact vtile x2 arg5 harg5 _ _ _ 3 (o2 _ _ (off8_eq i 1)) (by omega)

end Cert.KernelIdeal.Value

end
-- ==== Proof.Attention.lean ====
/- The attention that both programs compute, as one function of the queries, keys and values, and the finiteness of its
   scores where queries and keys are finite. -/
module

public import proofs.«01_k».proof.Proof.Softmax
public import Idealize.ShloMosaic.Lib.Pointwise

@[expose] public section

noncomputable section

namespace FlashRow

open Idealize.ShloMosaic

/-- An array of queries or of keys: batch, position, and the 256 lanes of each of the eight heads side by side. -/
abbrev Wide := (⟨3, ![16, 4096, 2048]⟩ : Shape).Idx → EReal
/-- An array of values or of results: batch, position, and the 128 lanes of each head side by side. -/
abbrev Narrow := (⟨3, ![16, 4096, 1024]⟩ : Shape).Idx → EReal

/-- Query `t` times key `s` under head `h`, over the head's 256 lanes. -/
def qk (q k : Wide) (b : Fin 16) (h : Fin 8) (t s : Fin 4096) : EReal :=
  ∑ x : Fin 256, q (ix3 b t ⟨h.val * 256 + x.val, by omega⟩) * k (ix3 b s ⟨h.val * 256 + x.val, by omega⟩)

/-- The masked logit: the product in natural units, nothing for a key after the query. -/
def logit (q k : Wide) (b : Fin 16) (h : Fin 8) (t s : Fin 4096) : EReal :=
  if s.val ≤ t.val then qk q k b h t s * (Real.log 2 : ℝ) else ⊥

/-- The largest logit of a row. -/
def top (q k : Wide) (b : Fin 16) (h : Fin 8) (t : Fin 4096) : EReal :=
  Finset.univ.fold max ⊥ fun s => logit q k b h t s

/-- Causal softmax attention, one entry: the values weighted by the softmax of the row's logits. -/
def attn (q k : Wide) (v : Narrow) (b : Fin 16) (h : Fin 8) (t : Fin 4096) (e : Fin 128) : EReal :=
  ∑ s : Fin 4096, Ideal.div (Ideal.exp (logit q k b h t s - top q k b h t))
    (∑ s' : Fin 4096, Ideal.exp (logit q k b h t s' - top q k b h t)) * v (ix3 b s ⟨h.val * 128 + e.val, by omega⟩)

/-- The result array: column `c` holds lane `c % 128` of head `c / 128`. -/
def result (q k : Wide) (v : Narrow) : Narrow := fun i =>
  attn q k v (i 0) ⟨(i 2).val / 128, by have h : (i 2).val < 1024 := (i 2).isLt; omega⟩ (i 1)
    ⟨(i 2).val % 128, Nat.mod_lt _ (by decide)⟩

/-- Every entry is a real number. -/
def Finite (q : Wide) : Prop := ∀ i, q i ≠ ⊤ ∧ q i ≠ ⊥

theorem Finite.real {q : Wide} (h : Finite q) (i) : ∃ x : ℝ, q i = x :=
  ⟨(q i).toReal, (EReal.coe_toReal (h i).1 (h i).2).symm⟩

/-- A sum of reals is real. -/
theorem sum_real {ι : Type} (S : Finset ι) (f : ι → EReal) (h : ∀ i, ∃ x : ℝ, f i = x) : ∃ x : ℝ, ∑ i ∈ S, f i = x := by
  classical
  choose g hg using h
  refine ⟨∑ i ∈ S, g i, ?_⟩
  induction S using Finset.induction_on with
  | empty => simp
  | insert a S ha ih => rw [Finset.sum_insert ha, Finset.sum_insert ha, ih, hg, EReal.coe_add]

/-- A product of a finite query and a finite key is real. -/
theorem qk_real {q k : Wide} (hq : Finite q) (hk : Finite k) (b h t s) : ∃ x : ℝ, qk q k b h t s = x :=
  sum_real _ _ fun x => by
    obtain ⟨a, ha⟩ := hq.real (ix3 b t ⟨h.val * 256 + x.val, by omega⟩)
    obtain ⟨c, hc⟩ := hk.real (ix3 b s ⟨h.val * 256 + x.val, by omega⟩)
    exact ⟨a * c, by rw [ha, hc, EReal.coe_mul]⟩

/-- So the largest logit of a row is real: the row has the query's own key. -/
theorem top_real {q k : Wide} (hq : Finite q) (hk : Finite k) (b h t) : ∃ x : ℝ, top q k b h t = x := by
  have hb : ∀ s, logit q k b h t s ≠ ⊤ := fun s => by
    unfold logit
    split_ifs
    · obtain ⟨x, hx⟩ := qk_real hq hk b h t s
      rw [hx, ← EReal.coe_mul]; exact EReal.coe_ne_top _
    · exact bot_ne_top
  have h1 : top q k b h t ≠ ⊤ := by
    refine ne_of_lt ?_
    unfold top
    rw [Finset.fold_max_lt]
    exact ⟨bot_lt_top, fun s _ => lt_of_le_of_ne le_top (hb s)⟩
  have h2 : top q k b h t ≠ ⊥ := by
    refine ne_of_gt ?_
    unfold top
    rw [Finset.lt_fold_max]
    refine .inr ⟨t, Finset.mem_univ _, ?_⟩
    unfold logit
    rw [if_pos le_rfl]
    obtain ⟨x, hx⟩ := qk_real hq hk b h t t
    rw [hx, ← EReal.coe_mul]; exact EReal.bot_lt_coe _
  exact ⟨_, (EReal.coe_toReal h1 h2).symm⟩

end FlashRow

end
-- ==== Proof.Array.lean ====
/- The result array of the kernel: each grid point's block of it, read off the row states, is the block of the attention
   of the argument arrays, and the blocks cover the array. -/
module

public import proofs.«01_k».proof.Proof.Block
public import proofs.«01_k».proof.Proof.Attention
public import proofs.«01_k».proof.Proof.Gen.KernelIdeal.Value

@[expose] public section

set_option maxRecDepth 16384

noncomputable section

namespace Cert.KernelIdeal.Value

open Cert.KernelIdeal Cert.KernelIdeal.Gen Idealize.ShloMosaic Idealize.ShloMosaic.TcCoe Idealize.SL.Sem FlashRow

/-! ## The windows' blocks: batch `t / 8`, four heads `t / 4 % 2`, a quarter `t % 4` of the rows -/

theorem coord (t : Fin cfg0.N) : (grid0.coords t 2).val = t.val % 4 :=
  (by decide +kernel : ∀ t : Fin grid0.N, (grid0.coords t 2).val = t.val % 4) t

theorem index0 (t : Fin cfg0.N) : win0_0.index t (0 : Fin 3) = t.val / 8 ∧ win0_0.index t (1 : Fin 3) = t.val % 4 ∧ win0_0.index t (2 : Fin 3) = t.val / 4 % 2 :=
  (by decide +kernel : ∀ t : Fin grid0.N, win0_0.index t (0 : Fin 3) = t.val / 8 ∧ win0_0.index t (1 : Fin 3) = t.val % 4 ∧ win0_0.index t (2 : Fin 3) = t.val / 4 % 2) t

theorem index1 (t : Fin cfg0.N) : win0_1.index t (0 : Fin 3) = t.val / 8 ∧ win0_1.index t (1 : Fin 3) = 0 ∧ win0_1.index t (2 : Fin 3) = t.val / 4 % 2 :=
  (by decide +kernel : ∀ t : Fin grid0.N, win0_1.index t (0 : Fin 3) = t.val / 8 ∧ win0_1.index t (1 : Fin 3) = 0 ∧ win0_1.index t (2 : Fin 3) = t.val / 4 % 2) t

theorem index2 (t : Fin cfg0.N) : win0_2.index t (0 : Fin 3) = t.val / 8 ∧ win0_2.index t (1 : Fin 3) = 0 ∧ win0_2.index t (2 : Fin 3) = t.val / 4 % 2 :=
  (by decide +kernel : ∀ t : Fin grid0.N, win0_2.index t (0 : Fin 3) = t.val / 8 ∧ win0_2.index t (1 : Fin 3) = 0 ∧ win0_2.index t (2 : Fin 3) = t.val / 4 % 2) t

theorem index3 (t : Fin cfg0.N) : win0_3.index t (0 : Fin 3) = t.val / 8 ∧ win0_3.index t (1 : Fin 3) = t.val % 4 ∧ win0_3.index t (2 : Fin 3) = t.val / 4 % 2 :=
  (by decide +kernel : ∀ t : Fin grid0.N, win0_3.index t (0 : Fin 3) = t.val / 8 ∧ win0_3.index t (1 : Fin 3) = t.val % 4 ∧ win0_3.index t (2 : Fin 3) = t.val / 4 % 2) t

theorem t_lt (t : Fin cfg0.N) : t.val < 128 := lt_of_lt_of_eq t.isLt N_0

/-- The batch of a point's blocks. -/
def bt (t : Fin cfg0.N) : Fin 16 := ⟨t.val / 8, by have := t_lt t; omega⟩
/-- The head `g` of the point's four. -/
def hd (t : Fin cfg0.N) (g : Fin 4) : Fin 8 := ⟨4 * (t.val / 4 % 2) + g.val, by omega⟩
/-- The row `r` of the point's quarter. -/
def rw' (t : Fin cfg0.N) (r : Fin 1024) : Fin 4096 := ⟨1024 * (t.val % 4) + r.val, by omega⟩

theorem emb0 (t : Fin cfg0.N) (r : Fin 1024) (x : Fin 1024) :
    ((cfg0.win 0).blk t).view.emb (ix3 0 r x) = ix3 (bt t) (rw' t r) ⟨1024 * (t.val / 4 % 2) + x.val, by omega⟩ := by
  obtain ⟨e0, e1, e2⟩ := index0 t
  funext a; apply Fin.ext
  match a with
  | ⟨0, _⟩ => show win0_0.index t (0 : Fin 3) * 1 + 1 * 0 = t.val / 8; omega
  | ⟨1, _⟩ => show win0_0.index t (1 : Fin 3) * 1024 + 1 * r.val = 1024 * (t.val % 4) + r.val; omega
  | ⟨2, _⟩ => show win0_0.index t (2 : Fin 3) * 1024 + 1 * x.val = 1024 * (t.val / 4 % 2) + x.val; omega

theorem emb1 (t : Fin cfg0.N) (s : Fin 4096) (x : Fin 1024) :
    ((cfg0.win 1).blk t).view.emb (ix3 0 s x) = ix3 (bt t) s ⟨1024 * (t.val / 4 % 2) + x.val, by omega⟩ := by
  obtain ⟨e0, e1, e2⟩ := index1 t
  funext a; apply Fin.ext
  match a with
  | ⟨0, _⟩ => show win0_1.index t (0 : Fin 3) * 1 + 1 * 0 = t.val / 8; omega
  | ⟨1, _⟩ => show win0_1.index t (1 : Fin 3) * 4096 + 1 * s.val = s.val; omega
  | ⟨2, _⟩ => show win0_1.index t (2 : Fin 3) * 1024 + 1 * x.val = 1024 * (t.val / 4 % 2) + x.val; omega

theorem emb2 (t : Fin cfg0.N) (s : Fin 4096) (x : Fin 512) :
    ((cfg0.win 2).blk t).view.emb (ix3 0 s x) = ix3 (bt t) s ⟨512 * (t.val / 4 % 2) + x.val, by omega⟩ := by
  obtain ⟨e0, e1, e2⟩ := index2 t
  funext a; apply Fin.ext
  match a with
  | ⟨0, _⟩ => show win0_2.index t (0 : Fin 3) * 1 + 1 * 0 = t.val / 8; omega
  | ⟨1, _⟩ => show win0_2.index t (1 : Fin 3) * 4096 + 1 * s.val = s.val; omega
  | ⟨2, _⟩ => show win0_2.index t (2 : Fin 3) * 512 + 1 * x.val = 512 * (t.val / 4 % 2) + x.val; omega

theorem emb3 (t : Fin cfg0.N) (r : Fin 1024) (x : Fin 512) :
    ((cfg0.win 3).blk t).view.emb (ix3 0 r x) = ix3 (bt t) (rw' t r) ⟨512 * (t.val / 4 % 2) + x.val, by omega⟩ := by
  obtain ⟨e0, e1, e2⟩ := index3 t
  funext a; apply Fin.ext
  match a with
  | ⟨0, _⟩ => show win0_3.index t (0 : Fin 3) * 1 + 1 * 0 = t.val / 8; omega
  | ⟨1, _⟩ => show win0_3.index t (1 : Fin 3) * 1024 + 1 * r.val = 1024 * (t.val % 4) + r.val; omega
  | ⟨2, _⟩ => show win0_3.index t (2 : Fin 3) * 512 + 1 * x.val = 512 * (t.val / 4 % 2) + x.val; omega

variable (m : (ℓ : Loc nD τ sig) → Buf (Elt Ideal) ℓ) (ρ : Dev nD → PrngReg)

/-- The queries, keys and values as launched. -/
def Q (c : Dev nD) : Wide := m ((c : Thread nD τ).loc main_arg0)
def K (c : Dev nD) : Wide := m ((c : Thread nD τ).loc main_arg1)
def W (c : Dev nD) : Narrow := m ((c : Thread nD τ).loc main_arg2)

theorem iblk0_at (c : Dev nD) (t : Fin cfg0.N) (r : Fin 1024) (x : Fin 1024) :
    iblk m c 0 t (ix3 0 r x) = Q m c (ix3 (bt t) (rw' t r) ⟨1024 * (t.val / 4 % 2) + x.val, by omega⟩) :=
  congrArg (Q m c) (emb0 t r x)

theorem iblk1_at (c : Dev nD) (t : Fin cfg0.N) (s : Fin 4096) (x : Fin 1024) :
    iblk m c 1 t (ix3 0 s x) = K m c (ix3 (bt t) s ⟨1024 * (t.val / 4 % 2) + x.val, by omega⟩) :=
  congrArg (K m c) (emb1 t s x)

theorem iblk2_at (c : Dev nD) (t : Fin cfg0.N) (s : Fin 4096) (x : Fin 512) :
    iblk m c 2 t (ix3 0 s x) = W m c (ix3 (bt t) s ⟨512 * (t.val / 4 % 2) + x.val, by omega⟩) :=
  congrArg (W m c) (emb2 t s x)

/-- A block's scores are the masked products of the arrays' rows. -/
theorem sc_at (c : Dev nD) (t : Fin cfg0.N) (g : Fin 4) (r : Fin 1024) (κ : ℕ) :
    sc (iblk m c 0 t) (iblk m c 1 t) (t.val % 4) g r κ
      = if κ ≤ (rw' t r).val then qk (Q m c) (K m c) (bt t) (hd t g) (rw' t r) (Fin.ofNat 4096 κ) else ⊥ := by
  refine if_congr Iff.rfl (Finset.sum_congr rfl fun x _ => ?_) rfl
  refine (Ideal.mul_congr (iblk0_at m c t r _) (iblk1_at m c t _ _)).trans ?_
  congr 4 <;> simp only [hd] <;> omega

/-- A block's values are the array's. -/
theorem vl_at (c : Dev nD) (t : Fin cfg0.N) (g : Fin 4) (κ : ℕ) (e : Fin 128) :
    vl (iblk m c 2 t) g κ e = W m c (ix3 (bt t) (Fin.ofNat 4096 κ) ⟨(hd t g).val * 128 + e.val, by have := (hd t g).isLt; omega⟩) := by
  refine (iblk2_at m c t _ _).trans ?_
  congr 2
  exact Fin.ext (by simp only [hd]; omega)

/-- With finite queries and keys, an entry of what a point leaves in its output block is the attention's. -/
theorem block_at (c : Dev nD) (hq : Finite (Q m c)) (hk : Finite (K m c)) (t : Fin cfg0.N) (g : Fin 4) (r : Fin 1024) (e : Fin 128) :
    out0_A_3 c (grid0.coords t) (ms0_0 t) (hs0_0 t) (ms0_1 t) (hs0_1 t) (ms0_2 t) (hs0_2 t) (ms0_3 t) (hs0_3 t)
        scM0_0 (Memref.isWhole_whole _) scM0_1 (Memref.isWhole_whole _) scM0_2 (Memref.isWhole_whole _)
        (iblk m c 0 t) (iblk m c 1 t) (iblk m c 2 t) (ix3 0 r ⟨128 * g.val + e.val, by omega⟩)
      = attn (Q m c) (K m c) (W m c) (bt t) (hd t g) (rw' t r) e := by
  have hreal := qk_real hq hk (bt t)
  have hn := coord t
  have hs : ∀ g r κ, sc (iblk m c 0 t) (iblk m c 1 t) (grid0.coords t 2).val g r κ ≠ ⊤ := fun g r κ => by
    rw [hn, sc_at]
    split_ifs
    · obtain ⟨x, hx⟩ := hreal (hd t g) (rw' t r) (Fin.ofNat 4096 κ)
      rw [hx]; exact EReal.coe_ne_top _
    · exact bot_ne_top
  have hb : ∀ g r κ, κ ≤ (rw' t r).val → sc (iblk m c 0 t) (iblk m c 1 t) (grid0.coords t 2).val g r κ ≠ ⊥ := fun g r κ h => by
    rw [hn, sc_at, if_pos h]
    obtain ⟨x, hx⟩ := hreal (hd t g) (rw' t r) (Fin.ofNat 4096 κ)
    rw [hx]; exact EReal.coe_ne_bot _
  have h₀ : ∀ g r, sc (iblk m c 0 t) (iblk m c 1 t) (grid0.coords t 2).val g r (512 * (2 * (grid0.coords t 2).val)) ≠ ⊥ :=
    fun g r => hb g r _ (by rw [hn]; simp only [rw']; omega)
  obtain ⟨M, L, A, hrow, hval⟩ := body_row c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    (iblk m c 0 t) (iblk m c 1 t) (iblk m c 2 t) hs h₀ VO0_3 VO0_3.junk g r e
  obtain ⟨μ, hμ⟩ := top_real hq hk (bt t) (hd t g) (rw' t r)
  refine hval.trans ((hrow.finish ?_ (hs g r) ?_ (rw' t r) (hb g r _ le_rfl)
    (logit (Q m c) (K m c) (bt t) (hd t g) (rw' t r)) 0 μ ?_ e).trans ?_)
  · have := (grid0.coords t 2).isLt
    intro x hx
    rw [hn] at hx
    split_ifs at hx <;> simp only [Finset.mem_insert, Finset.mem_range] at hx ⊢ <;> omega
  · intro τ hτ hT j hj
    rw [hn, sc_at, if_neg]
    rw [hn] at hT
    simp only [rw']
    split_ifs at hT <;> simp only [Finset.mem_insert, Finset.mem_range, not_or] at hT <;> omega
  · intro s
    rw [hn, sc_at, EReal.coe_zero, add_zero, ofNat_eq s.isLt]
    unfold logit
    split_ifs
    · rfl
    · exact (EReal.bot_mul_coe_of_pos (Real.log_pos (by norm_num))).symm
  · unfold attn
    rw [hμ]
    refine Finset.sum_congr rfl fun s _ => ?_
    rw [vl_at, ofNat_eq s.isLt]

/-- What a point writes back is its block of the attention of the arguments. -/
theorem flushed_eq (c : Dev nD) (hq : Finite (Q m c)) (hk : Finite (K m c)) (t : Fin cfg0.N) :
    (dats m 0 c).flushed 3 t = ((cfg0.win 3).blk t).view.read (Elt Ideal) (result (Q m c) (K m c) (W m c)) := by
  rw [flushed3_A]
  funext (j : S1x1024x512.Idx)
  obtain ⟨z, r, x, rfl⟩ : ∃ (z : Fin 1) (r : Fin 1024) (x : Fin 512), j = ix3 z r x := ⟨j 0, j 1, j 2, eq_ix3 j⟩
  obtain rfl : z = 0 := Subsingleton.elim _ _
  obtain ⟨g, e, hx⟩ : ∃ (g : Fin 4) (e : Fin 128), x = ⟨128 * g.val + e.val, by omega⟩ :=
    ⟨⟨x.val / 128, by omega⟩, ⟨x.val % 128, by omega⟩, Fin.ext (by simp only; omega)⟩
  subst hx
  refine (block_at m c hq hk t g r e).trans ?_
  show _ = result (Q m c) (K m c) (W m c) (((cfg0.win 3).blk t).view.emb (ix3 0 r _))
  rw [emb3]
  show _ = attn (Q m c) (K m c) (W m c) (bt t) _ (rw' t r) _
  congr 1
  · exact Fin.ext (by show 4 * (t.val / 4 % 2) + g.val = (512 * (t.val / 4 % 2) + (128 * g.val + e.val)) / 128; omega)
  · exact Fin.ext (by show e.val = (512 * (t.val / 4 % 2) + (128 * g.val + e.val)) % 128; omega)

/-- Every entry of the result array is in some point's block. -/
theorem covered (i : S16x4096x1024.Idx) :
    ∃ t : Fin cfg0.N, (cfg0.win 3).flush t = true ∧ i ∈ ((cfg0.win 3).blk t).view.set := by
  obtain ⟨b, s, x, rfl⟩ : ∃ (b : Fin 16) (s : Fin 4096) (x : Fin 1024), i = ix3 b s x := ⟨i 0, i 1, i 2, eq_ix3 i⟩
  refine ⟨⟨8 * b.val + 4 * (x.val / 512) + s.val / 1024, by rw [show cfg0.N = 128 from N_0]; omega⟩, flush0_3 _, ?_⟩
  have h := ((cfg0.win 3).blk (⟨8 * b.val + 4 * (x.val / 512) + s.val / 1024, by rw [show cfg0.N = 128 from N_0]; omega⟩ : Fin cfg0.N)).view.emb_mem_set
    (ix3 0 ⟨s.val % 1024, by omega⟩ ⟨x.val % 512, by omega⟩)
  rw [emb3] at h
  have e : ix3 b s x = ix3 (bt ⟨8 * b.val + 4 * (x.val / 512) + s.val / 1024, by rw [show cfg0.N = 128 from N_0]; omega⟩)
      (rw' ⟨8 * b.val + 4 * (x.val / 512) + s.val / 1024, by rw [show cfg0.N = 128 from N_0]; omega⟩ ⟨s.val % 1024, by omega⟩)
      ⟨512 * ((8 * b.val + 4 * (x.val / 512) + s.val / 1024) / 4 % 2) + x.val % 512, by omega⟩ :=
    (ix3_inj ..).2 ⟨Fin.ext (by simp only [bt]; omega), Fin.ext (by simp only [rw']; omega), Fin.ext (by simp only; omega)⟩
  exact e ▸ h

/-- The result array after the run is the attention of the arguments. -/
theorem final (c : Dev nD) (hq : Finite (Q m c)) (hk : Finite (K m c)) :
    (dats m 0 c).arrAt 3 cfg0.N = result (Q m c) (K m c) (W m c) :=
  (dats m 0 c).arrAt_eq_of_cover 3 (result (Q m c) (K m c) (W m c)) (fun t _ => flushed_eq m c hq hk t) covered

end Cert.KernelIdeal.Value

end
-- ==== Proof.RefValue.lean ====
/- What the reference computes: `FlashRow.result` of its arguments; and what the precondition says of them. -/
module

public import proofs.«01_k».proof.Proof.Gen.ReferenceIdeal.Run
public import proofs.«01_k».proof.Proof.Attention
public import proofs.«01_k».proof.Proof.Reads
public import proofs.«01_k».proof.Pre_finite_queries_and_keys

@[expose] public section

set_option maxRecDepth 16384

noncomputable section

namespace Cert.ReferenceIdeal.Value

open Cert.ReferenceIdeal Cert.ReferenceIdeal.Gen Idealize.ShloMosaic Idealize.ShloMosaic.TcCoe Idealize.SL.Sem FlashRow

/-- The mask's filler is the least extended real, -/
theorem filler : Ideal.ofBits FTy.f32 4286578688#32 = ⊥ := by
  simp [Ideal.ofBits, Ideal.ieee]

/-- and the factor of the logits is ln 2. -/
theorem factor : Ideal.log (Ideal.ofBits FTy.f32 1073741824#32) = (Real.log 2 : ℝ) := by
  have : Ideal.ofBits FTy.f32 1073741824#32 = ((2 : ℝ) : EReal) := by
    simp [Ideal.ofBits, Ideal.ieee]
    rw [← EReal.coe_mul]; norm_num
  rw [this, Ideal.log_coe, if_neg (by norm_num)]

/-- The order of two positions, as words, is theirs as numbers. -/
theorem order (s t : Fin 4096) (x y : EReal) :
    Scalar.select (IntOp.cmpi CmpIPredicate.sle (BitVec.ofNat 32 s.val) (BitVec.ofNat 32 t.val)) x y
      = if s.val ≤ t.val then x else y := by
  rw [Cert.KernelIdeal.Value.sle_word s.isLt t.isLt]
  by_cases h : s.val ≤ t.val
  · rw [if_pos h, if_pos h]; rfl
  · rw [if_neg h, if_neg h]; rfl

/-- A maximum over the last of four axes, from its initial value. -/
theorem largest {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = Finset.univ.fold max (init (Shape.Idx.first hu)) fun d : Fin n3 => x (ix4 a b c d) := by
  pointwise [Host.reduce_eq_fold]

/-- The same from the least value, compared with it once more: the largest entry. -/
theorem largest_bot {n0 n1 n2 n3 : ℕ} (x : FVec Ideal ⟨4, ![n0, n1, n2, n3]⟩ .f32)
    (hb : S_.BroadcastsInDim ⟨3, ![n0, n1, n2]⟩ ![])
    (h : (⟨4, ![n0, n1, n2, n3]⟩ : Shape).ReducesTo [3] ⟨3, ![n0, n1, n2]⟩) (hu : 0 < S_.numel) (a : Fin n0) (b : Fin n1) (c : Fin n2) :
    maximumf (F := Ideal) (φ := .f32) (broadcastInDim ⟨3, ![n0, n1, n2]⟩ ![] hb (constant S_ .f32 0xFF800000#32))
        (Host.reduce FloatOps.maximumf x (constant S_ .f32 0xFF800000#32) h hu) (ix3 a b c)
      = Finset.univ.fold max ⊥ fun d : Fin n3 => x (ix4 a b c d) := by
  pointwise [largest]
  rw [filler, max_bot_left]

/-- Queries or keys, head by head. -/
def wide (x : FVec Ideal S16x4096x2048 .bf16) : FVec Ideal S16x8x4096x256 .f32 :=
  transpose S16x8x4096x256 [0, 2, 1, 3] (shapeCast _ (extf .f32 x bitsLt_bf16_f32) shapeCasts_S16x4096x2048_S16x4096x8x256)
    transposes_S16x4096x8x256_S16x8x4096x256_0_2_1_3

/-- Values, head by head. -/
def narrow (x : FVec Ideal S16x4096x1024 .bf16) : FVec Ideal S16x8x4096x128 .f32 :=
  transpose S16x8x4096x128 [0, 2, 1, 3] (shapeCast _ (extf .f32 x bitsLt_bf16_f32) shapeCasts_S16x4096x1024_S16x4096x8x128)
    transposes_S16x4096x8x128_S16x8x4096x128_0_2_1_3

/-- Heads side by side again. -/
def joined (x : FVec Ideal S16x8x4096x128 .f32) : FVec Ideal S16x4096x1024 .bf16 :=
  truncf .bf16 (shapeCast _ (transpose S16x4096x8x128 [0, 2, 1, 3] x transposes_S16x8x4096x128_S16x4096x8x128_0_2_1_3)
    shapeCasts_S16x4096x8x128_S16x4096x1024) bitsLt_bf16_f32

/-- Whether a key comes no later than the query. -/
def past : IVec S16x8x4096x4096 1 :=
  broadcastInDim S16x8x4096x4096 ![2, 3] bcast_S4096x4096_S16x8x4096x4096_2_3
    (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- Queries times keys. -/
def products (q k : FVec Ideal S16x8x4096x256 .f32) : FVec Ideal S16x8x4096x4096 .f32 :=
  Host.dotGeneral dot_S16x8x4096x256_S16x8x4096x256_S16x8x4096x4096_3_3_2_2_01_01 none q k

/-- The products in natural units, masked. -/
def logits (s : FVec Ideal S16x8x4096x4096 .f32) : FVec Ideal S16x8x4096x4096 .f32 :=
  select past (mulf s (broadcastInDim S16x8x4096x4096 ![] bcast_S_S16x8x4096x4096 (Host.log (constant S_ .f32 0x40000000#32))))
    (broadcastInDim S16x8x4096x4096 ![] bcast_S_S16x8x4096x4096 (id (constant S_ .f32 0xFF800000#32)))

/-- Each row's largest logit. -/
def tops (s : FVec Ideal S16x8x4096x4096 .f32) : FVec Ideal S16x8x4096 .f32 :=
  maximumf (broadcastInDim S16x8x4096 ![] bcast_S_S16x8x4096 (constant S_ .f32 0xFF800000#32))
    (Host.reduce FloatOps.maximumf s (constant S_ .f32 0xFF800000#32) reducesTo_S16x8x4096x4096_S16x8x4096_d3 h_S_)

/-- A number of each row, at every key of it. -/
def spread (x : FVec Ideal S16x8x4096 .f32) : FVec Ideal S16x8x4096x4096 .f32 :=
  broadcastInDim S16x8x4096x4096 ![0, 1, 2, 3] bcast_S16x8x4096x1_S16x8x4096x4096_0_1_2_3
    (broadcastInDim S16x8x4096x1 ![0, 1, 2] bcast_S16x8x4096_S16x8x4096x1_0_1_2 x)

/-- The exponentials of the logits below their row's largest. -/
def powers (s : FVec Ideal S16x8x4096x4096 .f32) : FVec Ideal S16x8x4096x4096 .f32 :=
  Host.exp (subf s (spread (tops s)))

/-- The weights: a row's exponentials over their sum. -/
def weights (p : FVec Ideal S16x8x4096x4096 .f32) : FVec Ideal S16x8x4096x4096 .f32 :=
  Host.divf p (spread (Host.reduceAdd p (constant S_ .f32 0x00000000#32) reducesTo_S16x8x4096x4096_S16x8x4096_d3 h_S_))

/-- The weighted sums of the values. -/
def mixed (w : FVec Ideal S16x8x4096x4096 .f32) (v : FVec Ideal S16x8x4096x128 .f32) : FVec Ideal S16x8x4096x128 .f32 :=
  Host.dotGeneral dot_S16x8x4096x4096_S16x8x4096x128_S16x8x4096x128_3_2_2_3_01_01 none w v

section reads
variable (b : Fin 16) (h : Fin 8) (t s : Fin 4096)

theorem wide_at (x : FVec Ideal S16x4096x2048 .bf16) (d : Fin 256) :
    wide x (ix4 b h t d) = x (ix3 b t ⟨h.val * 256 + d.val, by omega⟩) := by
  pointwise [wide]

theorem narrow_at (x : FVec Ideal S16x4096x1024 .bf16) (d : Fin 128) :
    narrow x (ix4 b h t d) = x (ix3 b t ⟨h.val * 128 + d.val, by omega⟩) := by
  pointwise [narrow]

theorem joined_at (x : FVec Ideal S16x8x4096x128 .f32) (d : Fin 128) :
    joined x (ix3 b t ⟨h.val * 128 + d.val, by omega⟩) = x (ix4 b h t d) := by
  pointwise [joined]

theorem past_at : past (ix4 b h t s) = IntOp.cmpi .sle (BitVec.ofNat 32 s.val) (BitVec.ofNat 32 t.val) := by
  pointwise [past]

theorem products_at (q k : FVec Ideal S16x8x4096x256 .f32) :
    products q k (ix4 b h t s) = ∑ d : Fin 256, q (ix4 b h t d) * k (ix4 b h s d) := by
  pointwise [products]

theorem logits_at (x : FVec Ideal S16x8x4096x4096 .f32) :
    logits x (ix4 b h t s) = if s.val ≤ t.val then x (ix4 b h t s) * (Real.log 2 : ℝ) else ⊥ := by
  pointwise [logits, past_at]
  rw [order, factor]
  exact if_congr Iff.rfl rfl filler

theorem spread_at (x : FVec Ideal S16x8x4096 .f32) : spread x (ix4 b h t s) = x (ix3 b h t) := by
  pointwise [spread]

theorem tops_at (x : FVec Ideal S16x8x4096x4096 .f32) :
    tops x (ix3 b h t) = Finset.univ.fold max ⊥ fun s : Fin 4096 => x (ix4 b h t s) := by
  exact largest_bot x _ _ _ b h t

theorem powers_at (x : FVec Ideal S16x8x4096x4096 .f32) :
    powers x (ix4 b h t s) = Ideal.exp (x (ix4 b h t s) - Finset.univ.fold max ⊥ fun s : Fin 4096 => x (ix4 b h t s)) := by
  pointwise [powers, spread_at, tops_at]

theorem weights_at (x : FVec Ideal S16x8x4096x4096 .f32) :
    weights x (ix4 b h t s) = Ideal.div (x (ix4 b h t s)) (∑ s : Fin 4096, x (ix4 b h t s)) := by
  pointwise [weights, spread_at]

theorem mixed_at (w : FVec Ideal S16x8x4096x4096 .f32) (v : FVec Ideal S16x8x4096x128 .f32) (e : Fin 128) :
    mixed w v (ix4 b h t e) = ∑ s : Fin 4096, w (ix4 b h t s) * v (ix4 b h s e) := by
  pointwise [mixed]

end reads

variable (m : (ℓ : Loc nD τ sig) → Buf (Elt Ideal) ℓ)

/-- The reference's result, stage by stage. -/
theorem stages (c : Dev nD) : res_main_v34 m c
    = joined (mixed (weights (powers (logits (products (wide (m ((c : Thread nD τ).loc main_arg0))) (wide (m ((c : Thread nD τ).loc main_arg1)))))))
        (narrow (m ((c : Thread nD τ).loc main_arg2)))) := rfl

/-- The reference's result, entry by entry, is the attention of its arguments. -/
theorem entry (c : Dev nD) (b : Fin 16) (t : Fin 4096) (h : Fin 8) (e : Fin 128) :
    res_main_v34 m c (ix3 b t ⟨h.val * 128 + e.val, by omega⟩)
      = attn (m ((c : Thread nD τ).loc main_arg0)) (m ((c : Thread nD τ).loc main_arg1)) (m ((c : Thread nD τ).loc main_arg2)) b h t e := by
  rw [stages, joined_at, mixed_at]
  simp only [weights_at, powers_at, logits_at, products_at, wide_at, narrow_at, attn, top, logit, qk]

end Cert.ReferenceIdeal.Value

end
-- ==== Proof.Finiteness.lean ====
/- What the precondition says over the extended reals: every query and every key is a real number. -/
module

public import proofs.«01_k».proof.Proof.Attention
public import Idealize.ShloMosaic.Lib.Affine
public import proofs.«01_k».proof.Pre_finite_queries_and_keys

@[expose] public section

set_option maxRecDepth 16384

noncomputable section

namespace Cert.Pre_finite_queries_and_keys

open Idealize.ShloMosaic FlashRow

variable [Facts]

/-- The bound of the comparison is the greatest extended real. -/
theorem bound : Ideal.ofBits FTy.bf16 32640#16 = ⊤ := by simp [Ideal.ofBits, Ideal.ieee]

/-- A magnitude below the greatest extended real is a real number's. -/
theorem real_of_abs {x : EReal} (h : max x (-x) < ⊤) : x ≠ ⊤ ∧ x ≠ ⊥ :=
  ⟨fun e => by rw [e] at h; simp at h, fun e => by rw [e] at h; simp at h⟩

/-- Where the precondition holds, queries and keys are finite. -/
theorem finite (q k : FVec Ideal S16x4096x2048 .bf16) (v : FVec Ideal S16x4096x1024 .bf16)
    (h : fn q k v = fun _ => 1#1) : Finite q ∧ Finite k := by
  have key : ∀ i, (q i ≠ ⊤ ∧ q i ≠ ⊥) ∧ (k i ≠ ⊤ ∧ k i ≠ ⊥) := by
    intro i
    have hi := congrFun h i
    pointwise [fn] at hi
    obtain ⟨h1, h2⟩ := IntOp.andi_eq_one.1 hi
    have one : ∀ x : EReal, BitVec.ofBool (decide (max x (-x) < Ideal.ofBits FTy.bf16 32640#16)) = 1#1 → x ≠ ⊤ ∧ x ≠ ⊥ := by
      intro x hx
      by_cases hd : max x (-x) < Ideal.ofBits FTy.bf16 32640#16
      · exact real_of_abs (bound ▸ hd)
      · rw [decide_eq_false hd] at hx; exact absurd hx (by decide)
    exact ⟨one _ h1, one _ h2⟩
  exact ⟨fun i => (key i).1, fun i => (key i).2⟩

end Cert.Pre_finite_queries_and_keys

end
-- ==== Proof.FoxParts.lean ====
/- What the forgetting attention's kernel stores, head by head, in the same forms as the other attention's kernel: only
   the scores differ. -/
module

public import proofs.«01_k».proof.Proof.Body
public import proofs.«01_k».proof.Proof.Gen.FoxIdeal.Frame

@[expose] public section

set_option maxRecDepth 16384

noncomputable section

namespace Cert.FoxIdeal.Value

open Cert.FoxIdeal Cert.FoxIdeal.Gen Idealize.ShloMosaic Idealize.ShloMosaic.TcCoe Idealize.SL.Sem
open Cert.KernelIdeal.Value (upM upL upA fiM fiL fiA loM loL loA fin four blk0 blk1 blk2 blk3 low0 low1 low2 low3 pc0 pc1 pc2 pc3 outs tailOut vB)

variable {F : FTy → Type} [FloatOps F]

/-- Head `g`'s queries, and beside them minus one in the three lanes of the decay terms of head `4 a + g`, nothing in the
others. -/
def ext (g a : BitVec 32) (q : Vec F S1x1024x128 .bf16) : FVec F S1024x256 .bf16 :=
  concatenate S1024x256 1
    [⟨S1024x128, shapeCast S1024x128 q shapeCasts_S1x1024x128_S1024x128⟩,
     ⟨S1024x128, truncf .bf16 (select
        (andi (cmpi .sge (subi (iota .tc S1024x128 32 [1] iota_S1024x128_d1_w32) (broadcast S1024x128 (Scalar.muli 3#32 (Scalar.addi (Scalar.muli a 4#32) g))))
            (broadcast S1024x128 0#32))
          (cmpi .slt (subi (iota .tc S1024x128 32 [1] iota_S1024x128_d1_w32) (broadcast S1024x128 (Scalar.muli 3#32 (Scalar.addi (Scalar.muli a 4#32) g))))
            (broadcast S1024x128 3#32)))
        (broadcast S1024x128 (Scalar.ofBits .f32 0xBF800000#32)) (broadcast S1024x128 (Scalar.ofBits .f32 0x00000000#32))) bitsLt_bf16_f32⟩]
    concatenates_S1024x128_S1024x128_S1024x256_d1

/-- The unmasked scores of a tile, from the extended queries, the keys and the decay terms. -/
def score (q : FVec F S1024x256 .bf16) (k kb : Vec F S1x512x128 .bf16) : FVec F S1024x512 .f32 := k0_pay2 q k kb

/-- The scores of the first diagonal tile, masked above the diagonal. -/
def scoreD (q : FVec F S1024x256 .bf16) (k kb : Vec F S1x512x128 .bf16) : FVec F S1024x512 .f32 := k0_pay102 q k kb

/-- The scores of the second diagonal tile, of the lower 512 rows, masked above the diagonal. -/
def scoreE (q : FVec F S1024x256 .bf16) (k kb : Vec F S1x512x128 .bf16) : FVec F S512x512 .f32 := k0_pay169 q k kb

/-- A head's queries of the block, from the corner `o`. -/
def qB (arg3 : Memref sig .tc .vmem S1x1024x512 .bf16) (X : BufTy.Contents (Elt F) arg3.view.ty) (o : Fin 3 → ℕ)
    (h : ∀ a, o a + S1x1024x128.size a ≤ S1x1024x512.size a) : Vec F S1x1024x128 .bf16 :=
  arg3.view.readAt (Elt F) (Rect.unit (s := S1x1024x512) o S1x1024x128.size h).toLoadRect X

/-- A block of 512 rows of the decay terms, from the corner `o`. -/
def dB (arg5 : Memref sig .tc .vmem S1x4096x128 .bf16) (X : BufTy.Contents (Elt F) arg5.view.ty) (o : Fin 3 → ℕ)
    (h : ∀ a, o a + S1x512x128.size a ≤ S1x4096x128.size a) : Vec F S1x512x128 .bf16 :=
  arg5.view.readAt (Elt F) (Rect.unit (s := S1x4096x128) o S1x512x128.size h).toLoadRect X

set_option maxHeartbeats 4000000 in
/-- One trip of the loop: every head's block of the three scratch arrays is updated by the trip's tile. -/
theorem trip_pieces (𝒱 : Variants) (c : Dev nD) (bd : Option 𝒱.V) (i : grid0.Coords) (arg3 : Memref sig .tc .vmem S1x1024x512 .bf16) (harg3 : arg3.IsWhole) (arg4 : Memref sig .tc .vmem S1x4096x512 .bf16) (harg4 : arg4.IsWhole) (arg5 : Memref sig .tc .vmem S1x4096x128 .bf16) (harg5 : arg5.IsWhole) (arg6 : Memref sig .tc .vmem S1x4096x512 .bf16) (harg6 : arg6.IsWhole) (arg7 : Memref sig .tc .vmem S1x1024x512 .bf16) (harg7 : arg7.IsWhole) (arg8 : Memref sig .tc .vmem S4x1024x128 .f32) (harg8 : arg8.IsWhole) (arg9 : Memref sig .tc .vmem S4x1024x128 .f32) (harg9 : arg9.IsWhole) (arg10 : Memref sig .tc .vmem S4x1024x128 .f32) (harg10 : arg10.IsWhole) (arg2 : BitVec 32) (v17 v35 v53 v71 : FVec F S1024x256 .bf16) (v262 : FVec F S512x128 .bf16) (v266 : FVec F S1024x128 .f32) (v272 v277 v282 : FVec F S1024x128 .bf16) (v286 : FVec F S1024x128 .f32) (v287 : FVec F S1024x128 .bf16) (X4 : BufTy.Contents (Elt F) arg4.view.ty) (X5 : BufTy.Contents (Elt F) arg5.view.ty) (X6 : BufTy.Contents (Elt F) arg6.view.ty) (k : Fin (k0_t1_loop i).trips) (f7 : BufTy.Contents (Elt F) arg8.view.ty) (f8 : BufTy.Contents (Elt F) arg9.view.ty) (f9 : BufTy.Contents (Elt F) arg10.view.ty)
    (S0 S1 S2 S3 : FVec F S1024x512 .f32) (w0 w1 w2 w3 : Vec F S1x512x128 .bf16)
    (hS0 : S0 = score v17 (vB arg4 X4 (k0_off6 i k) (k0_off6_inb i k)) (dB arg5 X5 (k0_off7 i k) (k0_off7_inb i k)))
    (hw0 : w0 = vB arg6 X6 (k0_off6 i k) (k0_off6_inb i k))
    (hS1 : S1 = score v35 (vB arg4 X4 (k0_off8 i k) (k0_off8_inb i k)) (dB arg5 X5 (k0_off7 i k) (k0_off7_inb i k)))
    (hw1 : w1 = vB arg6 X6 (k0_off8 i k) (k0_off8_inb i k))
    (hS2 : S2 = score v53 (vB arg4 X4 (k0_off9 i k) (k0_off9_inb i k)) (dB arg5 X5 (k0_off7 i k) (k0_off7_inb i k)))
    (hw2 : w2 = vB arg6 X6 (k0_off9 i k) (k0_off9_inb i k))
    (hS3 : S3 = score v71 (vB arg4 X4 (k0_off10 i k) (k0_off10_inb i k)) (dB arg5 X5 (k0_off7 i k) (k0_off7_inb i k)))
    (hw3 : w3 = vB arg6 X6 (k0_off10 i k) (k0_off10_inb i k)) :
    tripL_k0_t1 (F := F) 𝒱 c bd i arg3 harg3 arg4 harg4 arg5 harg5 arg6 harg6 arg7 harg7 arg8 harg8 arg9 harg9 arg10 harg10 arg2 v17 v35 v53 v71 v262 v266 v272 v277 v282 v286 v287 X4 X5 X6 k f7 f8 f9
      = (four (upM S0 (blk0 arg8.view f7)) (upM S1 (blk1 arg8.view f7)) (upM S2 (blk2 arg8.view f7)) (upM S3 (blk3 arg8.view f7)),
         four (upL S0 (blk0 arg8.view f7) (blk0 arg9.view f8)) (upL S1 (blk1 arg8.view f7) (blk1 arg9.view f8)) (upL S2 (blk2 arg8.view f7) (blk2 arg9.view f8)) (upL S3 (blk3 arg8.view f7) (blk3 arg9.view f8)),
         four (upA S0 w0 (blk0 arg8.view f7) (blk0 arg10.view f9)) (upA S1 w1 (blk1 arg8.view f7) (blk1 arg10.view f9)) (upA S2 w2 (blk2 arg8.view f7) (blk2 arg10.view f9)) (upA S3 w3 (blk3 arg8.view f7) (blk3 arg10.view f9))) := by
  subst hS0 hS1 hS2 hS3 hw0 hw1 hw2 hw3
  unfold tripL_k0_t1 trip_k0_t1
  dsimp only [four]
  refine congrArg₂ Prod.mk ?_ (congrArg₂ Prod.mk ?_ ?_)
  · refine congrArg₂ List.cons (congrArg (Sigma.mk _) ?_) (congrArg₂ List.cons (congrArg (Sigma.mk _) ?_)
      (congrArg₂ List.cons (congrArg (Sigma.mk _) ?_) (congrArg₂ List.cons (congrArg (Sigma.mk _) ?_) rfl)))
    all_goals rfl
  · refine congrArg₂ List.cons (congrArg (Sigma.mk _) ?_) (congrArg₂ List.cons (congrArg (Sigma.mk _) ?_)
      (congrArg₂ List.cons (congrArg (Sigma.mk _) ?_) (congrArg₂ List.cons (congrArg (Sigma.mk _) ?_) rfl)))
    all_goals rfl
  · refine congrArg₂ List.cons (congrArg (Sigma.mk _) ?_) (congrArg₂ List.cons (congrArg (Sigma.mk _) ?_)
      (congrArg₂ List.cons (congrArg (Sigma.mk _) ?_) (congrArg₂ List.cons (congrArg (Sigma.mk _) ?_) rfl)))
    all_goals rfl

/-! ## What the body leaves -/

section body
variable (c : Dev nD) (i : grid0.Coords) (arg3 : Memref sig .tc .vmem S1x1024x512 .bf16) (harg3 : arg3.IsWhole) (arg4 : Memref sig .tc .vmem S1x4096x512 .bf16) (harg4 : arg4.IsWhole) (arg5 : Memref sig .tc .vmem S1x4096x128 .bf16) (harg5 : arg5.IsWhole) (arg6 : Memref sig .tc .vmem S1x4096x512 .bf16) (harg6 : arg6.IsWhole) (arg7 : Memref sig .tc .vmem S1x1024x512 .bf16) (harg7 : arg7.IsWhole) (arg8 : Memref sig .tc .vmem S4x1024x128 .f32) (harg8 : arg8.IsWhole) (arg9 : Memref sig .tc .vmem S4x1024x128 .f32) (harg9 : arg9.IsWhole) (arg10 : Memref sig .tc .vmem S4x1024x128 .f32) (harg10 : arg10.IsWhole)
  (x0 : Vec F S1x1024x512 .bf16) (x1 : Vec F S1x4096x512 .bf16) (x2 : Vec F S1x4096x128 .bf16) (x3 : Vec F S1x4096x512 .bf16)
  (S0 S1 S2 S3 : FVec F S1024x512 .f32) (w0 w1 w2 w3 u0 u1 u2 u3 : Vec F S1x512x128 .bf16) (E0 E1 E2 E3 : FVec F S512x512 .f32)
  (hS0 : S0 = scoreD (ext 0#32 (BitVec.ofNat 32 (i 1).val) (qB arg3 (harg3.unread x0) ![0, 0, 0] inb_S1x1024x512_S1x1024x128_0_0_0)) (vB arg4 (harg4.unread x1) (k0_off1 i 0#32) (k0_off1_inb i 0)) (dB arg5 (harg5.unread x2) (k0_off2 i 0#32) (k0_off2_inb i 0)))
  (hw0 : w0 = vB arg6 (harg6.unread x3) (k0_off1 i 0#32) (k0_off1_inb i 0))
  (hE0 : E0 = scoreE (ext 0#32 (BitVec.ofNat 32 (i 1).val) (qB arg3 (harg3.unread x0) ![0, 0, 0] inb_S1x1024x512_S1x1024x128_0_0_0)) (vB arg4 (harg4.unread x1) (k0_off1 i 512#32) (k0_off1_inb i 1)) (dB arg5 (harg5.unread x2) (k0_off2 i 512#32) (k0_off2_inb i 1)))
  (hu0 : u0 = vB arg6 (harg6.unread x3) (k0_off1 i 512#32) (k0_off1_inb i 1))
  (hS1 : S1 = scoreD (ext 1#32 (BitVec.ofNat 32 (i 1).val) (qB arg3 (harg3.unread x0) ![0, 0, 128] inb_S1x1024x512_S1x1024x128_0_0_128)) (vB arg4 (harg4.unread x1) (k0_off3 i 0#32) (k0_off3_inb i 0)) (dB arg5 (harg5.unread x2) (k0_off2 i 0#32) (k0_off2_inb i 0)))
  (hw1 : w1 = vB arg6 (harg6.unread x3) (k0_off3 i 0#32) (k0_off3_inb i 0))
  (hE1 : E1 = scoreE (ext 1#32 (BitVec.ofNat 32 (i 1).val) (qB arg3 (harg3.unread x0) ![0, 0, 128] inb_S1x1024x512_S1x1024x128_0_0_128)) (vB arg4 (harg4.unread x1) (k0_off3 i 512#32) (k0_off3_inb i 1)) (dB arg5 (harg5.unread x2) (k0_off2 i 512#32) (k0_off2_inb i 1)))
  (hu1 : u1 = vB arg6 (harg6.unread x3) (k0_off3 i 512#32) (k0_off3_inb i 1))
  (hS2 : S2 = scoreD (ext 2#32 (BitVec.ofNat 32 (i 1).val) (qB arg3 (harg3.unread x0) ![0, 0, 256] inb_S1x1024x512_S1x1024x128_0_0_256)) (vB arg4 (harg4.unread x1) (k0_off4 i 0#32) (k0_off4_inb i 0)) (dB arg5 (harg5.unread x2) (k0_off2 i 0#32) (k0_off2_inb i 0)))
  (hw2 : w2 = vB arg6 (harg6.unread x3) (k0_off4 i 0#32) (k0_off4_inb i 0))
  (hE2 : E2 = scoreE (ext 2#32 (BitVec.ofNat 32 (i 1).val) (qB arg3 (harg3.unread x0) ![0, 0, 256] inb_S1x1024x512_S1x1024x128_0_0_256)) (vB arg4 (harg4.unread x1) (k0_off4 i 512#32) (k0_off4_inb i 1)) (dB arg5 (harg5.unread x2) (k0_off2 i 512#32) (k0_off2_inb i 1)))
  (hu2 : u2 = vB arg6 (harg6.unread x3) (k0_off4 i 512#32) (k0_off4_inb i 1))
  (hS3 : S3 = scoreD (ext 3#32 (BitVec.ofNat 32 (i 1).val) (qB arg3 (harg3.unread x0) ![0, 0, 384] inb_S1x1024x512_S1x1024x128_0_0_384)) (vB arg4 (harg4.unread x1) (k0_off5 i 0#32) (k0_off5_inb i 0)) (dB arg5 (harg5.unread x2) (k0_off2 i 0#32) (k0_off2_inb i 0)))
  (hw3 : w3 = vB arg6 (harg6.unread x3) (k0_off5 i 0#32) (k0_off5_inb i 0))
  (hE3 : E3 = scoreE (ext 3#32 (BitVec.ofNat 32 (i 1).val) (qB arg3 (harg3.unread x0) ![0, 0, 384] inb_S1x1024x512_S1x1024x128_0_0_384)) (vB arg4 (harg4.unread x1) (k0_off5 i 512#32) (k0_off5_inb i 1)) (dB arg5 (harg5.unread x2) (k0_off2 i 512#32) (k0_off2_inb i 1)))
  (hu3 : u3 = vB arg6 (harg6.unread x3) (k0_off5 i 512#32) (k0_off5_inb i 1))

include hS0 hS1 hS2 hS3 in
/-- The scratch array of the maxima after the first diagonal tile. -/
theorem first_m : kernelRun0_A.sl.HS0_4 c i arg3 harg3 arg4 harg4 arg5 harg5 x0 x1 x2 = four (fiM S0) (fiM S1) (fiM S2) (fiM S3) := by
  subst hS0 hS1 hS2 hS3
  rfl

include hS0 hS1 hS2 hS3 in
/-- The scratch array of the lane sums after the first diagonal tile. -/
theorem first_l : kernelRun0_A.sl.HS1_4 c i arg3 harg3 arg4 harg4 arg5 harg5 x0 x1 x2 = four (fiL S0) (fiL S1) (fiL S2) (fiL S3) := by
  subst hS0 hS1 hS2 hS3
  rfl

include hS0 hS1 hS2 hS3 hw0 hw1 hw2 hw3 in
/-- The scratch array of the accumulators after the first diagonal tile. -/
theorem first_a : kernelRun0_A.sl.HS2_4 c i arg3 harg3 arg4 harg4 arg5 harg5 arg6 harg6 x0 x1 x2 x3 = four (fiA S0 w0) (fiA S1 w1) (fiA S2 w2) (fiA S3 w3) := by
  subst hS0 hS1 hS2 hS3 hw0 hw1 hw2 hw3
  rfl

include hE0 hE1 hE2 hE3 hu0 hu1 hu2 hu3 in
set_option maxHeartbeats 4000000 in
/-- The output's pieces: the second diagonal tile and the quotients, over what the loop leaves. -/
theorem body_tail : (kernelRun0_A (F := F) c i arg3 harg3 arg4 harg4 arg5 harg5 arg6 harg6 arg7 harg7 arg8 harg8 arg9 harg9 arg10 harg10 x0 x1 x2 x3).1
      = tailOut arg8.view arg9.view arg10.view (kernelRun0_A.sl.HS0_1 c i arg3 harg3 arg4 harg4 arg5 harg5 arg6 harg6 arg7 harg7 arg8 harg8 arg9 harg9 arg10 harg10 x0 x1 x2 x3).tail (kernelRun0_A.sl.HS1_1 c i arg3 harg3 arg4 harg4 arg5 harg5 arg6 harg6 arg7 harg7 arg8 harg8 arg9 harg9 arg10 harg10 x0 x1 x2 x3).tail
          (kernelRun0_A.sl.HS2_1 c i arg3 harg3 arg4 harg4 arg5 harg5 arg6 harg6 arg7 harg7 arg8 harg8 arg9 harg9 arg10 harg10 x0 x1 x2 x3).tail E0 E1 E2 E3 u0 u1 u2 u3 := by
  subst hE0 hE1 hE2 hE3 hu0 hu1 hu2 hu3
  rfl

/-- The remainder loop makes no trip. -/
theorem trips2 : Scf.trips (k0_t2_loop i).lb (k0_t2_loop i).ub (k0_t2_loop i).st = 0 :=
  Scf.rem_trips _ _

set_option maxHeartbeats 4000000 in
/-- What the three scratch arrays hold before the second diagonal tile: the first diagonal tile's pieces under the loop's. -/
theorem body_base : ∃ (v262 : FVec F S512x128 .bf16) (v266 : FVec F S1024x128 .f32) (v272 v277 v282 : FVec F S1024x128 .bf16) (v286 : FVec F S1024x128 .f32) (v287 : FVec F S1024x128 .bf16),
      let pb := pb_k0_t1 (F := F) Variants.none c none i arg3 harg3 arg4 harg4 arg5 harg5 arg6 harg6 arg7 harg7 arg8 harg8 arg9 harg9 arg10 harg10 (BitVec.ofNat 32 ↑(i 2))
        (ext 0#32 (BitVec.ofNat 32 (i 1).val) (qB arg3 (harg3.unread x0) ![0, 0, 0] inb_S1x1024x512_S1x1024x128_0_0_0)) (ext 1#32 (BitVec.ofNat 32 (i 1).val) (qB arg3 (harg3.unread x0) ![0, 0, 128] inb_S1x1024x512_S1x1024x128_0_0_128)) (ext 2#32 (BitVec.ofNat 32 (i 1).val) (qB arg3 (harg3.unread x0) ![0, 0, 256] inb_S1x1024x512_S1x1024x128_0_0_256)) (ext 3#32 (BitVec.ofNat 32 (i 1).val) (qB arg3 (harg3.unread x0) ![0, 0, 384] inb_S1x1024x512_S1x1024x128_0_0_384))
        v262 v266 v272 v277 v282 v286 v287 (harg4.unread x1) (harg5.unread x2) (harg6.unread x3)
        (arg8.view.writes (Elt F) arg8.view.junk (kernelRun0_A.sl.HS0_4 c i arg3 harg3 arg4 harg4 arg5 harg5 x0 x1 x2))
        (arg9.view.writes (Elt F) arg9.view.junk (kernelRun0_A.sl.HS1_4 c i arg3 harg3 arg4 harg4 arg5 harg5 x0 x1 x2))
        (arg10.view.writes (Elt F) arg10.view.junk (kernelRun0_A.sl.HS2_4 c i arg3 harg3 arg4 harg4 arg5 harg5 arg6 harg6 x0 x1 x2 x3))
        (k0_t1_loop i).trips
      (kernelRun0_A.sl.HS0_1 c i arg3 harg3 arg4 harg4 arg5 harg5 arg6 harg6 arg7 harg7 arg8 harg8 arg9 harg9 arg10 harg10 x0 x1 x2 x3).tail = pb.1 ++ kernelRun0_A.sl.HS0_4 c i arg3 harg3 arg4 harg4 arg5 harg5 x0 x1 x2
      ∧ (kernelRun0_A.sl.HS1_1 c i arg3 harg3 arg4 harg4 arg5 harg5 arg6 harg6 arg7 harg7 arg8 harg8 arg9 harg9 arg10 harg10 x0 x1 x2 x3).tail = pb.2.1 ++ kernelRun0_A.sl.HS1_4 c i arg3 harg3 arg4 harg4 arg5 harg5 x0 x1 x2
      ∧ (kernelRun0_A.sl.HS2_1 c i arg3 harg3 arg4 harg4 arg5 harg5 arg6 harg6 arg7 harg7 arg8 harg8 arg9 harg9 arg10 harg10 x0 x1 x2 x3).tail = pb.2.2 ++ kernelRun0_A.sl.HS2_4 c i arg3 harg3 arg4 harg4 arg5 harg5 arg6 harg6 x0 x1 x2 x3 := by
  refine ⟨kernelRun0_A.sl.r_19 c i arg6 harg6 x3, kernelRun0_A.sl.r_20 c i arg3 harg3 arg4 harg4 arg5 harg5 x0 x1 x2, kernelRun0_A.sl.r_21 c i arg3 harg3 arg4 harg4 arg5 harg5 x0 x1 x2, kernelRun0_A.sl.r_22 c i arg3 harg3 arg4 harg4 arg5 harg5 x0 x1 x2, kernelRun0_A.sl.r_23 c i arg3 harg3 arg4 harg4 arg5 harg5 x0 x1 x2, kernelRun0_A.sl.r_24 c i arg3 harg3 arg4 harg4 arg5 harg5 x0 x1 x2, kernelRun0_A.sl.r_25 c i arg3 harg3 arg4 harg4 arg5 harg5 x0 x1 x2, ?_, ?_, ?_⟩
  · unfold kernelRun0_A.sl.HS0_1
    dsimp only [List.tail]
    rw [trips2]
    rfl
  · unfold kernelRun0_A.sl.HS1_1
    dsimp only [List.tail]
    rw [trips2]
    rfl
  · unfold kernelRun0_A.sl.HS2_1
    dsimp only [List.tail]
    rw [trips2]
    rfl

end body

end Cert.FoxIdeal.Value

end
-- ==== Proof.FoxReads.lean ====
/- The entries of the forgetting attention's scores and of the blocks they are made from. -/
module

public import proofs.«01_k».proof.Proof.FoxParts
public import proofs.«01_k».proof.Proof.Rows

@[expose] public section

set_option maxRecDepth 16384

noncomputable section

namespace Cert.FoxIdeal.Value

open Cert.FoxIdeal Cert.FoxIdeal.Gen Idealize.ShloMosaic Idealize.ShloMosaic.TcCoe Idealize.SL.Sem
open Cert.KernelIdeal.Value (vB vB_at sle_word neg_inf)

variable (q : FVec Ideal S1024x256 .bf16) (k kb : Vec Ideal S1x512x128 .bf16)

/-- The product of the two halves: the keys' part and the decay terms' part. -/
def both (r : Fin 1024) (j : Fin 512) : EReal :=
  (∑ x : Fin 128, q (ix2 r ⟨x.val, by omega⟩) * k (ix3 0 j x)) + ∑ x : Fin 128, q (ix2 r ⟨128 + x.val, by omega⟩) * kb (ix3 0 j x)

theorem score_at (r : Fin 1024) (j : Fin 512) : score q k kb (ix2 r j) = both q k kb r j := by
  pointwise [score, k0_pay2, both]

theorem scoreD_at (r : Fin 1024) (j : Fin 512) : scoreD q k kb (ix2 r j)
    = if j.val ≤ r.val then both q k kb r j else ⊥ := by
  have h0 : ∀ w : BitVec 32, IntOp.addi 0#32 w = w := fun w => by simp [IntOp.addi]
  pointwise [scoreD, k0_pay102]
  rw [h0, h0, sle_word (by omega) (by omega), neg_inf]
  split
  · exact if_pos rfl
  · exact if_neg (by decide)

theorem scoreE_at (r : Fin 512) (j : Fin 512) : scoreE q k kb (ix2 r j)
    = if j.val ≤ r.val then both q k kb ⟨512 + r.val, by omega⟩ j else ⊥ := by
  have h0 : ∀ a b : ℕ, IntOp.addi (BitVec.ofNat 32 a) (BitVec.ofNat 32 b) = BitVec.ofNat 32 (a + b) := fun a b => by
    simp [IntOp.addi, BitVec.ofNat_add]
  pointwise [scoreE, k0_pay169]
  rw [h0 512, h0 512, sle_word (by omega) (by omega), neg_inf]
  by_cases h : j.val ≤ r.val
  · rw [if_pos h, if_pos (by omega)]; exact if_pos rfl
  · rw [if_neg h, if_neg (by omega)]; exact if_neg (by decide)

theorem ext_left (g a : BitVec 32) (Q : Vec Ideal S1x1024x128 .bf16) (r : Fin 1024) (x : Fin 128) :
    ext g a Q (ix2 r ⟨x.val, by omega⟩) = Q (ix3 0 r x) := by
  pointwise [ext]

/-- Lane `x` is one of the three lanes of head `4 a + g`. -/
theorem lane_word : ∀ (a : Fin 2) (g : Fin 4) (x : Fin 128),
    IntOp.andi (IntOp.cmpi .sge (IntOp.subi (BitVec.ofNat 32 x.val) (Scalar.muli 3#32 (Scalar.addi (Scalar.muli (BitVec.ofNat 32 a.val) 4#32) (BitVec.ofNat 32 g.val)))) 0#32)
      (IntOp.cmpi .slt (IntOp.subi (BitVec.ofNat 32 x.val) (Scalar.muli 3#32 (Scalar.addi (Scalar.muli (BitVec.ofNat 32 a.val) 4#32) (BitVec.ofNat 32 g.val)))) 3#32)
    = if 3 * (4 * a.val + g.val) ≤ x.val ∧ x.val < 3 * (4 * a.val + g.val) + 3 then 1#1 else 0#1 := by
  decide +kernel

/-- Minus one in the three lanes of head `h`, nothing in the others. -/
def pick (h : ℕ) (x : Fin 128) : EReal := if 3 * h ≤ x.val ∧ x.val < 3 * h + 3 then -1 else 0

theorem neg_one : Ideal.ofBits .f32 0xBF800000#32 = -1 := by
  simp [Ideal.ofBits, Ideal.ieee]
  rw [← EReal.coe_mul]
  norm_num

theorem ext_right (a : Fin 2) (g : Fin 4) (Q : Vec Ideal S1x1024x128 .bf16) (r : Fin 1024) (x : Fin 128) :
    ext (BitVec.ofNat 32 g.val) (BitVec.ofNat 32 a.val) Q (ix2 r ⟨128 + x.val, by omega⟩) = pick (4 * a.val + g.val) x := by
  pointwise [ext]
  rw [lane_word, neg_one, pick]
  split
  · exact if_pos rfl
  · exact if_neg (by decide)

theorem qB_at (arg3 : Memref sig .tc .vmem S1x1024x512 .bf16) (hw : arg3.IsWhole) (x : Vec Ideal S1x1024x512 .bf16) (o : Fin 3 → ℕ) (h)
    (c₀ : ℕ) (ho : o = ![0, 0, c₀]) (hc : c₀ + 128 ≤ 512) (r : Fin 1024) (c : Fin 128) :
    qB arg3 (hw.unread x) o h (ix3 0 r c) = x (ix3 0 r ⟨c₀ + c.val, by omega⟩) := by
  subst ho
  unfold qB
  rw [hw.readAt_unread]
  exact congrArg _ (by pointwise)

theorem dB_at (arg5 : Memref sig .tc .vmem S1x4096x128 .bf16) (hw : arg5.IsWhole) (x : Vec Ideal S1x4096x128 .bf16) (o : Fin 3 → ℕ) (h)
    (n : ℕ) (ho : o = ![0, n, 0]) (hn : n + 512 ≤ 4096) (j : Fin 512) (c : Fin 128) :
    dB arg5 (hw.unread x) o h (ix3 0 j c) = x (ix3 0 ⟨n + j.val, by omega⟩ c) := by
  subst ho
  unfold dB
  rw [hw.readAt_unread]
  exact congrArg _ (by pointwise)

/-! ## Where the blocks lie, and how many trips the loop makes -/

theorem row_word : ∀ (n : Fin 4) (d : Fin 2), (Scalar.indexCast (Scalar.addi (Scalar.muli (BitVec.ofNat 32 n.val) 1024#32) (BitVec.ofNat 32 (512 * d.val)))).toNat
    = 512 * (2 * n.val + d.val) := by decide +kernel

theorem off1_eq (i : grid0.Coords) (d : Fin 2) : k0_off1 i (BitVec.ofNat 32 (512 * d.val)) = ![0, 512 * (2 * (i 2).val + d.val), 0] :=
  congrArg (fun x => ![0, x, 0]) (row_word (i 2) d)

theorem off2_eq (i : grid0.Coords) (d : Fin 2) : k0_off2 i (BitVec.ofNat 32 (512 * d.val)) = ![0, 512 * (2 * (i 2).val + d.val), 0] :=
  congrArg (fun x => ![0, x, 0]) (row_word (i 2) d)

theorem off3_eq (i : grid0.Coords) (d : Fin 2) : k0_off3 i (BitVec.ofNat 32 (512 * d.val)) = ![0, 512 * (2 * (i 2).val + d.val), 128] :=
  congrArg (fun x => ![0, x, 128]) (row_word (i 2) d)

theorem off4_eq (i : grid0.Coords) (d : Fin 2) : k0_off4 i (BitVec.ofNat 32 (512 * d.val)) = ![0, 512 * (2 * (i 2).val + d.val), 256] :=
  congrArg (fun x => ![0, x, 256]) (row_word (i 2) d)

theorem off5_eq (i : grid0.Coords) (d : Fin 2) : k0_off5 i (BitVec.ofNat 32 (512 * d.val)) = ![0, 512 * (2 * (i 2).val + d.val), 384] :=
  congrArg (fun x => ![0, x, 384]) (row_word (i 2) d)

theorem trips1 (i : grid0.Coords) : (k0_t1_loop i).trips = 2 * (i 2).val := by
  have h : ∀ n : Fin 4, Scf.trips (0#32) (Scalar.addi (0#32) (Scalar.muli (Scalar.divsi (Scalar.subi (Scalar.muli (BitVec.ofNat 32 n.val) 2#32) 0#32) 1#32) 1#32)) 1#32
    = 2 * n.val := by decide +kernel
  exact h (i 2)

theorem trips1_lt (i : grid0.Coords) (k : Fin (k0_t1_loop i).trips) : k.val < 2 * (i 2).val :=
  lt_of_lt_of_eq k.isLt (trips1 i)

theorem trip_word (i : grid0.Coords) (k : Fin (k0_t1_loop i).trips) :
    (Scalar.indexCast (Scalar.muli (Scf.iv 0#32 1#32 k.val) 512#32)).toNat = 512 * k.val := by
  have h : ∀ n : Fin 8, (Scalar.indexCast (Scalar.muli (Scf.iv 0#32 1#32 n.val) 512#32)).toNat = 512 * n.val := by decide +kernel
  have hk : k.val < 8 := by
    have h1 := trips1_lt i k
    have h2 : (i 2).val < 4 := (i 2).isLt
    omega
  exact h ⟨k.val, hk⟩

theorem off6_eq (i : grid0.Coords) (k : Fin (k0_t1_loop i).trips) : k0_off6 i k = ![0, 512 * k.val, 0] :=
  congrArg (fun x => ![0, x, 0]) (trip_word i k)

theorem off7_eq (i : grid0.Coords) (k : Fin (k0_t1_loop i).trips) : k0_off7 i k = ![0, 512 * k.val, 0] :=
  congrArg (fun x => ![0, x, 0]) (trip_word i k)

theorem off8_eq (i : grid0.Coords) (k : Fin (k0_t1_loop i).trips) : k0_off8 i k = ![0, 512 * k.val, 128] :=
  congrArg (fun x => ![0, x, 128]) (trip_word i k)

theorem off9_eq (i : grid0.Coords) (k : Fin (k0_t1_loop i).trips) : k0_off9 i k = ![0, 512 * k.val, 256] :=
  congrArg (fun x => ![0, x, 256]) (trip_word i k)

theorem off10_eq (i : grid0.Coords) (k : Fin (k0_t1_loop i).trips) : k0_off10 i k = ![0, 512 * k.val, 384] :=
  congrArg (fun x => ![0, x, 384]) (trip_word i k)

end Cert.FoxIdeal.Value

end
-- ==== Proof.FoxBlock.lean ====
/- What one block of the forgetting attention computes: the scores and values its tiles hold, the loop's trips, and the
   output block's entries as quotients of the rows' states. -/
module

public import proofs.«01_k».proof.Proof.FoxReads

@[expose] public section

set_option maxRecDepth 16384

noncomputable section

namespace Cert.FoxIdeal.Value

open Cert.FoxIdeal Cert.FoxIdeal.Gen Idealize.ShloMosaic Idealize.ShloMosaic.TcCoe Idealize.SL.Sem FlashRow
open Cert.KernelIdeal.Value (fiM fiL fiA fin four tailOut vB vB_at Held held_first held_step tailOut_at)

/-- Key `κ`'s lanes under head `g` of the block, in an array of keys or of values. -/
def lanes (x : Vec Ideal S1x4096x512 .bf16) (g : Fin 4) (κ : ℕ) (e : Fin 128) : EReal :=
  x (ix3 0 (Fin.ofNat 4096 κ) ⟨128 * g.val + e.val, by omega⟩)

/-- Row `r`'s score of key `κ` under head `g` of group `a`, in the block of rows that begins at row `1024 n`: the product of
the query and the key, less the three decay terms of the key, nothing past the diagonal. -/
def sc (x0 : Vec Ideal S1x1024x512 .bf16) (x1 : Vec Ideal S1x4096x512 .bf16) (x2 : Vec Ideal S1x4096x128 .bf16) (a n : ℕ) (g : Fin 4)
    (r : Fin 1024) (κ : ℕ) : EReal :=
  if κ ≤ 1024 * n + r.val then
    (∑ x : Fin 128, x0 (ix3 0 r ⟨128 * g.val + x.val, by omega⟩) * lanes x1 g κ x)
      + ∑ x : Fin 128, pick (4 * a + g.val) x * x2 (ix3 0 (Fin.ofNat 4096 κ) x)
  else ⊥

theorem ofNat_eq {n : ℕ} (h : n < 4096) : Fin.ofNat 4096 n = ⟨n, h⟩ := Fin.ext (Nat.mod_eq_of_lt h)

section tiles
variable (x0 : Vec Ideal S1x1024x512 .bf16) (x1 : Vec Ideal S1x4096x512 .bf16) (x2 : Vec Ideal S1x4096x128 .bf16) (x3 : Vec Ideal S1x4096x512 .bf16)

/-- The keys or the values a tile loads. -/
theorem ktile (x : Vec Ideal S1x4096x512 .bf16) (arg4 : Memref sig .tc .vmem S1x4096x512 .bf16) (harg4 : arg4.IsWhole)
    (o : Fin 3 → ℕ) (h) (t : ℕ) (g : Fin 4) (ho : o = ![0, 512 * t, 128 * g.val]) (ht : t < 8) (j : Fin 512) (c : Fin 128) :
    vB arg4 (harg4.unread x) o h (ix3 0 j c) = lanes x g (512 * t + j.val) c := by
  rw [lanes, ofNat_eq (by omega)]
  exact vB_at arg4 harg4 x o h _ _ ho (by omega) (by omega) j c

/-- The decay terms a tile loads. -/
theorem dtile (arg5 : Memref sig .tc .vmem S1x4096x128 .bf16) (harg5 : arg5.IsWhole)
    (o : Fin 3 → ℕ) (h) (t : ℕ) (ho : o = ![0, 512 * t, 0]) (ht : t < 8) (j : Fin 512) (c : Fin 128) :
    dB arg5 (harg5.unread x2) o h (ix3 0 j c) = x2 (ix3 0 (Fin.ofNat 4096 (512 * t + j.val)) c) := by
  rw [dB_at arg5 harg5 x2 o h _ ho (by omega), ofNat_eq (by omega)]

/-- A head's queries. -/
theorem qrow (arg3 : Memref sig .tc .vmem S1x1024x512 .bf16) (harg3 : arg3.IsWhole) (o : Fin 3 → ℕ) (h) (g : Fin 4)
    (ho : o = ![0, 0, 128 * g.val]) (r : Fin 1024) (c : Fin 128) :
    qB arg3 (harg3.unread x0) o h (ix3 0 r c) = x0 (ix3 0 r ⟨128 * g.val + c.val, by omega⟩) :=
  qB_at arg3 harg3 x0 o h _ ho (by omega) r c

/-- The two halves of a score, from what the tile loads. -/
theorem both_eq (a : Fin 2) (g : Fin 4) (t : ℕ) (Q : Vec Ideal S1x1024x128 .bf16) (K B : Vec Ideal S1x512x128 .bf16)
    (hQ : ∀ (r : Fin 1024) (c : Fin 128), Q (ix3 0 r c) = x0 (ix3 0 r ⟨128 * g.val + c.val, by omega⟩))
    (hK : ∀ (j : Fin 512) (c : Fin 128), K (ix3 0 j c) = lanes x1 g (t + j.val) c)
    (hB : ∀ (j : Fin 512) (c : Fin 128), B (ix3 0 j c) = x2 (ix3 0 (Fin.ofNat 4096 (t + j.val)) c)) (r : Fin 1024) (j : Fin 512) :
    both (ext (BitVec.ofNat 32 g.val) (BitVec.ofNat 32 a.val) Q) K B r j
      = (∑ x : Fin 128, x0 (ix3 0 r ⟨128 * g.val + x.val, by omega⟩) * lanes x1 g (t + j.val) x)
        + ∑ x : Fin 128, pick (4 * a.val + g.val) x * x2 (ix3 0 (Fin.ofNat 4096 (t + j.val)) x) := by
  rw [both]
  simp only [ext_left, ext_right, hQ, hK, hB]

/-- The first diagonal tile's scores. -/
theorem diag (a : Fin 2) (n : ℕ) (hn : n < 4) (g : Fin 4) (Q : Vec Ideal S1x1024x128 .bf16) (K B : Vec Ideal S1x512x128 .bf16)
    (hQ : ∀ (r : Fin 1024) (c : Fin 128), Q (ix3 0 r c) = x0 (ix3 0 r ⟨128 * g.val + c.val, by omega⟩))
    (hK : ∀ (j : Fin 512) (c : Fin 128), K (ix3 0 j c) = lanes x1 g (512 * (2 * n) + j.val) c)
    (hB : ∀ (j : Fin 512) (c : Fin 128), B (ix3 0 j c) = x2 (ix3 0 (Fin.ofNat 4096 (512 * (2 * n) + j.val)) c))
    (r : Fin 1024) (j : Fin 512) : scoreD (ext (BitVec.ofNat 32 g.val) (BitVec.ofNat 32 a.val) Q) K B (ix2 r j) = sc x0 x1 x2 a.val n g r (512 * (2 * n) + j.val) := by
  rw [scoreD_at, sc, both_eq x0 x1 x2 a g _ Q K B hQ hK hB]
  by_cases h : j.val ≤ r.val
  · rw [if_pos h, if_pos (by omega)]
  · rw [if_neg h, if_neg (by omega)]

/-- The second diagonal tile's scores. -/
theorem diag' (a : Fin 2) (n : ℕ) (hn : n < 4) (g : Fin 4) (Q : Vec Ideal S1x1024x128 .bf16) (K B : Vec Ideal S1x512x128 .bf16)
    (hQ : ∀ (r : Fin 1024) (c : Fin 128), Q (ix3 0 r c) = x0 (ix3 0 r ⟨128 * g.val + c.val, by omega⟩))
    (hK : ∀ (j : Fin 512) (c : Fin 128), K (ix3 0 j c) = lanes x1 g (512 * (2 * n + 1) + j.val) c)
    (hB : ∀ (j : Fin 512) (c : Fin 128), B (ix3 0 j c) = x2 (ix3 0 (Fin.ofNat 4096 (512 * (2 * n + 1) + j.val)) c))
    (r j : Fin 512) : scoreE (ext (BitVec.ofNat 32 g.val) (BitVec.ofNat 32 a.val) Q) K B (ix2 r j) = sc x0 x1 x2 a.val n g ⟨512 + r.val, by omega⟩ (512 * (2 * n + 1) + j.val) := by
  rw [scoreE_at, sc, both_eq x0 x1 x2 a g _ Q K B hQ hK hB]
  by_cases h : j.val ≤ r.val
  · rw [if_pos h, if_pos (show _ ≤ 1024 * n + (512 + r.val) by omega)]
  · rw [if_neg h, if_neg (show ¬ _ ≤ 1024 * n + (512 + r.val) by omega)]

/-- A trip's scores: its tile lies below the diagonal, so nothing is cut off. -/
theorem low (a : Fin 2) (n t : ℕ) (hn : n < 4) (ht : t < 2 * n) (g : Fin 4) (Q : Vec Ideal S1x1024x128 .bf16) (K B : Vec Ideal S1x512x128 .bf16)
    (hQ : ∀ (r : Fin 1024) (c : Fin 128), Q (ix3 0 r c) = x0 (ix3 0 r ⟨128 * g.val + c.val, by omega⟩))
    (hK : ∀ (j : Fin 512) (c : Fin 128), K (ix3 0 j c) = lanes x1 g (512 * t + j.val) c)
    (hB : ∀ (j : Fin 512) (c : Fin 128), B (ix3 0 j c) = x2 (ix3 0 (Fin.ofNat 4096 (512 * t + j.val)) c))
    (r : Fin 1024) (j : Fin 512) : score (ext (BitVec.ofNat 32 g.val) (BitVec.ofNat 32 a.val) Q) K B (ix2 r j) = sc x0 x1 x2 a.val n g r (512 * t + j.val) := by
  rw [score_at, sc, both_eq x0 x1 x2 a g _ Q K B hQ hK hB, if_pos (by omega)]

end tiles

theorem i2_lt (i : grid0.Coords) : (i 2).val < 4 := (i 2).isLt

set_option maxHeartbeats 4000000 in
/-- After `k` trips of the loop every row's state holds the first diagonal tile and the tiles of those trips. -/
theorem held_loop (c : Dev nD) (i : grid0.Coords) (arg3 : Memref sig .tc .vmem S1x1024x512 .bf16) (harg3 : arg3.IsWhole) (arg4 : Memref sig .tc .vmem S1x4096x512 .bf16) (harg4 : arg4.IsWhole) (arg5 : Memref sig .tc .vmem S1x4096x128 .bf16) (harg5 : arg5.IsWhole) (arg6 : Memref sig .tc .vmem S1x4096x512 .bf16) (harg6 : arg6.IsWhole) (arg7 : Memref sig .tc .vmem S1x1024x512 .bf16) (harg7 : arg7.IsWhole) (arg8 : Memref sig .tc .vmem S4x1024x128 .f32) (harg8 : arg8.IsWhole) (arg9 : Memref sig .tc .vmem S4x1024x128 .f32) (harg9 : arg9.IsWhole) (arg10 : Memref sig .tc .vmem S4x1024x128 .f32) (harg10 : arg10.IsWhole)
    (x0 : Vec Ideal S1x1024x512 .bf16) (x1 : Vec Ideal S1x4096x512 .bf16) (x2 : Vec Ideal S1x4096x128 .bf16) (x3 : Vec Ideal S1x4096x512 .bf16) (arg2 : BitVec 32) (v262 : FVec Ideal S512x128 .bf16) (v266 : FVec Ideal S1024x128 .f32) (v272 v277 v282 : FVec Ideal S1024x128 .bf16) (v286 : FVec Ideal S1024x128 .f32) (v287 : FVec Ideal S1024x128 .bf16)
    (G8 : BufTy.Contents (Elt Ideal) arg8.view.ty) (G9 : BufTy.Contents (Elt Ideal) arg9.view.ty) (G10 : BufTy.Contents (Elt Ideal) arg10.view.ty)
    (hs : ∀ g r κ, sc x0 x1 x2 (i 1).val (i 2).val g r κ ≠ ⊤)
    (H : Held (sc x0 x1 x2 (i 1).val (i 2).val) (lanes x3) {2 * (i 2).val} arg8.view arg9.view arg10.view G8 G9 G10) (k : ℕ) (hk : k ≤ (k0_t1_loop i).trips) :
    Held (sc x0 x1 x2 (i 1).val (i 2).val) (lanes x3) (insert (2 * (i 2).val) (Finset.range k)) arg8.view arg9.view arg10.view
      (arg8.view.writes (Elt Ideal) G8 (pb_k0_t1 (F := Ideal) Variants.none c none i arg3 harg3 arg4 harg4 arg5 harg5 arg6 harg6 arg7 harg7 arg8 harg8 arg9 harg9 arg10 harg10 arg2 (ext 0#32 (BitVec.ofNat 32 (i 1).val) (qB arg3 (harg3.unread x0) ![0, 0, 0] inb_S1x1024x512_S1x1024x128_0_0_0)) (ext 1#32 (BitVec.ofNat 32 (i 1).val) (qB arg3 (harg3.unread x0) ![0, 0, 128] inb_S1x1024x512_S1x1024x128_0_0_128)) (ext 2#32 (BitVec.ofNat 32 (i 1).val) (qB arg3 (harg3.unread x0) ![0, 0, 256] inb_S1x1024x512_S1x1024x128_0_0_256)) (ext 3#32 (BitVec.ofNat 32 (i 1).val) (qB arg3 (harg3.unread x0) ![0, 0, 384] inb_S1x1024x512_S1x1024x128_0_0_384)) v262 v266 v272 v277 v282 v286 v287 (harg4.unread x1) (harg5.unread x2) (harg6.unread x3) G8 G9 G10 k).1)
      (arg9.view.writes (Elt Ideal) G9 (pb_k0_t1 (F := Ideal) Variants.none c none i arg3 harg3 arg4 harg4 arg5 harg5 arg6 harg6 arg7 harg7 arg8 harg8 arg9 harg9 arg10 harg10 arg2 (ext 0#32 (BitVec.ofNat 32 (i 1).val) (qB arg3 (harg3.unread x0) ![0, 0, 0] inb_S1x1024x512_S1x1024x128_0_0_0)) (ext 1#32 (BitVec.ofNat 32 (i 1).val) (qB arg3 (harg3.unread x0) ![0, 0, 128] inb_S1x1024x512_S1x1024x128_0_0_128)) (ext 2#32 (BitVec.ofNat 32 (i 1).val) (qB arg3 (harg3.unread x0) ![0, 0, 256] inb_S1x1024x512_S1x1024x128_0_0_256)) (ext 3#32 (BitVec.ofNat 32 (i 1).val) (qB arg3 (harg3.unread x0) ![0, 0, 384] inb_S1x1024x512_S1x1024x128_0_0_384)) v262 v266 v272 v277 v282 v286 v287 (harg4.unread x1) (harg5.unread x2) (harg6.unread x3) G8 G9 G10 k).2.1)
      (arg10.view.writes (Elt Ideal) G10 (pb_k0_t1 (F := Ideal) Variants.none c none i arg3 harg3 arg4 harg4 arg5 harg5 arg6 harg6 arg7 harg7 arg8 harg8 arg9 harg9 arg10 harg10 arg2 (ext 0#32 (BitVec.ofNat 32 (i 1).val) (qB arg3 (harg3.unread x0) ![0, 0, 0] inb_S1x1024x512_S1x1024x128_0_0_0)) (ext 1#32 (BitVec.ofNat 32 (i 1).val) (qB arg3 (harg3.unread x0) ![0, 0, 128] inb_S1x1024x512_S1x1024x128_0_0_128)) (ext 2#32 (BitVec.ofNat 32 (i 1).val) (qB arg3 (harg3.unread x0) ![0, 0, 256] inb_S1x1024x512_S1x1024x128_0_0_256)) (ext 3#32 (BitVec.ofNat 32 (i 1).val) (qB arg3 (harg3.unread x0) ![0, 0, 384] inb_S1x1024x512_S1x1024x128_0_0_384)) v262 v266 v272 v277 v282 v286 v287 (harg4.unread x1) (harg5.unread x2) (harg6.unread x3) G8 G9 G10 k).2.2) := by
  induction k with
  | zero => exact H
  | succ k ih =>
    have hk' : k < (k0_t1_loop i).trips := hk
    have hk2 : k < 2 * (i 2).val := trips1_lt i ⟨k, hk'⟩
    have hn : (i 2).val < 4 := i2_lt i
    have ih := ih (le_of_lt hk')
    rw [pb_k0_t1_succ (k := ⟨k, hk'⟩), trip_pieces (k := ⟨k, hk'⟩)
      (hS0 := rfl) (hS1 := rfl) (hS2 := rfl) (hS3 := rfl) (hw0 := rfl) (hw1 := rfl) (hw2 := rfl) (hw3 := rfl)]
    dsimp only
    rw [View.writes_append, View.writes_append, View.writes_append, Finset.range_add_one, Finset.insert_comm]
    refine held_step (t := k) hs _ _ _ _ _ _ _ _ _ _ _ ih ?_ ?_ ?_ ?_ ?_ ?_ ?_ ?_ ?_
    · simp; omega
    · exact low x0 x1 x2 (i 1) _ k hn hk2 0 _ _ _ (qrow x0 arg3 harg3 _ _ 0 rfl) (ktile x1 arg4 harg4 _ _ k 0 (off6_eq i ⟨k, hk'⟩) (by omega)) (dtile x2 arg5 harg5 _ _ k (off7_eq i ⟨k, hk'⟩) (by omega))
    · exact low x0 x1 x2 (i 1) _ k hn hk2 1 _ _ _ (qrow x0 arg3 harg3 _ _ 1 rfl) (ktile x1 arg4 harg4 _ _ k 1 (off8_eq i ⟨k, hk'⟩) (by omega)) (dtile x2 arg5 harg5 _ _ k (off7_eq i ⟨k, hk'⟩) (by omega))
    · exact low x0 x1 x2 (i 1) _ k hn hk2 2 _ _ _ (qrow x0 arg3 harg3 _ _ 2 rfl) (ktile x1 arg4 harg4 _ _ k 2 (off9_eq i ⟨k, hk'⟩) (by omega)) (dtile x2 arg5 harg5 _ _ k (off7_eq i ⟨k, hk'⟩) (by omega))
    · exact low x0 x1 x2 (i 1) _ k hn hk2 3 _ _ _ (qrow x0 arg3 harg3 _ _ 3 rfl) (ktile x1 arg4 harg4 _ _ k 3 (off10_eq i ⟨k, hk'⟩) (by omega)) (dtile x2 arg5 harg5 _ _ k (off7_eq i ⟨k, hk'⟩) (by omega))
    · exact ktile x3 arg6 harg6 _ _ k 0 (off6_eq i ⟨k, hk'⟩) (by omega)
    · exact ktile x3 arg6 harg6 _ _ k 1 (off8_eq i ⟨k, hk'⟩) (by omega)
    · exact ktile x3 arg6 harg6 _ _ k 2 (off9_eq i ⟨k, hk'⟩) (by omega)
    · exact ktile x3 arg6 harg6 _ _ k 3 (off10_eq i ⟨k, hk'⟩) (by omega)

set_option maxHeartbeats 4000000 in
/-- The output block's entries: the quotient of the row's accumulator by its lane sums, the row's state holding every tile
up to the row's own. -/
theorem body_row (c : Dev nD) (i : grid0.Coords) (arg3 : Memref sig .tc .vmem S1x1024x512 .bf16) (harg3 : arg3.IsWhole) (arg4 : Memref sig .tc .vmem S1x4096x512 .bf16) (harg4 : arg4.IsWhole) (arg5 : Memref sig .tc .vmem S1x4096x128 .bf16) (harg5 : arg5.IsWhole) (arg6 : Memref sig .tc .vmem S1x4096x512 .bf16) (harg6 : arg6.IsWhole) (arg7 : Memref sig .tc .vmem S1x1024x512 .bf16) (harg7 : arg7.IsWhole) (arg8 : Memref sig .tc .vmem S4x1024x128 .f32) (harg8 : arg8.IsWhole) (arg9 : Memref sig .tc .vmem S4x1024x128 .f32) (harg9 : arg9.IsWhole) (arg10 : Memref sig .tc .vmem S4x1024x128 .f32) (harg10 : arg10.IsWhole)
    (x0 : Vec Ideal S1x1024x512 .bf16) (x1 : Vec Ideal S1x4096x512 .bf16) (x2 : Vec Ideal S1x4096x128 .bf16) (x3 : Vec Ideal S1x4096x512 .bf16)
    (hs : ∀ g r κ, sc x0 x1 x2 (i 1).val (i 2).val g r κ ≠ ⊤) (h₀ : ∀ g r, sc x0 x1 x2 (i 1).val (i 2).val g r (512 * (2 * (i 2).val)) ≠ ⊥)
    (vo : View sig .tc .vmem S1x1024x512 .bf16) (fo : vo.ty.Contents (Elt Ideal)) (g : Fin 4) (r : Fin 1024) (e : Fin 128) :
    ∃ M L A : Fin 128 → EReal, RowState (sc x0 x1 x2 (i 1).val (i 2).val g r) (lanes x3 g)
        (if r.val < 512 then insert (2 * (i 2).val) (Finset.range (2 * (i 2).val))
          else insert (2 * (i 2).val + 1) (insert (2 * (i 2).val) (Finset.range (2 * (i 2).val)))) M L A
      ∧ vo.read (Elt Ideal) (vo.writes (Elt Ideal) fo (kernelRun0_A (F := Ideal) c i arg3 harg3 arg4 harg4 arg5 harg5 arg6 harg6 arg7 harg7 arg8 harg8 arg9 harg9 arg10 harg10 x0 x1 x2 x3).1) (ix3 0 r ⟨128 * g.val + e.val, by omega⟩)
        = Ideal.div (A e) (∑ x, L x) := by
  have hn : (i 2).val < 4 := i2_lt i
  obtain ⟨v262, v266, v272, v277, v282, v286, v287, hB8, hB9, hB10⟩ := body_base (F := Ideal) c i arg3 harg3 arg4 harg4 arg5 harg5 arg6 harg6 arg7 harg7 arg8 harg8 arg9 harg9 arg10 harg10 x0 x1 x2 x3
  have hm := first_m (F := Ideal) c i arg3 harg3 arg4 harg4 arg5 harg5 x0 x1 x2 _ _ _ _ rfl rfl rfl rfl
  have hl := first_l (F := Ideal) c i arg3 harg3 arg4 harg4 arg5 harg5 x0 x1 x2 _ _ _ _ rfl rfl rfl rfl
  have ha := first_a (F := Ideal) c i arg3 harg3 arg4 harg4 arg5 harg5 arg6 harg6 x0 x1 x2 x3 _ _ _ _ _ _ _ _ rfl rfl rfl rfl rfl rfl rfl rfl
  rw [body_tail (F := Ideal) c i arg3 harg3 arg4 harg4 arg5 harg5 arg6 harg6 arg7 harg7 arg8 harg8 arg9 harg9 arg10 harg10 x0 x1 x2 x3 _ _ _ _ _ _ _ _ rfl rfl rfl rfl rfl rfl rfl rfl]
  refine tailOut_at (t := 2 * (i 2).val + 1) hs _ _ _ _ _ _ _ _ vo fo _ _ _ ?_ ?_ ?_ ?_ ?_ ?_ ?_ ?_ ?_ ?_ g r e
  · rw [hB8, hB9, hB10, View.writes_append, View.writes_append, View.writes_append]
    have := held_loop c i arg3 harg3 arg4 harg4 arg5 harg5 arg6 harg6 arg7 harg7 arg8 harg8 arg9 harg9 arg10 harg10 x0 x1 x2 x3 (BitVec.ofNat 32 ↑(i 2)) v262 v266 v272 v277 v282 v286 v287 (arg8.view.writes (Elt Ideal) arg8.view.junk (kernelRun0_A.sl.HS0_4 c i arg3 harg3 arg4 harg4 arg5 harg5 x0 x1 x2)) (arg9.view.writes (Elt Ideal) arg9.view.junk (kernelRun0_A.sl.HS1_4 c i arg3 harg3 arg4 harg4 arg5 harg5 x0 x1 x2)) (arg10.view.writes (Elt Ideal) arg10.view.junk (kernelRun0_A.sl.HS2_4 c i arg3 harg3 arg4 harg4 arg5 harg5 arg6 harg6 x0 x1 x2 x3)) hs (by
      rw [hm, hl, ha]
      refine held_first (t := 2 * (i 2).val) hs _ _ _ _ _ _ _ _ _ _ _ ?_ ?_ ?_ ?_ ?_ ?_ ?_ ?_ h₀
      · exact diag x0 x1 x2 (i 1) _ hn 0 _ _ _ (qrow x0 arg3 harg3 _ _ 0 rfl) (ktile x1 arg4 harg4 _ _ (2 * (i 2).val) 0 (off1_eq i 0) (by omega)) (dtile x2 arg5 harg5 _ _ (2 * (i 2).val) (off2_eq i 0) (by omega))
      · exact diag x0 x1 x2 (i 1) _ hn 1 _ _ _ (qrow x0 arg3 harg3 _ _ 1 rfl) (ktile x1 arg4 harg4 _ _ (2 * (i 2).val) 1 (off3_eq i 0) (by omega)) (dtile x2 arg5 harg5 _ _ (2 * (i 2).val) (off2_eq i 0) (by omega))
      · exact diag x0 x1 x2 (i 1) _ hn 2 _ _ _ (qrow x0 arg3 harg3 _ _ 2 rfl) (ktile x1 arg4 harg4 _ _ (2 * (i 2).val) 2 (off4_eq i 0) (by omega)) (dtile x2 arg5 harg5 _ _ (2 * (i 2).val) (off2_eq i 0) (by omega))
      · exact diag x0 x1 x2 (i 1) _ hn 3 _ _ _ (qrow x0 arg3 harg3 _ _ 3 rfl) (ktile x1 arg4 harg4 _ _ (2 * (i 2).val) 3 (off5_eq i 0) (by omega)) (dtile x2 arg5 harg5 _ _ (2 * (i 2).val) (off2_eq i 0) (by omega))
      · exact ktile x3 arg6 harg6 _ _ (2 * (i 2).val) 0 (off1_eq i 0) (by omega)
      · exact ktile x3 arg6 harg6 _ _ (2 * (i 2).val) 1 (off3_eq i 0) (by omega)
      · exact ktile x3 arg6 harg6 _ _ (2 * (i 2).val) 2 (off4_eq i 0) (by omega)
      · exact ktile x3 arg6 harg6 _ _ (2 * (i 2).val) 3 (off5_eq i 0) (by omega)
      ) (k0_t1_loop i).trips le_rfl
    rwa [trips1] at this ⊢
  · simp
  · exact diag' x0 x1 x2 (i 1) _ hn 0 _ _ _ (qrow x0 arg3 harg3 _ _ 0 rfl) (ktile x1 arg4 harg4 _ _ (2 * (i 2).val + 1) 0 (off1_eq i 1) (by omega)) (dtile x2 arg5 harg5 _ _ (2 * (i 2).val + 1) (off2_eq i 1) (by omega))
  · exact diag' x0 x1 x2 (i 1) _ hn 1 _ _ _ (qrow x0 arg3 harg3 _ _ 1 rfl) (ktile x1 arg4 harg4 _ _ (2 * (i 2).val + 1) 1 (off3_eq i 1) (by omega)) (dtile x2 arg5 harg5 _ _ (2 * (i 2).val + 1) (off2_eq i 1) (by omega))
  · exact diag' x0 x1 x2 (i 1) _ hn 2 _ _ _ (qrow x0 arg3 harg3 _ _ 2 rfl) (ktile x1 arg4 harg4 _ _ (2 * (i 2).val + 1) 2 (off4_eq i 1) (by omega)) (dtile x2 arg5 harg5 _ _ (2 * (i 2).val + 1) (off2_eq i 1) (by omega))
  · exact diag' x0 x1 x2 (i 1) _ hn 3 _ _ _ (qrow x0 arg3 harg3 _ _ 3 rfl) (ktile x1 arg4 harg4 _ _ (2 * (i 2).val + 1) 3 (off5_eq i 1) (by omega)) (dtile x2 arg5 harg5 _ _ (2 * (i 2).val + 1) (off2_eq i 1) (by omega))
  · exact ktile x3 arg6 harg6 _ _ (2 * (i 2).val + 1) 0 (off1_eq i 1) (by omega)
  · exact ktile x3 arg6 harg6 _ _ (2 * (i 2).val + 1) 1 (off3_eq i 1) (by omega)
  · exact ktile x3 arg6 harg6 _ _ (2 * (i 2).val + 1) 2 (off4_eq i 1) (by omega)
  · exact ktile x3 arg6 harg6 _ _ (2 * (i 2).val + 1) 3 (off5_eq i 1) (by omega)

end Cert.FoxIdeal.Value

end
-- ==== Proof.Forget.lean ====
/- The attention of the forgetting branch as one function of the packed projection and of the decay terms, and the finiteness
   of its scores where queries, keys and decay terms are finite. -/
module

public import proofs.«01_k».proof.Proof.Attention

@[expose] public section

noncomputable section

namespace Forget

open Idealize.ShloMosaic FlashRow

/-- The packed projection: queries at column 9216, keys at 10240, values at 11264, 128 lanes of each of the eight heads. -/
abbrev Packed := (⟨3, ![16, 4096, 13056]⟩ : Shape).Idx → EReal
/-- The decay terms: three lanes of each of the eight heads, then lanes that are not read. -/
abbrev Terms := (⟨3, ![16, 4096, 128]⟩ : Shape).Idx → EReal

/-- Query `t` times key `s` under head `h`, over the head's 128 lanes. -/
def qk (p : Packed) (b : Fin 16) (h : Fin 8) (t s : Fin 4096) : EReal :=
  ∑ x : Fin 128, p (ix3 b t ⟨9216 + (h.val * 128 + x.val), by omega⟩) * p (ix3 b s ⟨10240 + (h.val * 128 + x.val), by omega⟩)

/-- A position's decay under head `h`: the sum of its three terms. -/
def decay (d : Terms) (b : Fin 16) (h : Fin 8) (t : Fin 4096) : EReal :=
  ∑ y : Fin 3, d (ix3 b t ⟨h.val * 3 + y.val, by omega⟩)

/-- The masked logit: the product and the difference of the two decays in natural units, nothing for a key after the query. -/
def logit (p : Packed) (d : Terms) (b : Fin 16) (h : Fin 8) (t s : Fin 4096) : EReal :=
  if s.val ≤ t.val then qk p b h t s * (Real.log 2 : ℝ) + decay d b h t * (Real.log 2 : ℝ) - decay d b h s * (Real.log 2 : ℝ) else ⊥

/-- The largest logit of a row. -/
def top (p : Packed) (d : Terms) (b : Fin 16) (h : Fin 8) (t : Fin 4096) : EReal :=
  Finset.univ.fold max ⊥ fun s => logit p d b h t s

/-- Forgetting attention, one entry: the values weighted by the softmax of the row's logits. -/
def attn (p : Packed) (d : Terms) (b : Fin 16) (h : Fin 8) (t : Fin 4096) (e : Fin 128) : EReal :=
  ∑ s : Fin 4096, Ideal.div (Ideal.exp (logit p d b h t s - top p d b h t))
    (∑ s' : Fin 4096, Ideal.exp (logit p d b h t s' - top p d b h t)) * p (ix3 b s ⟨11264 + (h.val * 128 + e.val), by omega⟩)

/-- The result array: column `c` holds lane `c % 128` of head `c / 128`. -/
def result (p : Packed) (d : Terms) : Narrow := fun i =>
  attn p d (i 0) ⟨(i 2).val / 128, by have h : (i 2).val < 1024 := (i 2).isLt; omega⟩ (i 1)
    ⟨(i 2).val % 128, Nat.mod_lt _ (by decide)⟩

/-- Every query, key and decay term is a real number. -/
def Real (p : Packed) (d : Terms) : Prop :=
  (∀ b t (x : Fin 2048), ∃ r : ℝ, p (ix3 b t ⟨9216 + x.val, by omega⟩) = r)
    ∧ ∀ b t (x : Fin 24), ∃ r : ℝ, d (ix3 b t ⟨x.val, by omega⟩) = r

variable {p : Packed} {d : Terms} (hf : Forget.Real p d)
include hf

/-- A product of a finite query and a finite key is real. -/
theorem qk_real (b h t s) : ∃ r : ℝ, qk p b h t s = r :=
  sum_real _ _ fun x => by
    obtain ⟨u, hu⟩ := hf.1 b t ⟨h.val * 128 + x.val, by omega⟩
    obtain ⟨w, hw⟩ := hf.1 b s ⟨1024 + (h.val * 128 + x.val), by omega⟩
    refine ⟨u * w, ?_⟩
    rw [EReal.coe_mul, ← hu, ← hw]
    congr 3
    exact Fin.ext (by simp only; omega)

/-- A decay is real. -/
theorem decay_real (b h t) : ∃ r : ℝ, decay d b h t = r :=
  sum_real _ _ fun y => hf.2 b t ⟨h.val * 3 + y.val, by omega⟩

/-- A logit is a real number at a key the query sees. -/
theorem logit_real (b h t) (s : Fin 4096) (hs : s.val ≤ t.val) : ∃ r : ℝ, logit p d b h t s = r := by
  obtain ⟨u, hu⟩ := qk_real hf b h t s
  obtain ⟨v, hv⟩ := decay_real hf b h t
  obtain ⟨w, hw⟩ := decay_real hf b h s
  refine ⟨u * _root_.Real.log 2 + v * _root_.Real.log 2 - w * _root_.Real.log 2, ?_⟩
  rw [logit, if_pos hs, hu, hv, hw]
  norm_cast

/-- A logit is the score in base 2, less the key's decay, times ln 2, up to a number of the row. -/
theorem logit_base (b h t s) (δ : ℝ) (hδ : decay d b h t = δ) :
    logit p d b h t s
      = (if s.val ≤ t.val then qk p b h t s + -decay d b h s else ⊥) * (_root_.Real.log 2 : ℝ) + (δ * _root_.Real.log 2 : ℝ) := by
  unfold logit
  by_cases hs : s.val ≤ t.val
  · obtain ⟨u, hu⟩ := qk_real hf b h t s
    obtain ⟨v, hv⟩ := decay_real hf b h s
    rw [if_pos hs, if_pos hs, hδ, hu, hv]
    norm_cast
    ring
  · rw [if_neg hs, if_neg hs, EReal.bot_mul_coe_of_pos (_root_.Real.log_pos (by norm_num)), EReal.bot_add]

/-- The largest logit of a row is real: the row has the query's own key. -/
theorem top_real (b h t) : ∃ r : ℝ, top p d b h t = r := by
  have h1 : top p d b h t ≠ ⊤ := by
    refine ne_of_lt ?_
    unfold top
    rw [Finset.fold_max_lt]
    refine ⟨bot_lt_top, fun s _ => ?_⟩
    by_cases hs : s.val ≤ t.val
    · obtain ⟨r, hr⟩ := logit_real hf b h t s hs
      rw [hr]; exact EReal.coe_lt_top _
    · rw [logit, if_neg hs]; exact bot_lt_top
  have h2 : top p d b h t ≠ ⊥ := by
    refine ne_of_gt ?_
    unfold top
    rw [Finset.lt_fold_max]
    obtain ⟨r, hr⟩ := logit_real hf b h t t le_rfl
    exact .inr ⟨t, Finset.mem_univ _, by rw [hr]; exact EReal.bot_lt_coe _⟩
  exact ⟨_, (EReal.coe_toReal h1 h2).symm⟩

/-- The three lanes of a head, each times minus one and the others times nothing, sum to minus the decay. -/
theorem picked (b h s) (w : Fin 128 → EReal) (hw : ∀ x : Fin 128, w x = if 3 * h.val ≤ x.val ∧ x.val < 3 * h.val + 3 then -1 else 0) :
    ∑ x : Fin 128, w x * d (ix3 b s x) = -decay d b h s := by
  have key : ∑ y : Fin 3, -d (ix3 b s ⟨h.val * 3 + y.val, by omega⟩) = ∑ x : Fin 128, w x * d (ix3 b s x) := by
    refine Fintype.sum_of_injective (fun y : Fin 3 => (⟨h.val * 3 + y.val, by omega⟩ : Fin 128))
      (fun y z e => Fin.ext (by have := congrArg Fin.val e; simp only at this; omega)) _ _ (fun x hx => ?_) fun y => ?_
    · rw [hw, if_neg, zero_mul]
      rintro ⟨h1, h2⟩
      exact hx ⟨⟨x.val - 3 * h.val, by omega⟩, Fin.ext (by simp only; omega)⟩
    · rw [hw, if_pos ⟨by simp only; omega, by simp only; omega⟩, neg_mul, one_mul]
  rw [← key, decay]
  obtain ⟨r0, h0⟩ := hf.2 b s ⟨h.val * 3 + (0 : Fin 3).val, by omega⟩
  obtain ⟨r1, h1⟩ := hf.2 b s ⟨h.val * 3 + (1 : Fin 3).val, by omega⟩
  obtain ⟨r2, h2⟩ := hf.2 b s ⟨h.val * 3 + (2 : Fin 3).val, by omega⟩
  rw [Fin.sum_univ_three, Fin.sum_univ_three, h0, h1, h2]
  norm_cast
  ring

end Forget

end
-- ==== Proof.FoxArray.lean ====
/- The result array of the forgetting attention's kernel: each grid point's block of it, read off the row states, is the block
   of the attention of the argument arrays, and the blocks cover the array. -/
module

public import proofs.«01_k».proof.Proof.FoxBlock
public import proofs.«01_k».proof.Proof.Forget
public import proofs.«01_k».proof.Proof.Gen.FoxIdeal.Value

@[expose] public section

set_option maxRecDepth 16384

noncomputable section

namespace Cert.FoxIdeal.Value

open Cert.FoxIdeal Cert.FoxIdeal.Gen Idealize.ShloMosaic Idealize.ShloMosaic.TcCoe Idealize.SL.Sem Forget

/-! ## The windows' blocks: batch `t / 8`, four heads `t / 4 % 2`, a quarter `t % 4` of the rows -/

theorem coord1 (t : Fin cfg0.N) : (grid0.coords t 1).val = t.val / 4 % 2 :=
  (by decide +kernel : ∀ t : Fin grid0.N, (grid0.coords t 1).val = t.val / 4 % 2) t

theorem coord2 (t : Fin cfg0.N) : (grid0.coords t 2).val = t.val % 4 :=
  (by decide +kernel : ∀ t : Fin grid0.N, (grid0.coords t 2).val = t.val % 4) t

theorem index0 (t : Fin cfg0.N) : win0_0.index t (0 : Fin 3) = t.val / 8 ∧ win0_0.index t (1 : Fin 3) = t.val % 4 ∧ win0_0.index t (2 : Fin 3) = 18 + t.val / 4 % 2 :=
  (by decide +kernel : ∀ t : Fin grid0.N, win0_0.index t (0 : Fin 3) = t.val / 8 ∧ win0_0.index t (1 : Fin 3) = t.val % 4 ∧ win0_0.index t (2 : Fin 3) = 18 + t.val / 4 % 2) t

theorem index1 (t : Fin cfg0.N) : win0_1.index t (0 : Fin 3) = t.val / 8 ∧ win0_1.index t (1 : Fin 3) = 0 ∧ win0_1.index t (2 : Fin 3) = 20 + t.val / 4 % 2 :=
  (by decide +kernel : ∀ t : Fin grid0.N, win0_1.index t (0 : Fin 3) = t.val / 8 ∧ win0_1.index t (1 : Fin 3) = 0 ∧ win0_1.index t (2 : Fin 3) = 20 + t.val / 4 % 2) t

theorem index2 (t : Fin cfg0.N) : win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0) t

theorem index3 (t : Fin cfg0.N) : win0_3.index t (0 : Fin 3) = t.val / 8 ∧ win0_3.index t (1 : Fin 3) = 0 ∧ win0_3.index t (2 : Fin 3) = 22 + t.val / 4 % 2 :=
  (by decide +kernel : ∀ t : Fin grid0.N, win0_3.index t (0 : Fin 3) = t.val / 8 ∧ win0_3.index t (1 : Fin 3) = 0 ∧ win0_3.index t (2 : Fin 3) = 22 + t.val / 4 % 2) t

theorem index4 (t : Fin cfg0.N) : win0_4.index t (0 : Fin 3) = t.val / 8 ∧ win0_4.index t (1 : Fin 3) = t.val % 4 ∧ win0_4.index t (2 : Fin 3) = t.val / 4 % 2 :=
  (by decide +kernel : ∀ t : Fin grid0.N, win0_4.index t (0 : Fin 3) = t.val / 8 ∧ win0_4.index t (1 : Fin 3) = t.val % 4 ∧ win0_4.index t (2 : Fin 3) = t.val / 4 % 2) t

theorem t_lt (t : Fin cfg0.N) : t.val < 128 := lt_of_lt_of_eq t.isLt N_0

/-- The batch of a point's blocks. -/
def bt (t : Fin cfg0.N) : Fin 16 := ⟨t.val / 8, by have := t_lt t; omega⟩
/-- The head `g` of the point's four. -/
def hd (t : Fin cfg0.N) (g : Fin 4) : Fin 8 := ⟨4 * (t.val / 4 % 2) + g.val, by omega⟩
/-- The row `r` of the point's quarter. -/
def rw' (t : Fin cfg0.N) (r : Fin 1024) : Fin 4096 := ⟨1024 * (t.val % 4) + r.val, by omega⟩

variable (m : (ℓ : Loc nD τ sig) → Buf (Elt Ideal) ℓ) (ρ : Dev nD → PrngReg)

/-- The packed projection and the decay terms as launched. -/
def P (c : Dev nD) : Packed := m ((c : Thread nD τ).loc main_arg0)
def D (c : Dev nD) : Terms := m ((c : Thread nD τ).loc main_arg1)

/-- The queries' block. -/
theorem x0_at (c : Dev nD) (t : Fin cfg0.N) (r : Fin 1024) (x : Fin 512) :
    X0_0 m c t (ix3 0 r x) = P m c (ix3 (bt t) (rw' t r) ⟨9216 + (512 * (t.val / 4 % 2) + x.val), by omega⟩) := by
  unfold X0_0 Pipeline.Window.fill
  rw [dif_pos (moved0_0 t _)]
  refine congrArg (P m c) ?_
  obtain ⟨e0, e1, e2⟩ := index0 t
  funext a; apply Fin.ext
  match a with
  | ⟨0, _⟩ => show win0_0.index t (0 : Fin 3) * 1 + 1 * 0 = t.val / 8; omega
  | ⟨1, _⟩ => show win0_0.index t (1 : Fin 3) * 1024 + 1 * r.val = 1024 * (t.val % 4) + r.val; omega
  | ⟨2, _⟩ => show win0_0.index t (2 : Fin 3) * 512 + 1 * x.val = 9216 + (512 * (t.val / 4 % 2) + x.val); omega

/-- The keys' block. -/
theorem x1_at (c : Dev nD) (t : Fin cfg0.N) (s : Fin 4096) (x : Fin 512) :
    X0_1 m c t (ix3 0 s x) = P m c (ix3 (bt t) s ⟨10240 + (512 * (t.val / 4 % 2) + x.val), by omega⟩) := by
  unfold X0_1 Pipeline.Window.fill
  rw [dif_pos (moved0_1 t _)]
  refine congrArg (P m c) ?_
  obtain ⟨e0, e1, e2⟩ := index1 t
  funext a; apply Fin.ext
  match a with
  | ⟨0, _⟩ => show win0_1.index t (0 : Fin 3) * 1 + 1 * 0 = t.val / 8; omega
  | ⟨1, _⟩ => show win0_1.index t (1 : Fin 3) * 4096 + 1 * s.val = s.val; omega
  | ⟨2, _⟩ => show win0_1.index t (2 : Fin 3) * 512 + 1 * x.val = 10240 + (512 * (t.val / 4 % 2) + x.val); omega

/-- The decay terms' block. -/
theorem x2_at (c : Dev nD) (t : Fin cfg0.N) (s : Fin 4096) (x : Fin 128) :
    iblk m c 2 t (ix3 0 s x) = D m c (ix3 (bt t) s x) := by
  refine congrArg (D m c) (a₁ := ((cfg0.win 2).blk t).view.emb (ix3 0 s x)) ?_
  obtain ⟨e0, e1, e2⟩ := index2 t
  funext a; apply Fin.ext
  match a with
  | ⟨0, _⟩ => show win0_2.index t (0 : Fin 3) * 1 + 1 * 0 = t.val / 8; omega
  | ⟨1, _⟩ => show win0_2.index t (1 : Fin 3) * 4096 + 1 * s.val = s.val; omega
  | ⟨2, _⟩ => show win0_2.index t (2 : Fin 3) * 128 + 1 * x.val = x.val; omega

/-- The values' block. -/
theorem x3_at (c : Dev nD) (t : Fin cfg0.N) (s : Fin 4096) (x : Fin 512) :
    X0_3 m c t (ix3 0 s x) = P m c (ix3 (bt t) s ⟨11264 + (512 * (t.val / 4 % 2) + x.val), by omega⟩) := by
  unfold X0_3 Pipeline.Window.fill
  rw [dif_pos (moved0_3 t _)]
  refine congrArg (P m c) ?_
  obtain ⟨e0, e1, e2⟩ := index3 t
  funext a; apply Fin.ext
  match a with
  | ⟨0, _⟩ => show win0_3.index t (0 : Fin 3) * 1 + 1 * 0 = t.val / 8; omega
  | ⟨1, _⟩ => show win0_3.index t (1 : Fin 3) * 4096 + 1 * s.val = s.val; omega
  | ⟨2, _⟩ => show win0_3.index t (2 : Fin 3) * 512 + 1 * x.val = 11264 + (512 * (t.val / 4 % 2) + x.val); omega

/-- The output's block. -/
theorem emb4 (t : Fin cfg0.N) (r : Fin 1024) (x : Fin 512) :
    ((cfg0.win 4).blk t).view.emb (ix3 0 r x) = ix3 (bt t) (rw' t r) ⟨512 * (t.val / 4 % 2) + x.val, by omega⟩ := by
  obtain ⟨e0, e1, e2⟩ := index4 t
  funext a; apply Fin.ext
  match a with
  | ⟨0, _⟩ => show win0_4.index t (0 : Fin 3) * 1 + 1 * 0 = t.val / 8; omega
  | ⟨1, _⟩ => show win0_4.index t (1 : Fin 3) * 1024 + 1 * r.val = 1024 * (t.val % 4) + r.val; omega
  | ⟨2, _⟩ => show win0_4.index t (2 : Fin 3) * 512 + 1 * x.val = 512 * (t.val / 4 % 2) + x.val; omega

/-- A block's scores are the masked products of the arrays' rows, less the keys' decays. -/
theorem sc_at (c : Dev nD) (hf : Forget.Real (P m c) (D m c)) (t : Fin cfg0.N) (g : Fin 4) (r : Fin 1024) (κ : ℕ) :
    sc (X0_0 m c t) (X0_1 m c t) (iblk m c 2 t) (t.val / 4 % 2) (t.val % 4) g r κ
      = if κ ≤ (rw' t r).val then qk (P m c) (bt t) (hd t g) (rw' t r) (Fin.ofNat 4096 κ) + -decay (D m c) (bt t) (hd t g) (Fin.ofNat 4096 κ) else ⊥ := by
  refine if_congr Iff.rfl (congrArg₂ (· + ·) (Finset.sum_congr rfl fun x _ => ?_) ?_) rfl
  · refine (Ideal.mul_congr (x0_at m c t r _) (x1_at m c t _ _)).trans ?_
    congr 4 <;> simp only [hd] <;> omega
  · rw [← picked hf (bt t) (hd t g) (Fin.ofNat 4096 κ) (pick (4 * (t.val / 4 % 2) + g.val)) fun x => rfl]
    exact Finset.sum_congr rfl fun x _ => congrArg (pick (4 * (t.val / 4 % 2) + g.val) x * ·) (x2_at m c t _ x)

/-- A block's values are the array's. -/
theorem vl_at (c : Dev nD) (t : Fin cfg0.N) (g : Fin 4) (κ : ℕ) (e : Fin 128) :
    lanes (X0_3 m c t) g κ e = P m c (ix3 (bt t) (Fin.ofNat 4096 κ) ⟨11264 + ((hd t g).val * 128 + e.val), by have := (hd t g).isLt; omega⟩) := by
  refine (x3_at m c t _ _).trans ?_
  congr 2
  exact Fin.ext (by simp only [hd]; omega)

/-- With finite queries, keys and decay terms, an entry of what a point leaves in its output block is the attention's. -/
theorem block_at (c : Dev nD) (hf : Forget.Real (P m c) (D m c)) (t : Fin cfg0.N) (g : Fin 4) (r : Fin 1024) (e : Fin 128) :
    out0_A_4 c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _)
        (X0_0 m c t) (X0_1 m c t) (iblk m c 2 t) (X0_3 m c t) (ix3 0 r ⟨128 * g.val + e.val, by omega⟩)
      = attn (P m c) (D m c) (bt t) (hd t g) (rw' t r) e := by
  have h1 := coord1 t
  have hn := coord2 t
  have hreal : ∀ g r κ, κ ≤ (rw' t r).val → ∃ x : ℝ, sc (X0_0 m c t) (X0_1 m c t) (iblk m c 2 t) (grid0.coords t 1).val (grid0.coords t 2).val g r κ = x :=
    fun g r κ h => by
      obtain ⟨u, hu⟩ := qk_real hf (bt t) (hd t g) (rw' t r) (Fin.ofNat 4096 κ)
      obtain ⟨v, hv⟩ := decay_real hf (bt t) (hd t g) (Fin.ofNat 4096 κ)
      exact ⟨u + -v, by rw [h1, hn, sc_at m c hf, if_pos h, hu, hv]; norm_cast⟩
  have hs : ∀ g r κ, sc (X0_0 m c t) (X0_1 m c t) (iblk m c 2 t) (grid0.coords t 1).val (grid0.coords t 2).val g r κ ≠ ⊤ := fun g r κ => by
    by_cases h : κ ≤ (rw' t r).val
    · obtain ⟨x, hx⟩ := hreal g r κ h
      rw [hx]; exact EReal.coe_ne_top _
    · rw [h1, hn, sc_at m c hf, if_neg h]; exact bot_ne_top
  have hb : ∀ g r κ, κ ≤ (rw' t r).val → sc (X0_0 m c t) (X0_1 m c t) (iblk m c 2 t) (grid0.coords t 1).val (grid0.coords t 2).val g r κ ≠ ⊥ := fun g r κ h => by
    obtain ⟨x, hx⟩ := hreal g r κ h
    rw [hx]; exact EReal.coe_ne_bot _
  have h₀ : ∀ g r, sc (X0_0 m c t) (X0_1 m c t) (iblk m c 2 t) (grid0.coords t 1).val (grid0.coords t 2).val g r (512 * (2 * (grid0.coords t 2).val)) ≠ ⊥ :=
    fun g r => hb g r _ (by rw [hn]; simp only [rw']; omega)
  obtain ⟨M, L, A, hrow, hval⟩ := body_row c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _)
    (X0_0 m c t) (X0_1 m c t) (iblk m c 2 t) (X0_3 m c t) hs h₀ VO0_4 VO0_4.junk g r e
  obtain ⟨μ, hμ⟩ := top_real hf (bt t) (hd t g) (rw' t r)
  obtain ⟨δ, hδ⟩ := decay_real hf (bt t) (hd t g) (rw' t r)
  refine hval.trans ((hrow.finish ?_ (hs g r) ?_ (rw' t r) (hb g r _ le_rfl)
    (logit (P m c) (D m c) (bt t) (hd t g) (rw' t r)) (δ * _root_.Real.log 2) μ ?_ e).trans ?_)
  · have := (grid0.coords t 2).isLt
    intro x hx
    rw [hn] at hx
    split_ifs at hx <;> simp only [Finset.mem_insert, Finset.mem_range] at hx ⊢ <;> omega
  · intro τ hτ hT j hj
    rw [h1, hn, sc_at m c hf, if_neg]
    rw [hn] at hT
    simp only [rw']
    split_ifs at hT <;> simp only [Finset.mem_insert, Finset.mem_range, not_or] at hT <;> omega
  · intro s
    rw [h1, hn, sc_at m c hf, ofNat_eq s.isLt]
    exact logit_base hf _ _ _ s δ hδ
  · unfold attn
    rw [hμ]
    refine Finset.sum_congr rfl fun s _ => ?_
    rw [vl_at, ofNat_eq s.isLt]

/-- What a point writes back is its block of the attention of the arguments. -/
theorem flushed_eq (c : Dev nD) (hf : Forget.Real (P m c) (D m c)) (t : Fin cfg0.N) :
    (dats m 0 c).flushed 4 t = ((cfg0.win 4).blk t).view.read (Elt Ideal) (result (P m c) (D m c)) := by
  rw [flushed4_A]
  funext (j : S1x1024x512.Idx)
  obtain ⟨z, r, x, rfl⟩ : ∃ (z : Fin 1) (r : Fin 1024) (x : Fin 512), j = ix3 z r x := ⟨j 0, j 1, j 2, eq_ix3 j⟩
  obtain rfl : z = 0 := Subsingleton.elim _ _
  obtain ⟨g, e, hx⟩ : ∃ (g : Fin 4) (e : Fin 128), x = ⟨128 * g.val + e.val, by omega⟩ :=
    ⟨⟨x.val / 128, by omega⟩, ⟨x.val % 128, by omega⟩, Fin.ext (by simp only; omega)⟩
  subst hx
  refine (block_at m c hf t g r e).trans ?_
  show _ = result (P m c) (D m c) (((cfg0.win 4).blk t).view.emb (ix3 0 r _))
  rw [emb4]
  show _ = attn (P m c) (D m c) (bt t) _ (rw' t r) _
  congr 1
  · exact Fin.ext (by show 4 * (t.val / 4 % 2) + g.val = (512 * (t.val / 4 % 2) + (128 * g.val + e.val)) / 128; omega)
  · exact Fin.ext (by show e.val = (512 * (t.val / 4 % 2) + (128 * g.val + e.val)) % 128; omega)

/-- Every entry of the result array is in some point's block. -/
theorem covered (i : S16x4096x1024.Idx) :
    ∃ t : Fin cfg0.N, (cfg0.win 4).flush t = true ∧ i ∈ ((cfg0.win 4).blk t).view.set := by
  obtain ⟨b, s, x, rfl⟩ : ∃ (b : Fin 16) (s : Fin 4096) (x : Fin 1024), i = ix3 b s x := ⟨i 0, i 1, i 2, eq_ix3 i⟩
  have hN : 8 * b.val + 4 * (x.val / 512) + s.val / 1024 < cfg0.N := by rw [show cfg0.N = 128 from N_0]; omega
  refine ⟨⟨_, hN⟩, flush0_4 _, ?_⟩
  have h := ((cfg0.win 4).blk (⟨_, hN⟩ : Fin cfg0.N)).view.emb_mem_set (ix3 0 ⟨s.val % 1024, by omega⟩ ⟨x.val % 512, by omega⟩)
  rw [emb4] at h
  have e : ix3 b s x = ix3 (bt ⟨_, hN⟩) (rw' ⟨_, hN⟩ ⟨s.val % 1024, by omega⟩)
      ⟨512 * ((8 * b.val + 4 * (x.val / 512) + s.val / 1024) / 4 % 2) + x.val % 512, by omega⟩ :=
    (ix3_inj ..).2 ⟨Fin.ext (by simp only [bt]; omega), Fin.ext (by simp only [rw']; omega), Fin.ext (by simp only; omega)⟩
  exact e ▸ h

/-- The result array after the run is the attention of the arguments. -/
theorem final (c : Dev nD) (hf : Forget.Real (P m c) (D m c)) : (dats m 0 c).arrAt 4 cfg0.N = result (P m c) (D m c) :=
  (dats m 0 c).arrAt_eq_of_cover 4 (result (P m c) (D m c)) (fun t _ => flushed_eq m c hf t) covered

/-- The kernel, of finite queries, keys and decay terms: it returns the attention, and leaves its arguments unchanged. -/
theorem run (hf : ∀ c, Forget.Real (P m c) (D m c)) :
    θ_run defs (onTc (τ := τ) (main (F := Ideal))) ⟨m, fun _ => 0, ρ⟩ fun r => ∀ c : Dev nD,
      r.2.mem ((c.tc : Thread nD τ).loc main_v0) = result (P m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c (hf c)), (h c).2⟩) (run_blocks m ρ)

end Cert.FoxIdeal.Value

end
-- ==== Proof.FoxRefValue.lean ====
/- What the forgetting attention's reference computes: `Forget.result` of its arguments. -/
module

public import proofs.«01_k».proof.Proof.Gen.FoxReferenceIdeal.Run
public import proofs.«01_k».proof.Proof.Forget
public import proofs.«01_k».proof.Proof.RefValue

@[expose] public section

set_option maxRecDepth 16384

noncomputable section

namespace Cert.FoxReferenceIdeal.Value

open Cert.FoxReferenceIdeal Cert.FoxReferenceIdeal.Gen Idealize.ShloMosaic Idealize.ShloMosaic.TcCoe Idealize.SL.Sem Forget
open Cert.ReferenceIdeal.Value (filler factor order narrow narrow_at joined joined_at past past_at spread spread_at powers powers_at weights weights_at mixed mixed_at)

/-- The 1024 columns of the packed projection from column 9216 on, and the next two thousands. -/
def queries (p : FVec Ideal S16x4096x13056 .bf16) : FVec Ideal S16x4096x1024 .bf16 :=
  extractStridedSlice S16x4096x1024 ![0, 0, 9216] p slices_S16x4096x13056_S16x4096x1024_0_0_9216
def keys (p : FVec Ideal S16x4096x13056 .bf16) : FVec Ideal S16x4096x1024 .bf16 :=
  extractStridedSlice S16x4096x1024 ![0, 0, 10240] p slices_S16x4096x13056_S16x4096x1024_0_0_10240
def values (p : FVec Ideal S16x4096x13056 .bf16) : FVec Ideal S16x4096x1024 .bf16 :=
  extractStridedSlice S16x4096x1024 ![0, 0, 11264] p slices_S16x4096x13056_S16x4096x1024_0_0_11264

/-- Queries times keys. -/
def products (q k : FVec Ideal S16x8x4096x128 .f32) : FVec Ideal S16x8x4096x4096 .f32 :=
  Host.dotGeneral dot_S16x8x4096x128_S16x8x4096x128_S16x8x4096x4096_3_3_2_2_01_01 none q k

/-- The decays in natural units, head by head. -/
def decays (d : FVec Ideal S16x4096x128 .bf16) : FVec Ideal S16x8x4096 .f32 :=
  mulf (transpose S16x8x4096 [0, 2, 1]
      (Host.reduceAdd (shapeCast _ (extf .f32 (extractStridedSlice S16x4096x24 ![0, 0, 0] d slices_S16x4096x128_S16x4096x24_0_0_0) bitsLt_bf16_f32)
        shapeCasts_S16x4096x24_S16x4096x8x3) (constant S_ .f32 0x00000000#32) reducesTo_S16x4096x8x3_S16x4096x8_d3 h_S_)
      transposes_S16x4096x8_S16x8x4096_0_2_1)
    (broadcastInDim S16x8x4096 ![] bcast_S_S16x8x4096 (Host.log (constant S_ .f32 0x40000000#32)))

/-- A number of each key, at every row. -/
def across (x : FVec Ideal S16x8x4096 .f32) : FVec Ideal S16x8x4096x4096 .f32 :=
  broadcastInDim S16x8x4096x4096 ![0, 1, 2, 3] bcast_S16x8x1x4096_S16x8x4096x4096_0_1_2_3
    (broadcastInDim S16x8x1x4096 ![0, 1, 3] bcast_S16x8x4096_S16x8x1x4096_0_1_3 x)

/-- The logits: the products in natural units and the difference of the decays, masked. -/
def logits (s : FVec Ideal S16x8x4096x4096 .f32) (d : FVec Ideal S16x8x4096 .f32) : FVec Ideal S16x8x4096x4096 .f32 :=
  select past (subf (addf (mulf s (broadcastInDim S16x8x4096x4096 ![] bcast_S_S16x8x4096x4096 (Host.log (constant S_ .f32 0x40000000#32)))) (spread d)) (across d))
    (broadcastInDim S16x8x4096x4096 ![] bcast_S_S16x8x4096x4096 (id (constant S_ .f32 0xFF800000#32)))

section reads
variable (b : Fin 16) (h : Fin 8) (t s : Fin 4096)

theorem queries_at (p : FVec Ideal S16x4096x13056 .bf16) (x : Fin 1024) : queries p (ix3 b t x) = p (ix3 b t ⟨9216 + x.val, by omega⟩) := by
  pointwise [queries]

theorem keys_at (p : FVec Ideal S16x4096x13056 .bf16) (x : Fin 1024) : keys p (ix3 b t x) = p (ix3 b t ⟨10240 + x.val, by omega⟩) := by
  pointwise [keys]

theorem values_at (p : FVec Ideal S16x4096x13056 .bf16) (x : Fin 1024) : values p (ix3 b t x) = p (ix3 b t ⟨11264 + x.val, by omega⟩) := by
  pointwise [values]

theorem products_at (q k : FVec Ideal S16x8x4096x128 .f32) :
    products q k (ix4 b h t s) = ∑ x : Fin 128, q (ix4 b h t x) * k (ix4 b h s x) := by
  pointwise [products]

theorem decays_at (d : FVec Ideal S16x4096x128 .bf16) : decays d (ix3 b h t) = decay d b h t * (Real.log 2 : ℝ) := by
  pointwise [decays]
  rw [factor, decay]

theorem across_at (x : FVec Ideal S16x8x4096 .f32) : across x (ix4 b h t s) = x (ix3 b h s) := by
  pointwise [across]

theorem logits_at (x : FVec Ideal S16x8x4096x4096 .f32) (d : FVec Ideal S16x8x4096 .f32) :
    logits x d (ix4 b h t s)
      = if s.val ≤ t.val then x (ix4 b h t s) * (Real.log 2 : ℝ) + d (ix3 b h t) - d (ix3 b h s) else ⊥ := by
  pointwise [logits, past_at, spread_at, across_at]
  rw [order, factor]
  exact if_congr Iff.rfl rfl filler

end reads

variable (m : (ℓ : Loc nD τ sig) → Buf (Elt Ideal) ℓ)

/-- The reference's result, stage by stage. -/
theorem stages (c : Dev nD) : res_main_v50 m c
    = joined (mixed (weights (powers (logits (products (narrow (queries (m ((c : Thread nD τ).loc main_arg0)))) (narrow (keys (m ((c : Thread nD τ).loc main_arg0)))))
        (decays (m ((c : Thread nD τ).loc main_arg1))))))
        (narrow (values (m ((c : Thread nD τ).loc main_arg0))))) := rfl

/-- The reference's result, entry by entry, is the attention of its arguments. -/
theorem entry (c : Dev nD) (b : Fin 16) (t : Fin 4096) (h : Fin 8) (e : Fin 128) :
    res_main_v50 m c (ix3 b t ⟨h.val * 128 + e.val, by omega⟩)
      = attn (m ((c : Thread nD τ).loc main_arg0)) (m ((c : Thread nD τ).loc main_arg1)) b h t e := by
  rw [stages]
  refine (joined_at b h t _ e).trans ((mixed_at b h t _ _ e).trans ?_)
  simp only [weights_at, powers_at, logits_at, products_at, narrow_at, queries_at, keys_at, values_at, decays_at, attn, top, logit, qk]

/-- The reference's result array is the attention of its arguments. -/
theorem whole (c : Dev nD) :
    res_main_v50 m c = result (m ((c : Thread nD τ).loc main_arg0)) (m ((c : Thread nD τ).loc main_arg1)) := by
  funext (i : S16x4096x1024.Idx)
  obtain ⟨b, t, x, rfl⟩ : ∃ (b : Fin 16) (t : Fin 4096) (x : Fin 1024), i = ix3 b t x := ⟨i 0, i 1, i 2, eq_ix3 i⟩
  have hx : x = ⟨(⟨x.val / 128, by omega⟩ : Fin 8).val * 128 + (⟨x.val % 128, by omega⟩ : Fin 128).val, by simp only; omega⟩ :=
    Fin.ext (by simp only; omega)
  exact (congrArg (fun y => res_main_v50 m c (ix3 b t y)) hx).trans (entry m c b t ⟨x.val / 128, by omega⟩ ⟨x.val % 128, by omega⟩)

end Cert.FoxReferenceIdeal.Value

end
-- ==== Proof.FoxFiniteness.lean ====
/- What the precondition of the forgetting attention says over the extended reals: every query, every key and every decay term
   is a real number. -/
module

public import proofs.«01_k».proof.Proof.Forget
public import Idealize.ShloMosaic.Lib.Affine
public import proofs.«01_k».proof.Pre_finite_queries_keys_and_decays

@[expose] public section

set_option maxRecDepth 16384

noncomputable section

namespace Cert.Pre_finite_queries_keys_and_decays

open Idealize.ShloMosaic FlashRow

/-- The bound of the comparison is the greatest extended real. -/
theorem greatest : Ideal.ofBits FTy.bf16 32640#16 = ⊤ := by simp [Ideal.ofBits, Ideal.ieee]

/-- A number the comparison admits is real. -/
theorem real_of_test {x : EReal} (hx : BitVec.ofBool (decide (max x (-x) < Ideal.ofBits FTy.bf16 32640#16)) = 1#1) : ∃ r : ℝ, x = r := by
  by_cases hd : max x (-x) < Ideal.ofBits FTy.bf16 32640#16
  · rw [greatest] at hd
    refine ⟨_, (EReal.coe_toReal (fun e => ?_) fun e => ?_).symm⟩ <;> rw [e] at hd <;> simp at hd
  · rw [decide_eq_false hd] at hx; exact absurd hx (by decide)

variable [Facts]

/-- Where the precondition holds, queries, keys and decay terms are real. -/
theorem real (p : FVec Ideal S16x4096x13056 .bf16) (d : FVec Ideal S16x4096x128 .bf16) (h : fn p d = fun _ => 1#1) : Forget.Real p d := by
  constructor
  · intro b t x
    have hi := congrFun h (ix3 b t ⟨x.val, by omega⟩)
    pointwise [fn] at hi
    exact real_of_test hi
  · intro b t x
    have hi := congrFun h (ix3 b t ⟨2048 + x.val, by omega⟩)
    pointwise [fn] at hi
    exact real_of_test hi

end Cert.Pre_finite_queries_keys_and_decays

end
-- ==== Proof.MergeLayer.lean ====
/- The mathematics of the merge: three branches, each gated and projected, their sum projected once more onto a scaled
   residual, and the result normalised row by row. -/
module

public import Idealize.ShloMosaic.Lib.Pointwise
public import Mathlib.Analysis.SpecialFunctions.Trigonometric.DerivHyp

@[expose] public section

set_option maxRecDepth 16384

noncomputable section

open Idealize.ShloMosaic

namespace MergeLayer

/-- The logistic function. -/
def gate (g : EReal) : EReal := Ideal.div 1 (1 + Ideal.exp (-g))

/-- A number times its logistic. -/
def silu (z : EReal) : EReal := z * gate z

/-- The residual's scale, the length of a row, and the floor of the variance. -/
def scale : EReal := Ideal.ofBits .f32 0x3FD744FD#32
def length : EReal := Ideal.ofBits .f32 0x44800000#32
def floor : EReal := Ideal.ofBits .f32 0x3727C5AC#32

/-- A branch's row: its entries times the activated gate inputs, projected, each entry of the product gated. -/
def branch (y z g : Fin 1024 → EReal) (p : Fin 1024 → Fin 1024 → EReal) (x : Fin 1024) : EReal :=
  gate (g x) * ∑ d, y d * silu (z d) * p d x

/-- A row times the output projection, on top of the scaled residual. -/
def total (h u : Fin 1024 → EReal) (w : Fin 1024 → Fin 1024 → EReal) (x : Fin 1024) : EReal :=
  scale * h x + ∑ d, u d * w d x

/-- The mean of a row. -/
def mean (f : Fin 1024 → EReal) : EReal := Ideal.div (∑ d, f d) length

/-- A row less its mean, over the root of its variance, scaled and shifted. -/
def normal (f a b : Fin 1024 → EReal) (x : Fin 1024) : EReal :=
  (f x - mean f) * Ideal.rsqrt (mean (fun d => (f d - mean f) * (f d - mean f)) + floor) * a x + b x

/-- A thousand of the six thousand packed columns, from column `n` on. -/
def cols (q : Fin 6144 → EReal) (n : ℕ) (hn : n + 1024 ≤ 6144) (d : Fin 1024) : EReal := q ⟨n + d.val, by omega⟩

/-- The three branches of a row, added. -/
def merged (y₀ y₁ y₂ : Fin 1024 → EReal) (q : Fin 6144 → EReal) (p₀ p₁ p₂ : Fin 1024 → Fin 1024 → EReal) (x : Fin 1024) : EReal :=
  branch y₀ (cols q 0 (by omega)) (cols q 3072 (by omega)) p₀ x + branch y₁ (cols q 1024 (by omega)) (cols q 4096 (by omega)) p₁ x
    + branch y₂ (cols q 2048 (by omega)) (cols q 5120 (by omega)) p₂ x

/-- A row of the result. -/
def row (y₀ y₁ y₂ : Fin 1024 → EReal) (q : Fin 6144 → EReal) (h : Fin 1024 → EReal) (p₀ p₁ p₂ w : Fin 1024 → Fin 1024 → EReal)
    (a b : Fin 1024 → EReal) : Fin 1024 → EReal :=
  normal (total h (merged y₀ y₁ y₂ q p₀ p₁ p₂) w) a b

/-- A matrix by its entries. -/
abbrev entries (p : FVec Ideal ⟨2, ![1024, 1024]⟩ .bf16) : Fin 1024 → Fin 1024 → EReal := fun d x => p (ix2 d x)

/-- The merge of whole arrays. -/
def result (y₀ y₁ y₂ : FVec Ideal ⟨2, ![65536, 1024]⟩ .bf16) (q : FVec Ideal ⟨2, ![65536, 13056]⟩ .bf16)
    (h : FVec Ideal ⟨2, ![65536, 1024]⟩ .f32) (p₀ p₁ p₂ w : FVec Ideal ⟨2, ![1024, 1024]⟩ .bf16) (a b : FVec Ideal ⟨1, ![1024]⟩ .f32) :
    FVec Ideal ⟨2, ![65536, 1024]⟩ .f32 := fun i =>
  row (fun d => y₀ (ix2 (i 0) d)) (fun d => y₁ (ix2 (i 0) d)) (fun d => y₂ (ix2 (i 0) d)) (fun d => q (ix2 (i 0) ⟨d.val, by omega⟩))
    (fun d => h (ix2 (i 0) d)) (entries p₀) (entries p₁) (entries p₂) (entries w) (fun d => a (ix1 d)) (fun d => b (ix1 d)) (i 1)

/-- The normalised rows of an array, scaled and shifted. -/
def normalRows (x : FVec Ideal ⟨2, ![65536, 1024]⟩ .f32) (a b : FVec Ideal ⟨1, ![1024]⟩ .f32) : FVec Ideal ⟨2, ![65536, 1024]⟩ .f32 := fun i =>
  normal (fun d => x (ix2 (i 0) d)) (fun d => a (ix1 d)) (fun d => b (ix1 d)) (i 1)

/-! ## The logistic by the hyperbolic tangent of half the argument -/

/-- One half. -/
theorem half_eq : Ideal.ofBits FTy.bf16 0x3F00#16 = ((1 / 2 : ℝ) : EReal) := by
  simp [Ideal.ofBits, Ideal.ieee]
  rw [← EReal.coe_mul]; norm_num

/-- The logistic of a real is half of one plus the tangent of half the argument. -/
theorem tanh_half (x : ℝ) : 1 / 2 + 1 / 2 * Real.tanh (x * (1 / 2)) = (1 + Real.exp (-x))⁻¹ := by
  have h : Real.exp (-x) = Real.exp (-(x * (1 / 2))) * Real.exp (-(x * (1 / 2))) := by rw [← Real.exp_add]; congr 1; ring
  have e : Real.exp (x * (1 / 2)) * Real.exp (-(x * (1 / 2))) = 1 := by rw [← Real.exp_add]; simp
  have h1 := Real.exp_pos (x * (1 / 2))
  have h2 := Real.exp_pos (-(x * (1 / 2)))
  rw [Real.tanh_eq_sinh_div_cosh, Real.sinh_eq, Real.cosh_eq, h]
  generalize Real.exp (x * (1 / 2)) = u at *
  generalize Real.exp (-(x * (1 / 2))) = v at *
  field_simp
  nlinarith [e]

theorem gate_coe (x : ℝ) : gate x = (((1 + Real.exp (-x))⁻¹ : ℝ) : EReal) := Ideal.logistic_coe (r := x)
theorem gate_top : gate ⊤ = 1 := Ideal.logistic_top
theorem gate_bot : gate ⊥ = 0 := Ideal.logistic_bot

/-- Half plus half the tangent of half the argument is the logistic, at every extended real. -/
theorem halfGate (g : EReal) :
    Ideal.ofBits FTy.bf16 0x3F00#16 + Ideal.ofBits FTy.bf16 0x3F00#16 * Ideal.tanh (g * Ideal.ofBits FTy.bf16 0x3F00#16) = gate g := by
  rw [half_eq]
  induction g with
  | bot =>
    rw [EReal.bot_mul_coe_of_pos (by norm_num), Ideal.tanh_bot, gate_bot, show (-1 : EReal) = ((-1 : ℝ) : EReal) by simp, ← EReal.coe_mul, ← EReal.coe_add]
    norm_num
  | top =>
    rw [EReal.top_mul_coe_of_pos (by norm_num), Ideal.tanh_top, gate_top]
    norm_cast; norm_num
  | coe x =>
    rw [gate_coe, ← tanh_half, ← EReal.coe_mul, Ideal.tanh_coe]
    norm_cast

/-- Half the argument plus half of it times its tangent is the argument times its logistic, above minus infinity. -/
theorem halfSilu (z : EReal) (hz : z ≠ ⊥) :
    z * Ideal.ofBits FTy.bf16 0x3F00#16 + z * Ideal.ofBits FTy.bf16 0x3F00#16 * Ideal.tanh (z * Ideal.ofBits FTy.bf16 0x3F00#16) = silu z := by
  rw [half_eq, silu]
  induction z with
  | bot => exact absurd rfl hz
  | top =>
    rw [EReal.top_mul_coe_of_pos (by norm_num), Ideal.tanh_top, gate_top, mul_one]
    rfl
  | coe x =>
    rw [gate_coe, ← tanh_half, ← EReal.coe_mul, Ideal.tanh_coe]
    norm_cast
    ring

end MergeLayer

end
-- ==== Proof.MergeParts.lean ====
/- What one grid point of the merge stores: two strips of 256 rows, each a fixed function of the blocks loaded for it. -/
module

public import proofs.«01_k».proof.Proof.Gen.MergeIdeal.Value
public import proofs.«01_k».proof.Proof.MergeLayer

@[expose] public section

set_option maxRecDepth 16384

noncomputable section

namespace Cert.MergeIdeal.Value

open Cert.MergeIdeal Cert.MergeIdeal.Gen Idealize.ShloMosaic Idealize.ShloMosaic.TcCoe Idealize.SL.Sem MergeLayer

section stages
variable {F : FTy → Type} [FloatOps F]

/-- One half, everywhere. -/
def halves : FVec F S256x1024 .bf16 := broadcast S256x1024 (Scalar.ofBits .bf16 0x3F00#16)

/-- The gates, by the tangent of half their arguments. -/
def gates (g : Vec F S256x1024 .bf16) : FVec F S256x1024 .bf16 := addf halves (mulf halves (tanh (mulf g halves)))

/-- A branch's entries times their activated arguments. -/
def gated (z y : Vec F S256x1024 .bf16) : FVec F S256x1024 .bf16 :=
  mulf y (addf (mulf z halves) (mulf (mulf z halves) (tanh (mulf z halves))))

/-- A branch: projected, then gated. -/
def part (z y g : Vec F S256x1024 .bf16) (p : Vec F S1024x1024 .bf16) : FVec F S256x1024 .f32 :=
  mulf (extf .f32 (gates g) bitsLt_bf16_f32)
    (matmul dot_S256x1024_S1024x1024_S256x1024_1_0_0_1_n_n none (gated z y) p (constant S256x1024 .f32 0x00000000#32))

/-- The three branches' sum. -/
def mixed (z₀ y₀ g₀ : Vec F S256x1024 .bf16) (p₀ : Vec F S1024x1024 .bf16) (z₁ y₁ g₁ : Vec F S256x1024 .bf16) (p₁ : Vec F S1024x1024 .bf16)
    (z₂ y₂ g₂ : Vec F S256x1024 .bf16) (p₂ : Vec F S1024x1024 .bf16) : FVec F S256x1024 .bf16 :=
  truncf .bf16 (addf (addf (part z₀ y₀ g₀ p₀) (part z₁ y₁ g₁ p₁)) (part z₂ y₂ g₂ p₂)) bitsLt_bf16_f32

/-- The output projection of the sum, on top of the scaled residual. -/
def summed (u : FVec F S256x1024 .bf16) (w : Vec F S1024x1024 .bf16) (h : Vec F S256x1024 .f32) : FVec F S256x1024 .f32 :=
  addf (mulf (broadcast S256x1024 (Scalar.ofBits .f32 0x3FD744FD#32)) h)
    (matmul dot_S256x1024_S1024x1024_S256x1024_1_0_0_1_n_n none u w (constant S256x1024 .f32 0x00000000#32))

/-- The rows' means. -/
def means (r : FVec F S256x1024 .f32) : FVec F S256x1 .f32 :=
  divf (shapeCast S256x1 (multiReduction .add [1] S256 r 0x00000000#32 reduces_S256x1024_S256 (.inl rfl) rfl) shapeCasts_S256_S256x1)
    (broadcast S256x1 (Scalar.ofBits .f32 0x44800000#32))

/-- The rows less their means. -/
def centred (r : FVec F S256x1024 .f32) : FVec F S256x1024 .f32 := subf r (broadcastTo S256x1024 (means r) broadcasts_S256x1_S256x1024)

/-- The rows normalised, scaled and shifted. -/
def normed (r : FVec F S256x1024 .f32) (a b : Vec F S1x1024 .f32) : FVec F S256x1024 .f32 :=
  addf (mulf (mulf (centred r) (broadcastTo S256x1024 (rsqrt (addf (means (mulf (centred r) (centred r)))
      (broadcast S256x1 (Scalar.ofBits .f32 0x3727C5AC#32)))) broadcasts_S256x1_S256x1024))
      (broadcastTo S256x1024 (shapeCast S1x1024 a shapeCasts_S1x1024_S1x1024) broadcasts_S1x1024_S256x1024))
    (broadcastTo S256x1024 (shapeCast S1x1024 b shapeCasts_S1x1024_S1x1024) broadcasts_S1x1024_S256x1024)

/-- A strip of the result. -/
def strip (y₀ y₁ y₂ z₀ z₁ z₂ g₀ g₁ g₂ : Vec F S256x1024 .bf16) (h : Vec F S256x1024 .f32) (p₀ p₁ p₂ w : Vec F S1024x1024 .bf16)
    (a b : Vec F S1x1024 .f32) : FVec F S256x1024 .f32 :=
  normed (summed (mixed z₀ y₀ g₀ p₀ z₁ y₁ g₁ p₁ z₂ y₂ g₂ p₂) w h) a b

/-! ## What a point loads -/

/-- 256 rows of a branch's block, of a thousand columns of the packed block, and of the residual's; and the whole of the weights'
and of the two vectors' blocks. -/
def yB (arg : Memref sig .tc .vmem S512x1024 .bf16) (X : BufTy.Contents (Elt F) arg.view.ty) (o : Fin 2 → ℕ)
    (h : ∀ a, o a + S256x1024.size a ≤ S512x1024.size a) : Vec F S256x1024 .bf16 :=
  arg.view.readAt (Elt F) (Rect.unit (s := S512x1024) o S256x1024.size h).toLoadRect X
def qB (arg : Memref sig .tc .vmem S512x6144 .bf16) (X : BufTy.Contents (Elt F) arg.view.ty) (o : Fin 2 → ℕ)
    (h : ∀ a, o a + S256x1024.size a ≤ S512x6144.size a) : Vec F S256x1024 .bf16 :=
  arg.view.readAt (Elt F) (Rect.unit (s := S512x6144) o S256x1024.size h).toLoadRect X
def hB (arg : Memref sig .tc .vmem S512x1024 .f32) (X : BufTy.Contents (Elt F) arg.view.ty) (o : Fin 2 → ℕ)
    (h : ∀ a, o a + S256x1024.size a ≤ S512x1024.size a) : Vec F S256x1024 .f32 :=
  arg.view.readAt (Elt F) (Rect.unit (s := S512x1024) o S256x1024.size h).toLoadRect X
def wB (arg : Memref sig .tc .vmem S1024x1024 .bf16) (X : BufTy.Contents (Elt F) arg.view.ty) : Vec F S1024x1024 .bf16 :=
  arg.view.readAt (Elt F) (Rect.unit (s := S1024x1024) ![0, 0] S1024x1024.size inb_S1024x1024_S1024x1024_0_0).toLoadRect X
def lB (arg : Memref sig .tc .vmem S1x1024 .f32) (X : BufTy.Contents (Elt F) arg.view.ty) : Vec F S1x1024 .f32 :=
  arg.view.readAt (Elt F) (Rect.unit (s := S1x1024) ![0, 0] S1x1024.size inb_S1x1024_S1x1024_0_0).toLoadRect X

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x6144 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole)
    (x0 : Vec F S512x1024 .bf16) (x1 : Vec F S512x1024 .bf16) (x2 : Vec F S512x1024 .bf16) (x3 : Vec F S512x6144 .bf16) (x4 : Vec F S512x1024 .f32) (x5 : Vec F S1024x1024 .bf16) (x6 : Vec F S1024x1024 .bf16) (x7 : Vec F S1024x1024 .bf16) (x8 : Vec F S1024x1024 .bf16) (x9 : Vec F S1x1024 .f32) (x10 : Vec F S1x1024 .f32)

/-- The upper strip a point computes, and the lower. -/
def upper : FVec F S256x1024 .f32 :=
  strip (yB arg1 (harg1.unread x0) ![0, 0] inb_S512x1024_S256x1024_0_0) (yB arg2 (harg2.unread x1) ![0, 0] inb_S512x1024_S256x1024_0_0)
    (yB arg3 (harg3.unread x2) ![0, 0] inb_S512x1024_S256x1024_0_0)
    (qB arg4 (harg4.unread x3) ![0, 0] inb_S512x6144_S256x1024_0_0) (qB arg4 (harg4.unread x3) ![0, 1024] inb_S512x6144_S256x1024_0_1024)
    (qB arg4 (harg4.unread x3) ![0, 2048] inb_S512x6144_S256x1024_0_2048) (qB arg4 (harg4.unread x3) ![0, 3072] inb_S512x6144_S256x1024_0_3072)
    (qB arg4 (harg4.unread x3) ![0, 4096] inb_S512x6144_S256x1024_0_4096) (qB arg4 (harg4.unread x3) ![0, 5120] inb_S512x6144_S256x1024_0_5120)
    (hB arg5 (harg5.unread x4) ![0, 0] inb_S512x1024_S256x1024_0_0)
    (wB arg6 (harg6.unread x5)) (wB arg7 (harg7.unread x6)) (wB arg8 (harg8.unread x7)) (wB arg9 (harg9.unread x8))
    (lB arg10 (harg10.unread x9)) (lB arg11 (harg11.unread x10))
def lower : FVec F S256x1024 .f32 :=
  strip (yB arg1 (harg1.unread x0) ![256, 0] inb_S512x1024_S256x1024_256_0) (yB arg2 (harg2.unread x1) ![256, 0] inb_S512x1024_S256x1024_256_0)
    (yB arg3 (harg3.unread x2) ![256, 0] inb_S512x1024_S256x1024_256_0)
    (qB arg4 (harg4.unread x3) ![256, 0] inb_S512x6144_S256x1024_256_0) (qB arg4 (harg4.unread x3) ![256, 1024] inb_S512x6144_S256x1024_256_1024)
    (qB arg4 (harg4.unread x3) ![256, 2048] inb_S512x6144_S256x1024_256_2048) (qB arg4 (harg4.unread x3) ![256, 3072] inb_S512x6144_S256x1024_256_3072)
    (qB arg4 (harg4.unread x3) ![256, 4096] inb_S512x6144_S256x1024_256_4096) (qB arg4 (harg4.unread x3) ![256, 5120] inb_S512x6144_S256x1024_256_5120)
    (hB arg5 (harg5.unread x4) ![256, 0] inb_S512x1024_S256x1024_256_0)
    (wB arg6 (harg6.unread x5)) (wB arg7 (harg7.unread x6)) (wB arg8 (harg8.unread x7)) (wB arg9 (harg9.unread x8))
    (lB arg10 (harg10.unread x9)) (lB arg11 (harg11.unread x10))

set_option maxHeartbeats 4000000 in
/-- The two stores into the first output. -/
theorem stores11 : (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1
    = [⟨Rect.unit (s := S512x1024) ![256, 0] S256x1024.size inb_S512x1024_S256x1024_256_0, lower arg1 harg1 arg2 harg2 arg3 harg3 arg4 harg4 arg5 harg5 arg6 harg6 arg7 harg7 arg8 harg8 arg9 harg9 arg10 harg10 arg11 harg11 x0 x1 x2 x3 x4 x5 x6 x7 x8 x9 x10⟩,
      ⟨Rect.unit (s := S512x1024) ![0, 0] S256x1024.size inb_S512x1024_S256x1024_0_0, upper arg1 harg1 arg2 harg2 arg3 harg3 arg4 harg4 arg5 harg5 arg6 harg6 arg7 harg7 arg8 harg8 arg9 harg9 arg10 harg10 arg11 harg11 x0 x1 x2 x3 x4 x5 x6 x7 x8 x9 x10⟩] := rfl

set_option maxHeartbeats 4000000 in
/-- The two stores into the second output: the same, in the shorter format. -/
theorem stores12 : (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1
    = [⟨Rect.unit (s := S512x1024) ![256, 0] S256x1024.size inb_S512x1024_S256x1024_256_0, truncf .bf16 (lower arg1 harg1 arg2 harg2 arg3 harg3 arg4 harg4 arg5 harg5 arg6 harg6 arg7 harg7 arg8 harg8 arg9 harg9 arg10 harg10 arg11 harg11 x0 x1 x2 x3 x4 x5 x6 x7 x8 x9 x10) bitsLt_bf16_f32⟩,
      ⟨Rect.unit (s := S512x1024) ![0, 0] S256x1024.size inb_S512x1024_S256x1024_0_0, truncf .bf16 (upper arg1 harg1 arg2 harg2 arg3 harg3 arg4 harg4 arg5 harg5 arg6 harg6 arg7 harg7 arg8 harg8 arg9 harg9 arg10 harg10 arg11 harg11 x0 x1 x2 x3 x4 x5 x6 x7 x8 x9 x10) bitsLt_bf16_f32⟩] := rfl

end stages

end Cert.MergeIdeal.Value

end
-- ==== Proof.MergeBlock.lean ====
/- The rows a grid point of the merge leaves in its two output blocks. -/
module

public import proofs.«01_k».proof.Proof.MergeParts
public import Idealize.ShloMosaic.Lib.WholeRead
public import Idealize.ShloMosaic.Lib.WritesUnit

@[expose] public section

set_option maxRecDepth 16384

noncomputable section

namespace Cert.MergeIdeal.Value

open Cert.MergeIdeal Cert.MergeIdeal.Gen Idealize.ShloMosaic Idealize.ShloMosaic.TcCoe Idealize.SL.Sem MergeLayer

/-! ## The stages, entry by entry -/

section stages
variable (r : Fin 256) (x : Fin 1024)

theorem gates_at (g : Vec Ideal S256x1024 .bf16) : gates g (ix2 r x) = gate (g (ix2 r x)) := by
  pointwise [gates, halves]
  exact halfGate _

theorem gated_at (z y : Vec Ideal S256x1024 .bf16) (hz : z (ix2 r x) ≠ (⊥ : EReal)) : gated z y (ix2 r x) = (y (ix2 r x) : EReal) * silu (z (ix2 r x)) := by
  pointwise [gated, halves]
  exact congrArg (_ * ·) (halfSilu _ hz)

theorem part_at (z y g : Vec Ideal S256x1024 .bf16) (p : Vec Ideal S1024x1024 .bf16) (hz : ∀ d, z (ix2 r d) ≠ (⊥ : EReal)) :
    part z y g p (ix2 r x) = branch (fun d => y (ix2 r d)) (fun d => z (ix2 r d)) (fun d => g (ix2 r d)) (fun d e => p (ix2 d e)) x := by
  pointwise [part, gates_at]
  exact congrArg (_ * ·) (Finset.sum_congr rfl fun d _ => Ideal.mul_congr (gated_at r d z y (hz d)) rfl)

theorem mixed_at (z₀ y₀ g₀ : Vec Ideal S256x1024 .bf16) (p₀ : Vec Ideal S1024x1024 .bf16) (z₁ y₁ g₁ : Vec Ideal S256x1024 .bf16) (p₁ : Vec Ideal S1024x1024 .bf16)
    (z₂ y₂ g₂ : Vec Ideal S256x1024 .bf16) (p₂ : Vec Ideal S1024x1024 .bf16) :
    mixed z₀ y₀ g₀ p₀ z₁ y₁ g₁ p₁ z₂ y₂ g₂ p₂ (ix2 r x)
      = (part z₀ y₀ g₀ p₀ (ix2 r x) : EReal) + part z₁ y₁ g₁ p₁ (ix2 r x) + part z₂ y₂ g₂ p₂ (ix2 r x) := by
  pointwise [mixed]

theorem summed_at (u : FVec Ideal S256x1024 .bf16) (w : Vec Ideal S1024x1024 .bf16) (h : Vec Ideal S256x1024 .f32) :
    summed u w h (ix2 r x) = total (fun d => h (ix2 r d)) (fun d => u (ix2 r d)) (fun d e => w (ix2 d e)) x := by
  pointwise [summed]
  rfl

theorem means_at (f : FVec Ideal S256x1024 .f32) (k : Fin 1) : means f (ix2 r k) = mean fun d => f (ix2 r d) := by
  pointwise [means]
  rfl

theorem centred_at (f : FVec Ideal S256x1024 .f32) : centred f (ix2 r x) = f (ix2 r x) - mean fun d => f (ix2 r d) := by
  pointwise [centred, means_at]

theorem normed_at (f : FVec Ideal S256x1024 .f32) (a b : Vec Ideal S1x1024 .f32) :
    normed f a b (ix2 r x) = normal (fun d => f (ix2 r d)) (fun d => a (ix2 0 d)) (fun d => b (ix2 0 d)) x := by
  pointwise [normed, means_at, centred_at]
  rfl

/-- A strip's row is the row of the merge, of the rows it was loaded from. -/
theorem strip_at (y₀ y₁ y₂ z₀ z₁ z₂ g₀ g₁ g₂ : Vec Ideal S256x1024 .bf16) (h : Vec Ideal S256x1024 .f32) (p₀ p₁ p₂ w : Vec Ideal S1024x1024 .bf16)
    (a b : Vec Ideal S1x1024 .f32) (Y₀ Y₁ Y₂ H A B : Fin 1024 → EReal) (Q : Fin 6144 → EReal) (P₀ P₁ P₂ W : Fin 1024 → Fin 1024 → EReal)
    (hy₀ : ∀ d, y₀ (ix2 r d) = Y₀ d) (hy₁ : ∀ d, y₁ (ix2 r d) = Y₁ d) (hy₂ : ∀ d, y₂ (ix2 r d) = Y₂ d)
    (hz₀ : ∀ d, z₀ (ix2 r d) = cols Q 0 (by omega) d) (hz₁ : ∀ d, z₁ (ix2 r d) = cols Q 1024 (by omega) d) (hz₂ : ∀ d, z₂ (ix2 r d) = cols Q 2048 (by omega) d)
    (hg₀ : ∀ d, g₀ (ix2 r d) = cols Q 3072 (by omega) d) (hg₁ : ∀ d, g₁ (ix2 r d) = cols Q 4096 (by omega) d) (hg₂ : ∀ d, g₂ (ix2 r d) = cols Q 5120 (by omega) d)
    (hh : ∀ d, h (ix2 r d) = H d) (hp₀ : ∀ d e, p₀ (ix2 d e) = P₀ d e) (hp₁ : ∀ d e, p₁ (ix2 d e) = P₁ d e) (hp₂ : ∀ d e, p₂ (ix2 d e) = P₂ d e)
    (hw : ∀ d e, w (ix2 d e) = W d e) (ha : ∀ d, a (ix2 0 d) = A d) (hb : ∀ d, b (ix2 0 d) = B d) (hQ : ∀ d : Fin 3072, Q ⟨d.val, by omega⟩ ≠ ⊥) :
    strip y₀ y₁ y₂ z₀ z₁ z₂ g₀ g₁ g₂ h p₀ p₁ p₂ w a b (ix2 r x) = row Y₀ Y₁ Y₂ Q H P₀ P₁ P₂ W A B x := by
  rw [strip, normed_at, row]
  obtain rfl : A = fun d => a (ix2 0 d) := funext fun d => (ha d).symm
  obtain rfl : B = fun d => b (ix2 0 d) := funext fun d => (hb d).symm
  refine congrArg (normal · _ _ x) (funext fun e => ?_)
  rw [summed_at]
  obtain rfl : H = fun d => h (ix2 r d) := funext fun d => (hh d).symm
  obtain rfl : W = fun d e => w (ix2 d e) := funext fun d => funext fun e => (hw d e).symm
  refine congrArg (total _ · _ e) (funext fun d => ?_)
  have n₀ : ∀ d, z₀ (ix2 r d) ≠ (⊥ : EReal) := fun d => by
    rw [hz₀ d]; exact hQ ⟨0 + d.val, by omega⟩
  have n₁ : ∀ d, z₁ (ix2 r d) ≠ (⊥ : EReal) := fun d => by
    rw [hz₁ d]; exact hQ ⟨1024 + d.val, by omega⟩
  have n₂ : ∀ d, z₂ (ix2 r d) ≠ (⊥ : EReal) := fun d => by
    rw [hz₂ d]; exact hQ ⟨2048 + d.val, by omega⟩
  rw [mixed_at, part_at r d z₀ y₀ g₀ p₀ n₀, part_at r d z₁ y₁ g₁ p₁ n₁, part_at r d z₂ y₂ g₂ p₂ n₂, merged]
  simp only [hy₀, hy₁, hy₂, hz₀, hz₁, hz₂, hg₀, hg₁, hg₂, hp₀, hp₁, hp₂]

end stages

/-! ## The loads, entry by entry -/

section loads
variable (r : Fin 256) (d : Fin 1024)

theorem yB_at (arg : Memref sig .tc .vmem S512x1024 .bf16) (hw : arg.IsWhole) (X : Vec Ideal S512x1024 .bf16) (o : Fin 2 → ℕ) (h) (n : ℕ)
    (ho : o = ![n, 0]) (hn : n + 256 ≤ 512) : yB arg (hw.unread X) o h (ix2 r d) = X (ix2 ⟨n + r.val, by omega⟩ d) := by
  subst ho
  unfold yB
  rw [hw.readAt_unread]
  exact congrArg _ (by pointwise)

theorem qB_at (arg : Memref sig .tc .vmem S512x6144 .bf16) (hw : arg.IsWhole) (X : Vec Ideal S512x6144 .bf16) (o : Fin 2 → ℕ) (h) (n k : ℕ)
    (ho : o = ![n, k]) (hn : n + 256 ≤ 512) (hk : k + 1024 ≤ 6144) :
    qB arg (hw.unread X) o h (ix2 r d) = cols (fun e => X (ix2 ⟨n + r.val, by omega⟩ e)) k hk d := by
  subst ho
  unfold qB cols
  rw [hw.readAt_unread]
  exact congrArg _ (by pointwise)

theorem hB_at (arg : Memref sig .tc .vmem S512x1024 .f32) (hw : arg.IsWhole) (X : Vec Ideal S512x1024 .f32) (o : Fin 2 → ℕ) (h) (n : ℕ)
    (ho : o = ![n, 0]) (hn : n + 256 ≤ 512) : hB arg (hw.unread X) o h (ix2 r d) = X (ix2 ⟨n + r.val, by omega⟩ d) := by
  subst ho
  unfold hB
  rw [hw.readAt_unread]
  exact congrArg _ (by pointwise)

theorem wB_at (arg : Memref sig .tc .vmem S1024x1024 .bf16) (hw : arg.IsWhole) (X : Vec Ideal S1024x1024 .bf16) (d e : Fin 1024) :
    wB arg (hw.unread X) (ix2 d e) = X (ix2 d e) := by
  unfold wB
  rw [hw.readAt_unread]
  exact congrArg _ (by pointwise)

theorem lB_at (arg : Memref sig .tc .vmem S1x1024 .f32) (hw : arg.IsWhole) (X : Vec Ideal S1x1024 .f32) (d : Fin 1024) :
    lB arg (hw.unread X) (ix2 0 d) = X (ix2 0 d) := by
  unfold lB
  rw [hw.readAt_unread]
  exact congrArg _ (by pointwise)

end loads

/-! ## The output blocks -/

section block
variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x6144 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole)
    (x0 : Vec Ideal S512x1024 .bf16) (x1 : Vec Ideal S512x1024 .bf16) (x2 : Vec Ideal S512x1024 .bf16) (x3 : Vec Ideal S512x6144 .bf16) (x4 : Vec Ideal S512x1024 .f32) (x5 : Vec Ideal S1024x1024 .bf16) (x6 : Vec Ideal S1024x1024 .bf16) (x7 : Vec Ideal S1024x1024 .bf16) (x8 : Vec Ideal S1024x1024 .bf16) (x9 : Vec Ideal S1x1024 .f32) (x10 : Vec Ideal S1x1024 .f32)

/-- Row `r` of the merge of a point's blocks. -/
def blockRow (r : Fin 512) : Fin 1024 → EReal :=
  row (fun d => x0 (ix2 r d)) (fun d => x1 (ix2 r d)) (fun d => x2 (ix2 r d)) (fun d => x3 (ix2 r d)) (fun d => x4 (ix2 r d))
    (fun d e => x5 (ix2 d e)) (fun d e => x6 (ix2 d e)) (fun d e => x7 (ix2 d e)) (fun d e => x8 (ix2 d e)) (fun d => x9 (ix2 0 d)) (fun d => x10 (ix2 0 d))

theorem upper_at (r : Fin 256) (x : Fin 1024) (hx : ∀ d : Fin 3072, x3 (ix2 ⟨0 + r.val, by omega⟩ ⟨d.val, by omega⟩) ≠ (⊥ : EReal)) :
    upper arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r x)
      = blockRow x0 x1 x2 x3 x4 x5 x6 x7 x8 x9 x10 ⟨0 + r.val, by omega⟩ x :=
  strip_at r x _ _ _ _ _ _ _ _ _ _ _ _ _ _ _ _ _ _ _ _ _ _ _ _ _ _ _
    (fun d => yB_at r d arg1 harg1 x0 _ _ 0 rfl (by omega)) (fun d => yB_at r d arg2 harg2 x1 _ _ 0 rfl (by omega)) (fun d => yB_at r d arg3 harg3 x2 _ _ 0 rfl (by omega))
    (fun d => qB_at r d arg4 harg4 x3 _ _ 0 0 rfl (by omega) _) (fun d => qB_at r d arg4 harg4 x3 _ _ 0 1024 rfl (by omega) _) (fun d => qB_at r d arg4 harg4 x3 _ _ 0 2048 rfl (by omega) _)
    (fun d => qB_at r d arg4 harg4 x3 _ _ 0 3072 rfl (by omega) _) (fun d => qB_at r d arg4 harg4 x3 _ _ 0 4096 rfl (by omega) _) (fun d => qB_at r d arg4 harg4 x3 _ _ 0 5120 rfl (by omega) _)
    (fun d => hB_at r d arg5 harg5 x4 _ _ 0 rfl (by omega)) (wB_at arg6 harg6 x5) (wB_at arg7 harg7 x6) (wB_at arg8 harg8 x7) (wB_at arg9 harg9 x8) (lB_at arg10 harg10 x9) (lB_at arg11 harg11 x10) hx

theorem lower_at (r : Fin 256) (x : Fin 1024) (hx : ∀ d : Fin 3072, x3 (ix2 ⟨256 + r.val, by omega⟩ ⟨d.val, by omega⟩) ≠ (⊥ : EReal)) :
    lower arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r x)
      = blockRow x0 x1 x2 x3 x4 x5 x6 x7 x8 x9 x10 ⟨256 + r.val, by omega⟩ x :=
  strip_at r x _ _ _ _ _ _ _ _ _ _ _ _ _ _ _ _ _ _ _ _ _ _ _ _ _ _ _
    (fun d => yB_at r d arg1 harg1 x0 _ _ 256 rfl (by omega)) (fun d => yB_at r d arg2 harg2 x1 _ _ 256 rfl (by omega)) (fun d => yB_at r d arg3 harg3 x2 _ _ 256 rfl (by omega))
    (fun d => qB_at r d arg4 harg4 x3 _ _ 256 0 rfl (by omega) _) (fun d => qB_at r d arg4 harg4 x3 _ _ 256 1024 rfl (by omega) _) (fun d => qB_at r d arg4 harg4 x3 _ _ 256 2048 rfl (by omega) _)
    (fun d => qB_at r d arg4 harg4 x3 _ _ 256 3072 rfl (by omega) _) (fun d => qB_at r d arg4 harg4 x3 _ _ 256 4096 rfl (by omega) _) (fun d => qB_at r d arg4 harg4 x3 _ _ 256 5120 rfl (by omega) _)
    (fun d => hB_at r d arg5 harg5 x4 _ _ 256 rfl (by omega)) (wB_at arg6 harg6 x5) (wB_at arg7 harg7 x6) (wB_at arg8 harg8 x7) (wB_at arg9 harg9 x8) (lB_at arg10 harg10 x9) (lB_at arg11 harg11 x10) hx

/-- Two stores, of the lower half of a block and, before it, of the upper, leave each row with the half it lies in. -/
theorem halves_at {e : EltTy} (v : View sig .tc .vmem S512x1024 e) (f : v.ty.Contents (Elt Ideal)) (l u : Vec Ideal S256x1024 e)
    (G : Fin 512 → Fin 1024 → Elt Ideal e) (hu : ∀ (r : Fin 256) (x : Fin 1024), u (ix2 r x) = G ⟨0 + r.val, by omega⟩ x)
    (hl : ∀ (r : Fin 256) (x : Fin 1024), l (ix2 r x) = G ⟨256 + r.val, by omega⟩ x) (r : Fin 512) (x : Fin 1024) :
    v.read (Elt Ideal) (v.writes (Elt Ideal) f [⟨Rect.unit (s := S512x1024) ![256, 0] S256x1024.size inb_S512x1024_S256x1024_256_0, l⟩,
      ⟨Rect.unit (s := S512x1024) ![0, 0] S256x1024.size inb_S512x1024_S256x1024_0_0, u⟩]) (ix2 r x) = G r x := by
  by_cases h : r.val < 256
  · rw [View.read_writes_cons_unit_of_not_mem v f _ _ _ _ rfl 0 (.inl h)]
    refine (View.read_writes_cons_unit_of_mem v f _ _ _ _ (ix2 ⟨r.val, h⟩ x) rfl (by rw [Fin.forall_fin_succ, Fin.forall_fin_succ]; simp)).trans ((hu _ x).trans ?_)
    exact congrArg (G · x) (Fin.ext (Nat.zero_add _))
  · refine (View.read_writes_cons_unit_of_mem v f _ _ _ _ (ix2 ⟨r.val - 256, by omega⟩ x) rfl (by rw [Fin.forall_fin_succ, Fin.forall_fin_succ]; simp; omega)).trans ((hl _ x).trans ?_)
    exact congrArg (G · x) (Fin.ext (by simp only; omega))

variable (hx : ∀ (r : Fin 512) (d : Fin 3072), x3 (ix2 r ⟨d.val, by omega⟩) ≠ (⊥ : EReal))
include hx

/-- What a point leaves in its first output block. -/
theorem out11_at (r : Fin 512) (x : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 r x)
      = blockRow x0 x1 x2 x3 x4 x5 x6 x7 x8 x9 x10 r x := by
  unfold out0_A_11
  rw [stores11]
  refine halves_at (e := .f32) _ _ _ _ (blockRow x0 x1 x2 x3 x4 x5 x6 x7 x8 x9 x10) (fun r x => ?_) (fun r x => ?_) r x
  · exact upper_at arg1 harg1 arg2 harg2 arg3 harg3 arg4 harg4 arg5 harg5 arg6 harg6 arg7 harg7 arg8 harg8 arg9 harg9 arg10 harg10 arg11 harg11 x0 x1 x2 x3 x4 x5 x6 x7 x8 x9 x10 r x fun d => hx _ d
  · exact lower_at arg1 harg1 arg2 harg2 arg3 harg3 arg4 harg4 arg5 harg5 arg6 harg6 arg7 harg7 arg8 harg8 arg9 harg9 arg10 harg10 arg11 harg11 x0 x1 x2 x3 x4 x5 x6 x7 x8 x9 x10 r x fun d => hx _ d

/-- What a point leaves in its second: the same. -/
theorem out12_at (r : Fin 512) (x : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 r x)
      = blockRow x0 x1 x2 x3 x4 x5 x6 x7 x8 x9 x10 r x := by
  unfold out0_A_12
  rw [stores12]
  refine halves_at (e := .bf16) _ _ _ _ (blockRow x0 x1 x2 x3 x4 x5 x6 x7 x8 x9 x10) (fun r x => ?_) (fun r x => ?_) r x
  · exact upper_at arg1 harg1 arg2 harg2 arg3 harg3 arg4 harg4 arg5 harg5 arg6 harg6 arg7 harg7 arg8 harg8 arg9 harg9 arg10 harg10 arg11 harg11 x0 x1 x2 x3 x4 x5 x6 x7 x8 x9 x10 r x fun d => hx _ d
  · exact lower_at arg1 harg1 arg2 harg2 arg3 harg3 arg4 harg4 arg5 harg5 arg6 harg6 arg7 harg7 arg8 harg8 arg9 harg9 arg10 harg10 arg11 harg11 x0 x1 x2 x3 x4 x5 x6 x7 x8 x9 x10 r x fun d => hx _ d

end block

end Cert.MergeIdeal.Value

end
-- ==== Proof.MergeArray.lean ====
/- The result arrays of the merge's kernel: each grid point's blocks are 512 rows of the merge of the argument arrays, and the
   blocks cover the arrays. -/
module

public import proofs.«01_k».proof.Proof.MergeBlock

@[expose] public section

set_option maxRecDepth 16384

noncomputable section

namespace Cert.MergeIdeal.Value

open Cert.MergeIdeal Cert.MergeIdeal.Gen Idealize.ShloMosaic Idealize.ShloMosaic.TcCoe Idealize.SL.Sem MergeLayer

/-! ## The windows' blocks: rows `512 t` to `512 t + 511`, or the whole array -/

/-- The windows of 512 rows. -/
theorem rowsOf (t : Fin cfg0.N) :
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_11.index t (0 : Fin 2) = t.val ∧ win0_11.index t (1 : Fin 2) = 0)
    ∧ win0_12.index t (0 : Fin 2) = t.val ∧ win0_12.index t (1 : Fin 2) = 0 :=
  (by decide +kernel : ∀ t : Fin grid0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_11.index t (0 : Fin 2) = t.val ∧ win0_11.index t (1 : Fin 2) = 0)
    ∧ win0_12.index t (0 : Fin 2) = t.val ∧ win0_12.index t (1 : Fin 2) = 0) t

/-- The windows of whole arrays. -/
theorem wholeOf (t : Fin cfg0.N) :
    (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ win0_10.index t (0 : Fin 2) = 0 ∧ win0_10.index t (1 : Fin 2) = 0 :=
  (by decide +kernel : ∀ t : Fin grid0.N,
    (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ win0_10.index t (0 : Fin 2) = 0 ∧ win0_10.index t (1 : Fin 2) = 0) t

theorem t_lt (t : Fin cfg0.N) : t.val < 128 := lt_of_lt_of_eq t.isLt N_0

/-- Row `r` of a point's blocks, in the whole arrays. -/
def line (t : Fin cfg0.N) (r : Fin 512) : Fin 65536 := ⟨512 * t.val + r.val, by have := t_lt t; omega⟩

/-- An index lies where its two coordinates do. -/
theorem at_ix2 {n k : ℕ} (i : (⟨2, ![n, k]⟩ : Shape).Idx) (a : Fin n) (b : Fin k) (h0 : (i 0).val = a.val) (h1 : (i 1).val = b.val) : i = ix2 a b := by
  rw [eq_ix2 i]
  exact (ix2_inj ..).2 ⟨Fin.ext h0, Fin.ext h1⟩

theorem emb0 (t : Fin cfg0.N) (r : Fin 512) (d : Fin 1024) : ((cfg0.win 0).blk t).view.emb (ix2 r d) = ix2 (line t r) d :=
  at_ix2 _ _ _ (by have := (rowsOf t).1; show win0_0.index t (0 : Fin 2) * 512 + 1 * r.val = 512 * t.val + r.val; omega)
    (by have := (rowsOf t).1; show win0_0.index t (1 : Fin 2) * 1024 + 1 * d.val = d.val; omega)

theorem emb1 (t : Fin cfg0.N) (r : Fin 512) (d : Fin 1024) : ((cfg0.win 1).blk t).view.emb (ix2 r d) = ix2 (line t r) d :=
  at_ix2 _ _ _ (by have := (rowsOf t).2.1; show win0_1.index t (0 : Fin 2) * 512 + 1 * r.val = 512 * t.val + r.val; omega)
    (by have := (rowsOf t).2.1; show win0_1.index t (1 : Fin 2) * 1024 + 1 * d.val = d.val; omega)

theorem emb2 (t : Fin cfg0.N) (r : Fin 512) (d : Fin 1024) : ((cfg0.win 2).blk t).view.emb (ix2 r d) = ix2 (line t r) d :=
  at_ix2 _ _ _ (by have := (rowsOf t).2.2.1; show win0_2.index t (0 : Fin 2) * 512 + 1 * r.val = 512 * t.val + r.val; omega)
    (by have := (rowsOf t).2.2.1; show win0_2.index t (1 : Fin 2) * 1024 + 1 * d.val = d.val; omega)

theorem emb4 (t : Fin cfg0.N) (r : Fin 512) (d : Fin 1024) : ((cfg0.win 4).blk t).view.emb (ix2 r d) = ix2 (line t r) d :=
  at_ix2 _ _ _ (by have := (rowsOf t).2.2.2.2.1; show win0_4.index t (0 : Fin 2) * 512 + 1 * r.val = 512 * t.val + r.val; omega)
    (by have := (rowsOf t).2.2.2.2.1; show win0_4.index t (1 : Fin 2) * 1024 + 1 * d.val = d.val; omega)

theorem emb5 (t : Fin cfg0.N) (d e : Fin 1024) : ((cfg0.win 5).blk t).view.emb (ix2 d e) = ix2 d e :=
  at_ix2 _ _ _ (by have := (wholeOf t).1; show win0_5.index t (0 : Fin 2) * 1024 + 1 * d.val = d.val; omega)
    (by have := (wholeOf t).1; show win0_5.index t (1 : Fin 2) * 1024 + 1 * e.val = e.val; omega)

theorem emb6 (t : Fin cfg0.N) (d e : Fin 1024) : ((cfg0.win 6).blk t).view.emb (ix2 d e) = ix2 d e :=
  at_ix2 _ _ _ (by have := (wholeOf t).2.1; show win0_6.index t (0 : Fin 2) * 1024 + 1 * d.val = d.val; omega)
    (by have := (wholeOf t).2.1; show win0_6.index t (1 : Fin 2) * 1024 + 1 * e.val = e.val; omega)

theorem emb7 (t : Fin cfg0.N) (d e : Fin 1024) : ((cfg0.win 7).blk t).view.emb (ix2 d e) = ix2 d e :=
  at_ix2 _ _ _ (by have := (wholeOf t).2.2.1; show win0_7.index t (0 : Fin 2) * 1024 + 1 * d.val = d.val; omega)
    (by have := (wholeOf t).2.2.1; show win0_7.index t (1 : Fin 2) * 1024 + 1 * e.val = e.val; omega)

theorem emb8 (t : Fin cfg0.N) (d e : Fin 1024) : ((cfg0.win 8).blk t).view.emb (ix2 d e) = ix2 d e :=
  at_ix2 _ _ _ (by have := (wholeOf t).2.2.2.1; show win0_8.index t (0 : Fin 2) * 1024 + 1 * d.val = d.val; omega)
    (by have := (wholeOf t).2.2.2.1; show win0_8.index t (1 : Fin 2) * 1024 + 1 * e.val = e.val; omega)

theorem emb9 (t : Fin cfg0.N) (z : Fin 1) (d : Fin 1024) : ((cfg0.win 9).blk t).view.emb (ix2 z d) = ix2 z d :=
  at_ix2 _ _ _ (by have := (wholeOf t).2.2.2.2.1; show win0_9.index t (0 : Fin 2) * 1 + 1 * z.val = z.val; omega)
    (by have := (wholeOf t).2.2.2.2.1; show win0_9.index t (1 : Fin 2) * 1024 + 1 * d.val = d.val; omega)

theorem emb10 (t : Fin cfg0.N) (z : Fin 1) (d : Fin 1024) : ((cfg0.win 10).blk t).view.emb (ix2 z d) = ix2 z d :=
  at_ix2 _ _ _ (by have := (wholeOf t).2.2.2.2.2; show win0_10.index t (0 : Fin 2) * 1 + 1 * z.val = z.val; omega)
    (by have := (wholeOf t).2.2.2.2.2; show win0_10.index t (1 : Fin 2) * 1024 + 1 * d.val = d.val; omega)

theorem emb11 (t : Fin cfg0.N) (r : Fin 512) (d : Fin 1024) : ((cfg0.win 11).blk t).view.emb (ix2 r d) = ix2 (line t r) d :=
  at_ix2 _ _ _ (by have := (rowsOf t).2.2.2.2.2.1; show win0_11.index t (0 : Fin 2) * 512 + 1 * r.val = 512 * t.val + r.val; omega)
    (by have := (rowsOf t).2.2.2.2.2.1; show win0_11.index t (1 : Fin 2) * 1024 + 1 * d.val = d.val; omega)

theorem emb12 (t : Fin cfg0.N) (r : Fin 512) (d : Fin 1024) : ((cfg0.win 12).blk t).view.emb (ix2 r d) = ix2 (line t r) d :=
  at_ix2 _ _ _ (by have := (rowsOf t).2.2.2.2.2.2; show win0_12.index t (0 : Fin 2) * 512 + 1 * r.val = 512 * t.val + r.val; omega)
    (by have := (rowsOf t).2.2.2.2.2.2; show win0_12.index t (1 : Fin 2) * 1024 + 1 * d.val = d.val; omega)

variable (m : (ℓ : Loc nD τ sig) → Buf (Elt Ideal) ℓ) (ρ : Dev nD → PrngReg)

/-- The packed array as launched. -/
def P (c : Dev nD) : FVec Ideal ⟨2, ![65536, 13056]⟩ .bf16 := m ((c : Thread nD τ).loc main_arg3)

/-- The scale and the shift, each laid out as one row before the kernel starts. -/
theorem V_main_v0 (c : Dev nD) : V m c main_v0 = shapeCast S1x1024 (m ((c : Thread nD τ).loc main_arg9) : FVec Ideal S1024 .f32) shapeCasts_S1024_S1x1024 := by
  unfold V
  after_results_simp
  rfl
theorem V_main_v1 (c : Dev nD) : V m c main_v1 = shapeCast S1x1024 (m ((c : Thread nD τ).loc main_arg10) : FVec Ideal S1024 .f32) shapeCasts_S1024_S1x1024 := by
  unfold V
  after_results_simp
  rfl

theorem cast_at (a : FVec Ideal S1024 .f32) (d : Fin 1024) : shapeCast S1x1024 a shapeCasts_S1024_S1x1024 (ix2 0 d) = a (ix1 d) := by
  pointwise

section reads
variable (c : Dev nD) (t : Fin cfg0.N) (r : Fin 512) (d e : Fin 1024)

theorem x0_at : iblk m c 0 t (ix2 r d) = (m ((c : Thread nD τ).loc main_arg0) : FVec Ideal S65536x1024 .bf16) (ix2 (line t r) d) :=
  (congrArg (V m c main_arg0) (emb0 t r d)).trans (congrFun (V_main_arg0 m c) _)
theorem x1_at : iblk m c 1 t (ix2 r d) = (m ((c : Thread nD τ).loc main_arg1) : FVec Ideal S65536x1024 .bf16) (ix2 (line t r) d) :=
  (congrArg (V m c main_arg1) (emb1 t r d)).trans (congrFun (V_main_arg1 m c) _)
theorem x2_at : iblk m c 2 t (ix2 r d) = (m ((c : Thread nD τ).loc main_arg2) : FVec Ideal S65536x1024 .bf16) (ix2 (line t r) d) :=
  (congrArg (V m c main_arg2) (emb2 t r d)).trans (congrFun (V_main_arg2 m c) _)
theorem x4_at : iblk m c 4 t (ix2 r d) = (m ((c : Thread nD τ).loc main_arg4) : FVec Ideal S65536x1024 .f32) (ix2 (line t r) d) :=
  (congrArg (V m c main_arg4) (emb4 t r d)).trans (congrFun (V_main_arg4 m c) _)
theorem x5_at : iblk m c 5 t (ix2 d e) = (m ((c : Thread nD τ).loc main_arg5) : FVec Ideal S1024x1024 .bf16) (ix2 d e) :=
  (congrArg (V m c main_arg5) (emb5 t d e)).trans (congrFun (V_main_arg5 m c) _)
theorem x6_at : iblk m c 6 t (ix2 d e) = (m ((c : Thread nD τ).loc main_arg6) : FVec Ideal S1024x1024 .bf16) (ix2 d e) :=
  (congrArg (V m c main_arg6) (emb6 t d e)).trans (congrFun (V_main_arg6 m c) _)
theorem x7_at : iblk m c 7 t (ix2 d e) = (m ((c : Thread nD τ).loc main_arg7) : FVec Ideal S1024x1024 .bf16) (ix2 d e) :=
  (congrArg (V m c main_arg7) (emb7 t d e)).trans (congrFun (V_main_arg7 m c) _)
theorem x8_at : iblk m c 8 t (ix2 d e) = (m ((c : Thread nD τ).loc main_arg8) : FVec Ideal S1024x1024 .bf16) (ix2 d e) :=
  (congrArg (V m c main_arg8) (emb8 t d e)).trans (congrFun (V_main_arg8 m c) _)
theorem x9_at : iblk m c 9 t (ix2 0 d) = (m ((c : Thread nD τ).loc main_arg9) : FVec Ideal S1024 .f32) (ix1 d) :=
  (congrArg (V m c main_v0) (emb9 t 0 d)).trans ((congrFun (V_main_v0 m c) _).trans (cast_at _ d))
theorem x10_at : iblk m c 10 t (ix2 0 d) = (m ((c : Thread nD τ).loc main_arg10) : FVec Ideal S1024 .f32) (ix1 d) :=
  (congrArg (V m c main_v1) (emb10 t 0 d)).trans ((congrFun (V_main_v1 m c) _).trans (cast_at _ d))

/-- The packed array's block: its first six thousand columns. -/
theorem x3_at (k : Fin 6144) : X0_3 m c t (ix2 r k) = P m c (ix2 (line t r) ⟨k.val, by omega⟩) := by
  unfold X0_3 Pipeline.Window.fill
  rw [dif_pos (moved0_3 t _)]
  refine (congrArg (V m c main_arg3) ?_).trans (congrFun (V_main_arg3 m c) _)
  exact at_ix2 _ _ _ (by have := (rowsOf t).2.2.2.1; show win0_3.index t (0 : Fin 2) * 512 + 1 * r.val = 512 * t.val + r.val; omega)
    (by have := (rowsOf t).2.2.2.1; show win0_3.index t (1 : Fin 2) * 6144 + 1 * k.val = k.val; omega)

end reads

/-- The merge of the arguments. -/
def G (c : Dev nD) : FVec Ideal ⟨2, ![65536, 1024]⟩ .f32 :=
  result (m ((c : Thread nD τ).loc main_arg0)) (m ((c : Thread nD τ).loc main_arg1)) (m ((c : Thread nD τ).loc main_arg2)) (P m c)
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- A row of the merge of a point's blocks is a row of the merge of the arguments. -/
theorem blockRow_eq (c : Dev nD) (t : Fin cfg0.N) (r : Fin 512) (x : Fin 1024) :
    blockRow (iblk m c 0 t) (iblk m c 1 t) (iblk m c 2 t) (X0_3 m c t) (iblk m c 4 t) (iblk m c 5 t) (iblk m c 6 t) (iblk m c 7 t) (iblk m c 8 t)
      (iblk m c 9 t) (iblk m c 10 t) r x = G m c (ix2 (line t r) x) := by
  unfold blockRow
  rw [funext (x0_at m c t r), funext (x1_at m c t r), funext (x2_at m c t r), funext (x3_at m c t r), funext (x4_at m c t r),
    funext fun d => funext (x5_at m c t d), funext fun d => funext (x6_at m c t d), funext fun d => funext (x7_at m c t d),
    funext fun d => funext (x8_at m c t d), funext (x9_at m c t), funext (x10_at m c t)]
  rfl

/-- The activated columns of the packed array lie above minus infinity. -/
def Above (c : Dev nD) : Prop := ∀ (s : Fin 65536) (d : Fin 3072), P m c (ix2 s ⟨d.val, by omega⟩) ≠ (⊥ : EReal)

variable (hP : ∀ c, Above m c)

section flushes
include hP

/-- A point's packed block lies above minus infinity where the array does. -/
theorem block_above (c : Dev nD) (t : Fin cfg0.N) (r : Fin 512) (d : Fin 3072) : X0_3 m c t (ix2 r ⟨d.val, by omega⟩) ≠ (⊥ : EReal) := by
  rw [x3_at]
  exact hP c _ d

/-- What a point writes back to the first result is its block of the merge. -/
theorem flushed11_eq (c : Dev nD) (t : Fin cfg0.N) :
    (dats m 0 c).flushed 11 t = ((cfg0.win 11).blk t).view.read (Elt Ideal) (G m c) := by
  rw [flushed11_A]
  funext (j : S512x1024.Idx)
  obtain ⟨r, x, rfl⟩ : ∃ (r : Fin 512) (x : Fin 1024), j = ix2 r x := ⟨j 0, j 1, eq_ix2 j⟩
  refine (out11_at c _ _ _ _ _ _ _ _ _ _ _ _ _ _ _ _ _ _ _ _ _ _ _ _ _ _ _ _ _ _ _ _ _ _ _ _ _ _ (block_above m hP c t) r x).trans ((blockRow_eq m c t r x).trans ?_)
  show _ = G m c (((cfg0.win 11).blk t).view.emb (ix2 r x))
  rw [emb11]

/-- And to the second: the same. -/
theorem flushed12_eq (c : Dev nD) (t : Fin cfg0.N) :
    (dats m 0 c).flushed 12 t = ((cfg0.win 12).blk t).view.read (Elt Ideal) (truncf .bf16 (G m c) bitsLt_bf16_f32) := by
  rw [flushed12_A]
  funext (j : S512x1024.Idx)
  obtain ⟨r, x, rfl⟩ : ∃ (r : Fin 512) (x : Fin 1024), j = ix2 r x := ⟨j 0, j 1, eq_ix2 j⟩
  refine (out12_at c _ _ _ _ _ _ _ _ _ _ _ _ _ _ _ _ _ _ _ _ _ _ _ _ _ _ _ _ _ _ _ _ _ _ _ _ _ _ (block_above m hP c t) r x).trans ((blockRow_eq m c t r x).trans ?_)
  show _ = G m c (((cfg0.win 12).blk t).view.emb (ix2 r x))
  rw [emb12]

end flushes

/-- The point whose blocks hold a row. -/
def pt (s : Fin 65536) : Fin cfg0.N := ⟨s.val / 512, by rw [show cfg0.N = 128 from N_0]; omega⟩

theorem line_pt (s : Fin 65536) : line (pt s) ⟨s.val % 512, by omega⟩ = s := Fin.ext (by simp only [line, pt]; omega)

/-- Every entry of the results is in some point's block. -/
theorem covered11 (i : S65536x1024.Idx) : ∃ t : Fin cfg0.N, (cfg0.win 11).flush t = true ∧ i ∈ ((cfg0.win 11).blk t).view.set := by
  obtain ⟨s, x, rfl⟩ : ∃ (s : Fin 65536) (x : Fin 1024), i = ix2 s x := ⟨i 0, i 1, eq_ix2 i⟩
  refine ⟨pt s, flush0_11 _, ?_⟩
  have h := ((cfg0.win 11).blk (pt s)).view.emb_mem_set (ix2 ⟨s.val % 512, by omega⟩ x)
  rw [emb11, line_pt] at h
  exact h

theorem covered12 (i : S65536x1024.Idx) : ∃ t : Fin cfg0.N, (cfg0.win 12).flush t = true ∧ i ∈ ((cfg0.win 12).blk t).view.set := by
  obtain ⟨s, x, rfl⟩ : ∃ (s : Fin 65536) (x : Fin 1024), i = ix2 s x := ⟨i 0, i 1, eq_ix2 i⟩
  refine ⟨pt s, flush0_12 _, ?_⟩
  have h := ((cfg0.win 12).blk (pt s)).view.emb_mem_set (ix2 ⟨s.val % 512, by omega⟩ x)
  rw [emb12, line_pt] at h
  exact h

include hP in
/-- The kernel, of activated columns above minus infinity: it returns the merge, twice, and leaves its arguments unchanged. -/
theorem run :
    θ_run defs (onTc (τ := τ) (main (F := Ideal))) ⟨m, fun _ => 0, ρ⟩ fun r => ∀ c : Dev nD,
      r.2.mem ((c.tc : Thread nD τ).loc main_v2_0) = G m c
      ∧ r.2.mem ((c.tc : Thread nD τ).loc main_v2_1) = truncf .bf16 (G m c) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c).1.trans ((dats m 0 c).arrAt_eq_of_cover 11 (G m c) (fun t _ => flushed11_eq m hP c t) covered11),
      (h c).2.1.trans ((dats m 0 c).arrAt_eq_of_cover 12 (truncf .bf16 (G m c) bitsLt_bf16_f32) (fun t _ => flushed12_eq m hP c t) covered12), (h c).2.2⟩)
    (run_blocks m ρ)

end Cert.MergeIdeal.Value

end
-- ==== Proof.MergeRefValue.lean ====
/- What the merge's reference computes: `MergeLayer.result` of its arguments. -/
module

public import proofs.«01_k».proof.Proof.Gen.MergeReferenceIdeal.Run
public import proofs.«01_k».proof.Proof.MergeLayer

@[expose] public section

set_option maxRecDepth 16384

noncomputable section

namespace Cert.MergeReferenceIdeal.Value

open Cert.MergeReferenceIdeal Cert.MergeReferenceIdeal.Gen Idealize.ShloMosaic Idealize.ShloMosaic.TcCoe Idealize.SL.Sem MergeLayer

abbrev Wide := FVec Ideal S65536x1024 .f32

/-- The logistic of every entry. -/
def gates (g : Wide) : Wide :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf g)))

/-- An array of the shorter format in the longer. -/
def wide (y : FVec Ideal S65536x1024 .bf16) : Wide := extf .f32 y bitsLt_bf16_f32

/-- A branch: its entries times the activated arguments, projected, then gated. -/
def part (y : FVec Ideal S65536x1024 .bf16) (z g : Wide) (p : FVec Ideal S1024x1024 .bf16) : Wide :=
  mulf (gates g) (Host.dotGeneral dot_S65536x1024_S1024x1024_S65536x1024_1_0_0_1_n_n none (mulf (wide y) (mulf z (gates z))) (extf .f32 p bitsLt_bf16_f32))

/-- The output projection on top of the scaled residual. -/
def summed (h u : Wide) (w : FVec Ideal S1024x1024 .bf16) : Wide :=
  addf (mulf (broadcastInDim S65536x1024 ![] bcast_S_S65536x1024 (constant S_ .f32 0x3FD744FD#32)) h)
    (Host.dotGeneral dot_S65536x1024_S1024x1024_S65536x1024_1_0_0_1_n_n none u (extf .f32 w bitsLt_bf16_f32))

/-- The rows' means. -/
def means (r : Wide) : FVec Ideal S65536x1 .f32 :=
  Host.divf (broadcastInDim S65536x1 ![0] bcast_S65536_S65536x1_0 (Host.reduceAdd r (constant S_ .f32 0x00000000#32) reducesTo_S65536x1024_S65536_d1 h_S_))
    (broadcastInDim S65536x1 ![] bcast_S_S65536x1 (constant S_ .f32 0x44800000#32))

/-- The rows less their means. -/
def centred (r : Wide) : Wide := subf r (broadcastInDim S65536x1024 ![0, 1] bcast_S65536x1_S65536x1024_0_1 (means r))

/-- A vector at every row. -/
def rows (a : FVec Ideal S1024 .f32) : Wide :=
  broadcastInDim S65536x1024 ![0, 1] bcast_S1x1024_S65536x1024_0_1 (broadcastInDim S1x1024 ![1] bcast_S1024_S1x1024_1 a)

/-- The rows normalised, scaled and shifted. -/
def normed (r : Wide) (a b : FVec Ideal S1024 .f32) : Wide :=
  addf (mulf (mulf (centred r) (broadcastInDim S65536x1024 ![0, 1] bcast_S65536x1_S65536x1024_0_1
      (Host.rsqrt (addf (means (mulf (centred r) (centred r))) (broadcastInDim S65536x1 ![] bcast_S_S65536x1 (constant S_ .f32 0x3727C5AC#32))))))
    (rows a)) (rows b)

section reads
variable (s : Fin 65536) (x : Fin 1024)

theorem gates_at (g : Wide) : gates g (ix2 s x) = gate (g (ix2 s x)) := by
  pointwise [gates]
  rfl

theorem part_at (y : FVec Ideal S65536x1024 .bf16) (z g : Wide) (p : FVec Ideal S1024x1024 .bf16) :
    part y z g p (ix2 s x) = branch (fun d => y (ix2 s d)) (fun d => z (ix2 s d)) (fun d => g (ix2 s d)) (fun d e => p (ix2 d e)) x := by
  pointwise [part, wide, gates_at]
  rfl

theorem summed_at (h u : Wide) (w : FVec Ideal S1024x1024 .bf16) :
    summed h u w (ix2 s x) = total (fun d => h (ix2 s d)) (fun d => u (ix2 s d)) (fun d e => w (ix2 d e)) x := by
  pointwise [summed]
  rfl

theorem means_at (r : Wide) (k : Fin 1) : means r (ix2 s k) = mean fun d => r (ix2 s d) := by
  pointwise [means]
  rfl

theorem centred_at (r : Wide) : centred r (ix2 s x) = r (ix2 s x) - mean fun d => r (ix2 s d) := by
  pointwise [centred, means_at]

theorem rows_at (a : FVec Ideal S1024 .f32) : rows a (ix2 s x) = a (ix1 x) := by
  pointwise [rows]

theorem normed_at (r : Wide) (a b : FVec Ideal S1024 .f32) :
    normed r a b (ix2 s x) = normal (fun d => r (ix2 s d)) (fun d => a (ix1 d)) (fun d => b (ix1 d)) x := by
  pointwise [normed, means_at, centred_at, rows_at]
  rfl

end reads

/-- A thousand columns of the packed array, from column `n` on, in the longer format. -/
def slice (q : FVec Ideal S65536x13056 .bf16) (n : ℕ) (h : S65536x13056.Slices ![0, n] S65536x1024) : Wide :=
  wide (extractStridedSlice S65536x1024 ![0, n] q h)

theorem slice_at (q : FVec Ideal S65536x13056 .bf16) (n : ℕ) (hn : n + 1024 ≤ 6144) (h) (s : Fin 65536) (x : Fin 1024) :
    slice q n h (ix2 s x) = cols (fun d => q (ix2 s ⟨d.val, by omega⟩)) n hn x := by
  pointwise [slice, wide, cols]

variable (m : (ℓ : Loc nD τ sig) → Buf (Elt Ideal) ℓ)

/-- The sum of the branches. -/
def mixed (y₀ y₁ y₂ : FVec Ideal S65536x1024 .bf16) (q : FVec Ideal S65536x13056 .bf16) (p₀ p₁ p₂ : FVec Ideal S1024x1024 .bf16) : Wide :=
  addf (addf (part y₀ (slice q 0 slices_S65536x13056_S65536x1024_0_0) (slice q 3072 slices_S65536x13056_S65536x1024_0_3072) p₀)
      (part y₁ (slice q 1024 slices_S65536x13056_S65536x1024_0_1024) (slice q 4096 slices_S65536x13056_S65536x1024_0_4096) p₁))
    (part y₂ (slice q 2048 slices_S65536x13056_S65536x1024_0_2048) (slice q 5120 slices_S65536x13056_S65536x1024_0_5120) p₂)

theorem mixed_at (y₀ y₁ y₂ : FVec Ideal S65536x1024 .bf16) (q : FVec Ideal S65536x13056 .bf16) (p₀ p₁ p₂ : FVec Ideal S1024x1024 .bf16)
    (s : Fin 65536) (x : Fin 1024) :
    mixed y₀ y₁ y₂ q p₀ p₁ p₂ (ix2 s x) = merged (fun d => y₀ (ix2 s d)) (fun d => y₁ (ix2 s d)) (fun d => y₂ (ix2 s d)) (fun d => q (ix2 s ⟨d.val, by omega⟩))
      (entries p₀) (entries p₁) (entries p₂) x := by
  pointwise [mixed, part_at, merged]
  simp only [slice_at q 0 (by omega), slice_at q 1024 (by omega), slice_at q 2048 (by omega), slice_at q 3072 (by omega), slice_at q 4096 (by omega), slice_at q 5120 (by omega)]

set_option maxHeartbeats 4000000 in
/-- The reference's result, stage by stage. -/
theorem stages (c : Dev nD) : res_main_v78 m c
    = normed (summed (m ((c : Thread nD τ).loc main_arg4)) (mixed (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg6)) (m ((c : Thread nD τ).loc main_arg7)))
      (m ((c : Thread nD τ).loc main_arg8))) (m ((c : Thread nD τ).loc main_arg9)) (m ((c : Thread nD τ).loc main_arg10)) := rfl

/-- The reference's first result is the merge of its arguments. -/
theorem whole (c : Dev nD) : res_main_v78 m c
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  rw [stages]
  funext (i : S65536x1024.Idx)
  obtain ⟨s, x, rfl⟩ : ∃ (s : Fin 65536) (x : Fin 1024), i = ix2 s x := ⟨i 0, i 1, eq_ix2 i⟩
  rw [normed_at]
  refine congrArg (normal · _ _ x) (funext fun e => ?_)
  rw [summed_at]
  exact congrArg (total _ · _ e) (funext fun d => mixed_at _ _ _ _ _ _ _ s d)

/-- The second result is the same, in the shorter format. -/
theorem whole' (c : Dev nD) : res_main_v79 m c = (truncf .bf16 (res_main_v78 m c : FVec Ideal S65536x1024 .f32) bitsLt_bf16_f32 : FVec Ideal S65536x1024 .bf16) := rfl

end Cert.MergeReferenceIdeal.Value

end
-- ==== Proof.MergeFiniteness.lean ====
/- What the precondition of the merge says over the extended reals: the arguments of the activation lie above minus infinity. -/
module

public import Idealize.ShloMosaic.Lib.Pointwise
public import Idealize.ShloMosaic.Lib.Affine
public import proofs.«01_k».proof.Pre_silu_arguments_above_minus_infinity

@[expose] public section

set_option maxRecDepth 16384

noncomputable section

namespace Cert.Pre_silu_arguments_above_minus_infinity

open Idealize.ShloMosaic

/-- The bound of the comparison is the least extended real. -/
theorem least : Ideal.ofBits FTy.bf16 0xFF80#16 = ⊥ := by simp [Ideal.ofBits, Ideal.ieee]

/-- A number the comparison admits is above the least. -/
theorem above_of_test {x : EReal} (hx : BitVec.ofBool (decide (Ideal.ofBits FTy.bf16 0xFF80#16 < x)) = 1#1) : x ≠ ⊥ := by
  by_cases hd : Ideal.ofBits FTy.bf16 0xFF80#16 < x
  · rw [least] at hd
    exact ne_of_gt hd
  · rw [decide_eq_false hd] at hx; exact absurd hx (by decide)

variable [Facts]

/-- Where the precondition holds, the activated columns are above minus infinity. -/
theorem above (y₀ y₁ y₂ : FVec Ideal S65536x1024 .bf16) (q : FVec Ideal S65536x13056 .bf16) (r : FVec Ideal S65536x1024 .f32)
    (p₀ p₁ p₂ w : FVec Ideal S1024x1024 .bf16) (a b : FVec Ideal S1024 .f32) (h : fn y₀ y₁ y₂ q r p₀ p₁ p₂ w a b = fun _ => 1#1)
    (s : Fin 65536) (d : Fin 3072) : q (ix2 s ⟨d.val, by omega⟩) ≠ (⊥ : EReal) := by
  have hi := congrFun h (ix2 s d)
  pointwise [fn] at hi
  exact above_of_test hi

end Cert.Pre_silu_arguments_above_minus_infinity

end
-- ==== Proof.PrepLayer.lean ====
/- The mathematics of the latent attention's preparation: two latent vectors, each normalised by its mean square and projected to
   eight heads, and a rotation by the position's cosines and sines. -/
module

public import Idealize.ShloMosaic.Lib.Pointwise

@[expose] public section

set_option maxRecDepth 16384

noncomputable section

open Idealize.ShloMosaic

namespace PrepLayer

/-- The two latent vectors' lengths, and the floor of the mean square. -/
def longer : EReal := Ideal.ofBits .f32 0x43C00000#32
def shorter : EReal := Ideal.ofBits .f32 0x43800000#32
def floor : EReal := Ideal.ofBits .f32 0x358637BD#32

/-- A vector over the root of its mean square, scaled entry by entry. -/
def normal {n : ℕ} (k : EReal) (x g : Fin n → EReal) (d : Fin n) : EReal :=
  x d * Ideal.rsqrt (Ideal.div (∑ d, x d * x d) k + floor) * g d

/-- A normalised vector, projected. -/
def up {n : ℕ} (k : EReal) (x g : Fin n → EReal) (w : Fin n → Fin 2048 → EReal) (e : Fin 2048) : EReal := ∑ d, normal k x g d * w d e

/-- A rotated lane: the vector times the cosine, plus the turned vector (the other half) times the sine. -/
def turn (f t : Fin 128 → EReal) (j : Fin 64) : EReal :=
  f ⟨j.val, by omega⟩ * t ⟨j.val, by omega⟩ + f ⟨64 + j.val, by omega⟩ * t ⟨64 + j.val, by omega⟩

/-- The queries of a token: of a head's 256 lanes the first 128 as projected, then the rotated lanes twice. -/
def queries (q : Fin 2048 → EReal) (t : Fin 128 → EReal) (e : Fin 2048) : EReal :=
  if e.val % 256 < 128 then q e
  else turn (fun l => q ⟨256 * (e.val / 256) + 128 + l.val, by omega⟩) t ⟨e.val % 64, Nat.mod_lt _ (by omega)⟩

/-- The keys of a token: of a head's 256 lanes the first 128 as projected, then the one rotated key, then zeros. -/
def keys (k : Fin 2048 → EReal) (f t : Fin 128 → EReal) (e : Fin 2048) : EReal :=
  if e.val % 256 < 128 then k e
  else if e.val % 256 < 192 then turn f t ⟨e.val % 64, Nat.mod_lt _ (by omega)⟩ else 0

/-- The values of a token: the other 128 columns of each head. -/
def values (k : Fin 2048 → EReal) (e : Fin 1024) : EReal := k ⟨256 * (e.val / 128) + 128 + e.val % 128, by omega⟩

/-- A token's projected queries, from its 768 columns. -/
def upQ (c : Fin 768 → EReal) (g : Fin 384 → EReal) (w : Fin 384 → Fin 2048 → EReal) : Fin 2048 → EReal :=
  up longer (fun d => c ⟨256 + d.val, by omega⟩) g w

/-- A token's projected keys and values, from its 768 columns. -/
def upKV (c : Fin 768 → EReal) (g : Fin 256 → EReal) (w : Fin 256 → Fin 2048 → EReal) : Fin 2048 → EReal :=
  up shorter (fun d => c ⟨d.val, by omega⟩) g w

/-- A token's queries, keys and values from its columns, its line of the table, the scales and the weights. -/
def queryRow (c : Fin 768 → EReal) (t : Fin 128 → EReal) (g : Fin 384 → EReal) (w : Fin 384 → Fin 2048 → EReal) : Fin 2048 → EReal :=
  queries (upQ c g w) t
def keyRow (c : Fin 768 → EReal) (t : Fin 128 → EReal) (g : Fin 256 → EReal) (w : Fin 256 → Fin 2048 → EReal) : Fin 2048 → EReal :=
  keys (upKV c g w) (fun l => c ⟨640 + l.val, by omega⟩) t
def valueRow (c : Fin 768 → EReal) (g : Fin 256 → EReal) (w : Fin 256 → Fin 2048 → EReal) : Fin 1024 → EReal := values (upKV c g w)

/-- A token's 768 columns of the packed projection. -/
abbrev latent (p : FVec Ideal ⟨2, ![65536, 13056]⟩ .bf16) (s : Fin 65536) (d : Fin 768) : EReal := p (ix2 s ⟨12288 + d.val, by omega⟩)

/-- The queries, keys and values of whole arrays. -/
def allQueries (p : FVec Ideal ⟨2, ![65536, 13056]⟩ .bf16) (t : FVec Ideal ⟨2, ![65536, 128]⟩ .f32) (g : FVec Ideal ⟨1, ![384]⟩ .f32)
    (w : FVec Ideal ⟨2, ![384, 2048]⟩ .bf16) : FVec Ideal ⟨2, ![65536, 2048]⟩ .bf16 := fun i =>
  queryRow (latent p (i 0)) (fun l => t (ix2 (i 0) l)) (fun d => g (ix1 d)) (fun d e => w (ix2 d e)) (i 1)
def allKeys (p : FVec Ideal ⟨2, ![65536, 13056]⟩ .bf16) (t : FVec Ideal ⟨2, ![65536, 128]⟩ .f32) (g : FVec Ideal ⟨1, ![256]⟩ .f32)
    (w : FVec Ideal ⟨2, ![256, 2048]⟩ .bf16) : FVec Ideal ⟨2, ![65536, 2048]⟩ .bf16 := fun i =>
  keyRow (latent p (i 0)) (fun l => t (ix2 (i 0) l)) (fun d => g (ix1 d)) (fun d e => w (ix2 d e)) (i 1)
def allValues (p : FVec Ideal ⟨2, ![65536, 13056]⟩ .bf16) (g : FVec Ideal ⟨1, ![256]⟩ .f32) (w : FVec Ideal ⟨2, ![256, 2048]⟩ .bf16) :
    FVec Ideal ⟨2, ![65536, 1024]⟩ .bf16 := fun i =>
  valueRow (latent p (i 0)) (fun d => g (ix1 d)) (fun d e => w (ix2 d e)) (i 1)

/-! ## Bands of 128 lanes -/

/-- In the first band of a head the queries are the projected ones. -/
theorem queries_plain (q : Fin 2048 → EReal) (t : Fin 128 → EReal) (n : ℕ) (l : Fin 128) (h : n + 128 ≤ 2048) (hn : n % 256 = 0) :
    queries q t ⟨n + l.val, by omega⟩ = q ⟨n + l.val, by omega⟩ :=
  if_pos (by show (n + l.val) % 256 < 128; omega)

/-- In the second band the queries are the rotated ones. -/
theorem queries_turned (q : Fin 2048 → EReal) (t : Fin 128 → EReal) (n : ℕ) (l : Fin 128) (h : n + 128 ≤ 2048) (hn : n % 256 = 128) :
    queries q t ⟨n + l.val, by omega⟩ = turn (fun l => q ⟨n + l.val, by omega⟩) t ⟨l.val % 64, Nat.mod_lt _ (by omega)⟩ := by
  refine (if_neg (by show ¬ (n + l.val) % 256 < 128; omega)).trans ?_
  have e : 256 * ((n + l.val) / 256) + 128 = n := by omega
  have j : (n + l.val) % 64 = l.val % 64 := by omega
  simp only [e, j]

theorem keys_plain (k : Fin 2048 → EReal) (f t : Fin 128 → EReal) (n : ℕ) (l : Fin 128) (h : n + 128 ≤ 2048) (hn : n % 256 = 0) :
    keys k f t ⟨n + l.val, by omega⟩ = k ⟨n + l.val, by omega⟩ :=
  if_pos (by show (n + l.val) % 256 < 128; omega)

/-- In the second band the keys are the rotated one, then zeros. -/
theorem keys_turned (k : Fin 2048 → EReal) (f t : Fin 128 → EReal) (n : ℕ) (l : Fin 128) (h : n + 128 ≤ 2048) (hn : n % 256 = 128) :
    keys k f t ⟨n + l.val, by omega⟩ = if l.val < 64 then turn f t ⟨l.val % 64, Nat.mod_lt _ (by omega)⟩ else 0 := by
  refine (if_neg (by show ¬ (n + l.val) % 256 < 128; omega)).trans ?_
  have j : (n + l.val) % 64 = l.val % 64 := by omega
  simp only [j]
  exact if_congr (by omega) rfl rfl

/-- A head's values are its projection's second band. -/
theorem values_at (k : Fin 2048 → EReal) (n : ℕ) (l : Fin 128) (h : n + 128 ≤ 1024) (hn : n % 128 = 0) :
    values k ⟨n + l.val, by omega⟩ = k ⟨2 * n + 128 + l.val, by omega⟩ :=
  congrArg k (Fin.ext (by show 256 * ((n + l.val) / 128) + 128 + (n + l.val) % 128 = 2 * n + 128 + l.val; omega))

/-- A lane and its other half, either way round, are the rotated lane. -/
theorem turn_mod (f t : Fin 128 → EReal) (l : Fin 128) (m : Fin 128) (hm : m.val = (l.val + 64) % 128) :
    f l * t l + f m * t m = turn f t ⟨l.val % 64, Nat.mod_lt _ (by omega)⟩ := by
  rcases Nat.lt_or_ge l.val 64 with hl | hl
  · have e₁ : (⟨l.val % 64, by omega⟩ : Fin 128) = l := Fin.ext (by show l.val % 64 = l.val; omega)
    have e₂ : (⟨64 + l.val % 64, by omega⟩ : Fin 128) = m := Fin.ext (by show 64 + l.val % 64 = m.val; omega)
    show _ = f ⟨l.val % 64, _⟩ * t ⟨l.val % 64, _⟩ + f ⟨64 + l.val % 64, _⟩ * t ⟨64 + l.val % 64, _⟩
    rw [e₁, e₂]
  · have e₁ : (⟨l.val % 64, by omega⟩ : Fin 128) = m := Fin.ext (by show l.val % 64 = m.val; omega)
    have e₂ : (⟨64 + l.val % 64, by omega⟩ : Fin 128) = l := Fin.ext (by show 64 + l.val % 64 = l.val; omega)
    show _ = f ⟨l.val % 64, _⟩ * t ⟨l.val % 64, _⟩ + f ⟨64 + l.val % 64, _⟩ * t ⟨64 + l.val % 64, _⟩
    rw [e₁, e₂]
    exact add_comm _ _

end PrepLayer
-- ==== Proof.PrepBlock.lean ====
/- The rows a grid point of the preparation leaves in its three output blocks. -/
module

public import proofs.«01_k».proof.Proof.Gen.PrepIdeal.Value
public import proofs.«01_k».proof.Proof.PrepLayer
public import Idealize.ShloMosaic.Lib.Pipeline.ValueKit.Tiles

@[expose] public section

set_option maxRecDepth 16384

noncomputable section

namespace Cert.PrepIdeal.Value

open Cert.PrepIdeal Cert.PrepIdeal.Gen Idealize.ShloMosaic Idealize.ShloMosaic.TcCoe Idealize.SL.Sem PrepLayer

/-! ## The two projections, entry by entry -/

section products
variable (r : Fin 512) (e : Fin 2048)

/-- The projected queries of a block's row. -/
theorem query_at (v : Vec Ideal S512x768 .bf16) (g : Vec Ideal S1x384 .f32) (w : Vec Ideal S384x2048 .bf16) :
    k0_pay6 v g w (ix2 r e) = upQ (fun d => v (ix2 r d)) (fun d => g (ix2 0 d)) (fun d e => w (ix2 d e)) e := by
  pointwise [k0_pay6, k0_pay4]
  rfl

/-- The projected keys and values of a block's row. -/
theorem kv_at (v : Vec Ideal S512x768 .bf16) (g : Vec Ideal S1x256 .f32) (w : Vec Ideal S256x2048 .bf16) :
    k0_pay7 v g w (ix2 r e) = upKV (fun d => v (ix2 r d)) (fun d => g (ix2 0 d)) (fun d e => w (ix2 d e)) e := by
  pointwise [k0_pay7, k0_pay4]
  rfl

end products

/-! ## The bands of 128 lanes -/

/-- A band as it is. -/
def plain (v : FVec Ideal S512x2048 .f32) (n : ℕ) (h : S512x2048.Slices ![0, n] S512x128) : FVec Ideal S512x128 .bf16 :=
  truncf .bf16 (extractStridedSlice S512x128 ![0, n] v h) bitsLt_bf16_f32

/-- A band times the table, added to itself turned by half. -/
def turned (v : FVec Ideal S512x128 .f32) (t : Vec Ideal S512x128 .f32) : FVec Ideal S512x128 .f32 :=
  addf (mulf v t) (dynamicRotate 1 64#32 none (mulf v t) rotates_S512x128_d1)

/-- The band of queries from column `n` on, rotated. -/
def roped (v : FVec Ideal S512x2048 .f32) (t : Vec Ideal S512x128 .f32) (n : ℕ) (h : S512x2048.Slices ![0, n] S512x128) : FVec Ideal S512x128 .bf16 :=
  truncf .bf16 (turned (extractStridedSlice S512x128 ![0, n] v h) t) bitsLt_bf16_f32

section bands
variable (r : Fin 512) (l : Fin 128)

theorem plain_at (v : FVec Ideal S512x2048 .f32) (n : ℕ) (hn : n + 128 ≤ 2048) (h) : plain v n h (ix2 r l) = v (ix2 r ⟨n + l.val, by omega⟩) := by
  pointwise [plain]

theorem turned_at (v : FVec Ideal S512x128 .f32) (t : Vec Ideal S512x128 .f32) :
    turned v t (ix2 r l) = turn (fun l => v (ix2 r l)) (fun l => t (ix2 r l)) ⟨l.val % 64, Nat.mod_lt _ (by omega)⟩ := by
  pointwise [turned]
  exact turn_mod (fun l => v (ix2 r l)) (fun l => t (ix2 r l)) l ⟨(l.val + 128 - 64) % 128, by omega⟩ (by show (l.val + 128 - 64) % 128 = _; omega)

theorem roped_at (v : FVec Ideal S512x2048 .f32) (t : Vec Ideal S512x128 .f32) (n : ℕ) (hn : n + 128 ≤ 2048) (h) :
    roped v t n h (ix2 r l) = turn (fun l => v (ix2 r ⟨n + l.val, by omega⟩)) (fun l => t (ix2 r l)) ⟨l.val % 64, Nat.mod_lt _ (by omega)⟩ := by
  refine (turned_at r l _ t).trans (congrArg (turn · _ _) (funext fun l => ?_))
  pointwise

/-- Whether a lane lies in the first half. -/
theorem half_at : IntOp.cmpi .slt (BitVec.ofNat 32 l.val) 64#32 = if l.val < 64 then 1#1 else 0#1 := by
  revert l; decide

/-- The rotated key: rotated in the first half, zeros in the second. -/
theorem key_at (v : FVec Ideal S512x128 .f32) (t : Vec Ideal S512x128 .f32) :
    k0_pay8 v t (ix2 r l) = if l.val < 64 then turn (fun l => v (ix2 r l)) (fun l => t (ix2 r l)) ⟨l.val % 64, Nat.mod_lt _ (by omega)⟩ else 0 := by
  rw [← turned_at]
  pointwise [k0_pay8, turned]
  rw [half_at]
  split <;> rfl

end bands

/-! ## A band's place in the block -/

section places
variable (r : Fin 512)

/-- A band's lane, in the block. -/
theorem place (n : ℕ) (hn : n + 128 ≤ 2048) (inb) (l : Fin 128) :
    (Rect.unit (s := S512x2048) ![0, n] S512x128.size inb).emb (ix2 r l) = ix2 r ⟨n + l.val, by omega⟩ := by
  rw [eq_ix2 ((Rect.unit (s := S512x2048) ![0, n] S512x128.size inb).emb (ix2 r l))]
  exact (ix2_inj ..).2 ⟨Fin.ext (by show 0 + 1 * r.val = r.val; omega), Fin.ext (by show n + 1 * l.val = n + l.val; omega)⟩

theorem place' (n : ℕ) (hn : n + 128 ≤ 1024) (inb) (l : Fin 128) :
    (Rect.unit (s := S512x1024) ![0, n] S512x128.size inb).emb (ix2 r l) = ix2 r ⟨n + l.val, by omega⟩ := by
  rw [eq_ix2 ((Rect.unit (s := S512x1024) ![0, n] S512x128.size inb).emb (ix2 r l))]
  exact (ix2_inj ..).2 ⟨Fin.ext (by show 0 + 1 * r.val = r.val; omega), Fin.ext (by show n + 1 * l.val = n + l.val; omega)⟩

/-- Where a band holds an entry of the block, what holds of its lanes holds there. -/
theorem band (n : ℕ) (hn : n + 128 ≤ 2048) (inb) (w : FVec Ideal S512x128 .bf16) (F : Fin 512 → Fin 2048 → EReal)
    (h : ∀ r l, w (ix2 r l) = F r ⟨n + l.val, by omega⟩) (x : Fin 2048) :
    View.RectAt (Val := Elt Ideal) (e := .bf16) (ix2 r x) (Rect.unit (s := S512x2048) ![0, n] S512x128.size inb) w (F r x) := by
  intro (i : S512x128.Idx) hi
  obtain ⟨r', l, rfl⟩ : ∃ (r' : Fin 512) (l : Fin 128), i = ix2 r' l := ⟨i 0, i 1, eq_ix2 i⟩
  obtain ⟨rfl, rfl⟩ := (ix2_inj ..).1 ((place r' n hn inb l).symm.trans hi)
  exact h _ _

theorem band' (n : ℕ) (hn : n + 128 ≤ 1024) (inb) (w : FVec Ideal S512x128 .bf16) (F : Fin 512 → Fin 1024 → EReal)
    (h : ∀ r l, w (ix2 r l) = F r ⟨n + l.val, by omega⟩) (x : Fin 1024) :
    View.RectAt (Val := Elt Ideal) (e := .bf16) (ix2 r x) (Rect.unit (s := S512x1024) ![0, n] S512x128.size inb) w (F r x) := by
  intro (i : S512x128.Idx) hi
  obtain ⟨r', l, rfl⟩ : ∃ (r' : Fin 512) (l : Fin 128), i = ix2 r' l := ⟨i 0, i 1, eq_ix2 i⟩
  obtain ⟨rfl, rfl⟩ := (ix2_inj ..).1 ((place' r' n hn inb l).symm.trans hi)
  exact h _ _

/-- The queries of a block, of its projected queries and its lines of the table. -/
def queriesOf (v : FVec Ideal S512x2048 .f32) (t : Vec Ideal S512x128 .f32) (r : Fin 512) : Fin 2048 → EReal :=
  queries (fun e => v (ix2 r e)) fun l => t (ix2 r l)

/-- The keys of a block, of its projection, the one key before rotation and its lines of the table. -/
def keysOf (v : FVec Ideal S512x2048 .f32) (f : FVec Ideal S512x128 .f32) (t : Vec Ideal S512x128 .f32) (r : Fin 512) : Fin 2048 → EReal :=
  keys (fun e => v (ix2 r e)) (fun l => f (ix2 r l)) fun l => t (ix2 r l)

/-- The values of a block. -/
def valuesOf (v : FVec Ideal S512x2048 .f32) (r : Fin 512) : Fin 1024 → EReal := values fun e => v (ix2 r e)

variable (v : FVec Ideal S512x2048 .f32) (f : FVec Ideal S512x128 .f32) (t : Vec Ideal S512x128 .f32)

theorem query_plain (n : ℕ) (hn : n + 128 ≤ 2048) (hm : n % 256 = 0) (inb h) (x : Fin 2048) :
    View.RectAt (Val := Elt Ideal) (e := .bf16) (ix2 r x) (Rect.unit (s := S512x2048) ![0, n] S512x128.size inb) (plain v n h) (queriesOf v t r x) :=
  band r n hn inb _ (queriesOf v t) (fun r l => (plain_at r l v n hn h).trans (queries_plain (fun e => v (ix2 r e)) (fun l => t (ix2 r l)) n l hn hm).symm) x

theorem query_roped (n : ℕ) (hn : n + 128 ≤ 2048) (hm : n % 256 = 128) (inb h) (x : Fin 2048) :
    View.RectAt (Val := Elt Ideal) (e := .bf16) (ix2 r x) (Rect.unit (s := S512x2048) ![0, n] S512x128.size inb) (roped v t n h) (queriesOf v t r x) :=
  band r n hn inb _ (queriesOf v t) (fun r l => (roped_at r l v t n hn h).trans (queries_turned (fun e => v (ix2 r e)) _ n l hn hm).symm) x

theorem key_plain (n : ℕ) (hn : n + 128 ≤ 2048) (hm : n % 256 = 0) (inb h) (x : Fin 2048) :
    View.RectAt (Val := Elt Ideal) (e := .bf16) (ix2 r x) (Rect.unit (s := S512x2048) ![0, n] S512x128.size inb) (plain v n h) (keysOf v f t r x) :=
  band r n hn inb _ (keysOf v f t) (fun r l => (plain_at r l v n hn h).trans
    (keys_plain (fun e => v (ix2 r e)) (fun l => f (ix2 r l)) (fun l => t (ix2 r l)) n l hn hm).symm) x

theorem key_roped (n : ℕ) (hn : n + 128 ≤ 2048) (hm : n % 256 = 128) (inb) (x : Fin 2048) :
    View.RectAt (Val := Elt Ideal) (e := .bf16) (ix2 r x) (Rect.unit (s := S512x2048) ![0, n] S512x128.size inb) (k0_pay8 f t) (keysOf v f t r x) :=
  band r n hn inb _ (keysOf v f t) (fun r l => (key_at r l f t).trans (keys_turned (fun e => v (ix2 r e)) _ _ n l hn hm).symm) x

theorem value_plain (n : ℕ) (hn : n + 128 ≤ 1024) (hm : n % 128 = 0) (inb h) (x : Fin 1024) :
    View.RectAt (Val := Elt Ideal) (e := .bf16) (ix2 r x) (Rect.unit (s := S512x1024) ![0, n] S512x128.size inb) (plain v (2 * n + 128) h) (valuesOf v r x) :=
  band' r n hn inb _ (valuesOf v) (fun r l => (plain_at r l v (2 * n + 128) (by omega) h).trans (values_at (fun e => v (ix2 r e)) n l hn hm).symm) x

end places

/-! ## The blocks left -/

section outs
variable (x0 : Vec Ideal S512x768 .bf16) (x1 : Vec Ideal S512x128 .f32) (x2 : Vec Ideal S1x384 .f32) (x3 : Vec Ideal S1x256 .f32)
  (x4 : Vec Ideal S384x2048 .bf16) (x5 : Vec Ideal S256x2048 .bf16) (r : Fin 512)

theorem zero_offsets : (![0, 0] : Fin 2 → Nat) = fun _ => 0 := funext fun a => by fin_cases a <;> rfl

theorem table_eq : View.ld x1 r0_5 = x1 := View.ld_unit_zero zero_offsets ..

theorem q_at (e : Fin 2048) :
    k0_pay41 x0 x1 x2 x3 x4 x5 (ix2 r e) = upQ (fun d => x0 (ix2 r d)) (fun d => x2 (ix2 0 d)) (fun d e => x4 (ix2 d e)) e := by
  unfold k0_pay41
  rw [View.ld_unit_zero zero_offsets, View.ld_unit_zero zero_offsets, View.ld_unit_zero zero_offsets, query_at]

theorem k_at (e : Fin 2048) :
    k0_pay42 x0 x1 x2 x3 x4 x5 (ix2 r e) = upKV (fun d => x0 (ix2 r d)) (fun d => x3 (ix2 0 d)) (fun d e => x5 (ix2 d e)) e := by
  unfold k0_pay42
  rw [View.ld_unit_zero zero_offsets, View.ld_unit_zero zero_offsets, View.ld_unit_zero zero_offsets, kv_at]

theorem f_at (l : Fin 128) : k0_pay40 x0 x1 x2 x3 x4 x5 (ix2 r l) = x0 (ix2 r ⟨640 + l.val, by omega⟩) := by
  unfold k0_pay40
  rw [View.ld_unit_zero zero_offsets]
  pointwise [k0_pay5, k0_pay4]

set_option maxHeartbeats 1000000 in
/-- The block of queries. -/
theorem out6_at (x : Fin 2048) :
    out0_6 x0 x1 x2 x3 x4 x5 (ix2 r x) = queryRow (fun d => x0 (ix2 r d)) (fun l => x1 (ix2 r l)) (fun d => x2 (ix2 0 d)) (fun d e => x4 (ix2 d e)) x := by
  refine Eq.trans (b := queriesOf (k0_pay41 x0 x1 x2 x3 x4 x5) (View.ld x1 r0_5) r x) ?_ ?_
  · unfold out0_6
    refine View.canon_eq_of_allAt _ _ _ (cover0_6 ..) ?_
    iterate 8
      refine View.allAt_cons _ _ _ (query_roped r _ _ _ (by omega) rfl _ (by decide) x) ?_
      refine View.allAt_cons _ _ _ (query_plain r _ _ _ (by omega) rfl _ (by decide) x) ?_
    exact View.allAt_nil _ _
  · rw [table_eq]
    exact congrArg (queries · _ x) (funext fun e => q_at x0 x1 x2 x3 x4 x5 r e)

set_option maxHeartbeats 1000000 in
/-- The block of keys. -/
theorem out7_at (x : Fin 2048) :
    out0_7 x0 x1 x2 x3 x4 x5 (ix2 r x) = keyRow (fun d => x0 (ix2 r d)) (fun l => x1 (ix2 r l)) (fun d => x3 (ix2 0 d)) (fun d e => x5 (ix2 d e)) x := by
  refine Eq.trans (b := keysOf (k0_pay42 x0 x1 x2 x3 x4 x5) (k0_pay40 x0 x1 x2 x3 x4 x5) (View.ld x1 r0_5) r x) ?_ ?_
  · unfold out0_7 k0_pay43
    refine View.canon_eq_of_allAt _ _ _ (cover0_7 ..) ?_
    iterate 8
      refine View.allAt_cons _ _ _ (key_roped r _ _ _ _ (by omega) rfl _ x) ?_
      refine View.allAt_cons _ _ _ (key_plain r _ _ _ _ (by omega) rfl _ (by decide) x) ?_
    exact View.allAt_nil _ _
  · rw [table_eq, keysOf, funext (k_at x0 x1 x2 x3 x4 x5 r), funext (f_at x0 x1 x2 x3 x4 x5 r)]
    rfl

/-- The block of values. -/
theorem out8_at (x : Fin 1024) :
    out0_8 x0 x1 x2 x3 x4 x5 (ix2 r x) = valueRow (fun d => x0 (ix2 r d)) (fun d => x3 (ix2 0 d)) (fun d e => x5 (ix2 d e)) x := by
  refine Eq.trans (b := valuesOf (k0_pay42 x0 x1 x2 x3 x4 x5) r x) ?_ ?_
  · unfold out0_8
    refine View.canon_eq_of_allAt _ _ _ (cover0_8 ..) ?_
    iterate 8
      refine View.allAt_cons _ _ _ (value_plain r _ _ (by omega) rfl _ (by decide) x) ?_
    exact View.allAt_nil _ _
  · exact congrArg (values · x) (funext fun e => k_at x0 x1 x2 x3 x4 x5 r e)

end outs

end Cert.PrepIdeal.Value

end
-- ==== Proof.PrepArray.lean ====
/- The result arrays of the preparation's kernel: each grid point's blocks are 512 rows of the queries, keys and values of the
   argument arrays, and the blocks cover the arrays. -/
module

public import proofs.«01_k».proof.Proof.PrepBlock

@[expose] public section

set_option maxRecDepth 16384

noncomputable section

namespace Cert.PrepIdeal.Value

open Cert.PrepIdeal Cert.PrepIdeal.Gen Idealize.ShloMosaic Idealize.ShloMosaic.TcCoe Idealize.SL.Sem PrepLayer

/-! ## The windows' blocks: rows `512 t` to `512 t + 511`, or the whole array -/

/-- The windows of 512 rows; of the packed array, the seventeenth 768 columns. -/
theorem rowsOf (t : Fin cfg0.N) :
    (win0_0.index t (0 : Fin 2) = t.val ∧ win0_0.index t (1 : Fin 2) = 16) ∧ (win0_1.index t (0 : Fin 2) = t.val ∧ win0_1.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ win0_8.index t (0 : Fin 2) = t.val ∧ win0_8.index t (1 : Fin 2) = 0 :=
  (by decide +kernel : ∀ t : Fin grid0.N,
    (win0_0.index t (0 : Fin 2) = t.val ∧ win0_0.index t (1 : Fin 2) = 16) ∧ (win0_1.index t (0 : Fin 2) = t.val ∧ win0_1.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ win0_8.index t (0 : Fin 2) = t.val ∧ win0_8.index t (1 : Fin 2) = 0) t

/-- The windows of whole arrays. -/
theorem wholeOf (t : Fin cfg0.N) :
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ win0_5.index t (0 : Fin 2) = 0 ∧ win0_5.index t (1 : Fin 2) = 0 :=
  (by decide +kernel : ∀ t : Fin grid0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ win0_5.index t (0 : Fin 2) = 0 ∧ win0_5.index t (1 : Fin 2) = 0) t

theorem t_lt (t : Fin cfg0.N) : t.val < 128 := lt_of_lt_of_eq t.isLt N_0

/-- Row `r` of a point's blocks, in the whole arrays. -/
def line (t : Fin cfg0.N) (r : Fin 512) : Fin 65536 := ⟨512 * t.val + r.val, by have := t_lt t; omega⟩

/-- An index lies where its two coordinates do. -/
theorem at_ix2 {n k : ℕ} (i : (⟨2, ![n, k]⟩ : Shape).Idx) (a : Fin n) (b : Fin k) (h0 : (i 0).val = a.val) (h1 : (i 1).val = b.val) : i = ix2 a b := by
  rw [eq_ix2 i]
  exact (ix2_inj ..).2 ⟨Fin.ext h0, Fin.ext h1⟩

theorem emb0 (t : Fin cfg0.N) (r : Fin 512) (d : Fin 768) : ((cfg0.win 0).blk t).view.emb (ix2 r d) = ix2 (line t r) ⟨12288 + d.val, by omega⟩ :=
  at_ix2 _ _ _ (by have := (rowsOf t).1; show win0_0.index t (0 : Fin 2) * 512 + 1 * r.val = 512 * t.val + r.val; omega)
    (by have := (rowsOf t).1; show win0_0.index t (1 : Fin 2) * 768 + 1 * d.val = 12288 + d.val; omega)

theorem emb1 (t : Fin cfg0.N) (r : Fin 512) (d : Fin 128) : ((cfg0.win 1).blk t).view.emb (ix2 r d) = ix2 (line t r) d :=
  at_ix2 _ _ _ (by have := (rowsOf t).2.1; show win0_1.index t (0 : Fin 2) * 512 + 1 * r.val = 512 * t.val + r.val; omega)
    (by have := (rowsOf t).2.1; show win0_1.index t (1 : Fin 2) * 128 + 1 * d.val = d.val; omega)

theorem emb2 (t : Fin cfg0.N) (d : Fin 1) (e : Fin 384) : ((cfg0.win 2).blk t).view.emb (ix2 d e) = ix2 d e :=
  at_ix2 _ _ _ (by have := (wholeOf t).1; show win0_2.index t (0 : Fin 2) * 1 + 1 * d.val = d.val; omega)
    (by have := (wholeOf t).1; show win0_2.index t (1 : Fin 2) * 384 + 1 * e.val = e.val; omega)

theorem emb3 (t : Fin cfg0.N) (d : Fin 1) (e : Fin 256) : ((cfg0.win 3).blk t).view.emb (ix2 d e) = ix2 d e :=
  at_ix2 _ _ _ (by have := (wholeOf t).2.1; show win0_3.index t (0 : Fin 2) * 1 + 1 * d.val = d.val; omega)
    (by have := (wholeOf t).2.1; show win0_3.index t (1 : Fin 2) * 256 + 1 * e.val = e.val; omega)

theorem emb4 (t : Fin cfg0.N) (d : Fin 384) (e : Fin 2048) : ((cfg0.win 4).blk t).view.emb (ix2 d e) = ix2 d e :=
  at_ix2 _ _ _ (by have := (wholeOf t).2.2.1; show win0_4.index t (0 : Fin 2) * 384 + 1 * d.val = d.val; omega)
    (by have := (wholeOf t).2.2.1; show win0_4.index t (1 : Fin 2) * 2048 + 1 * e.val = e.val; omega)

theorem emb5 (t : Fin cfg0.N) (d : Fin 256) (e : Fin 2048) : ((cfg0.win 5).blk t).view.emb (ix2 d e) = ix2 d e :=
  at_ix2 _ _ _ (by have := (wholeOf t).2.2.2; show win0_5.index t (0 : Fin 2) * 256 + 1 * d.val = d.val; omega)
    (by have := (wholeOf t).2.2.2; show win0_5.index t (1 : Fin 2) * 2048 + 1 * e.val = e.val; omega)

theorem emb6 (t : Fin cfg0.N) (r : Fin 512) (d : Fin 2048) : ((cfg0.win 6).blk t).view.emb (ix2 r d) = ix2 (line t r) d :=
  at_ix2 _ _ _ (by have := (rowsOf t).2.2.1; show win0_6.index t (0 : Fin 2) * 512 + 1 * r.val = 512 * t.val + r.val; omega)
    (by have := (rowsOf t).2.2.1; show win0_6.index t (1 : Fin 2) * 2048 + 1 * d.val = d.val; omega)

theorem emb7 (t : Fin cfg0.N) (r : Fin 512) (d : Fin 2048) : ((cfg0.win 7).blk t).view.emb (ix2 r d) = ix2 (line t r) d :=
  at_ix2 _ _ _ (by have := (rowsOf t).2.2.2.1; show win0_7.index t (0 : Fin 2) * 512 + 1 * r.val = 512 * t.val + r.val; omega)
    (by have := (rowsOf t).2.2.2.1; show win0_7.index t (1 : Fin 2) * 2048 + 1 * d.val = d.val; omega)

theorem emb8 (t : Fin cfg0.N) (r : Fin 512) (d : Fin 1024) : ((cfg0.win 8).blk t).view.emb (ix2 r d) = ix2 (line t r) d :=
  at_ix2 _ _ _ (by have := (rowsOf t).2.2.2.2; show win0_8.index t (0 : Fin 2) * 512 + 1 * r.val = 512 * t.val + r.val; omega)
    (by have := (rowsOf t).2.2.2.2; show win0_8.index t (1 : Fin 2) * 1024 + 1 * d.val = d.val; omega)

variable (m : (ℓ : Loc nD τ sig) → Buf (Elt Ideal) ℓ) (ρ : Dev nD → PrngReg)

/-- The two scales, each laid out as one row before the kernel starts. -/
theorem V_main_v0 (c : Dev nD) : V m c main_v0 = shapeCast S1x384 (m ((c : Thread nD τ).loc main_arg2) : FVec Ideal S384 .f32) shapeCasts_S384_S1x384 := by
  unfold V
  after_results_simp
  rfl
theorem V_main_v1 (c : Dev nD) : V m c main_v1 = shapeCast S1x256 (m ((c : Thread nD τ).loc main_arg3) : FVec Ideal S256 .f32) shapeCasts_S256_S1x256 := by
  unfold V
  after_results_simp
  rfl

theorem castQ_at (a : FVec Ideal S384 .f32) (d : Fin 384) : shapeCast S1x384 a shapeCasts_S384_S1x384 (ix2 0 d) = a (ix1 d) := by
  pointwise
theorem castK_at (a : FVec Ideal S256 .f32) (d : Fin 256) : shapeCast S1x256 a shapeCasts_S256_S1x256 (ix2 0 d) = a (ix1 d) := by
  pointwise

section reads
variable (c : Dev nD) (t : Fin cfg0.N) (r : Fin 512)

theorem x0_at (d : Fin 768) : iblk m c 0 t (ix2 r d) = latent (m ((c : Thread nD τ).loc main_arg0)) (line t r) d :=
  (congrArg (V m c main_arg0) (emb0 t r d)).trans (congrFun (V_main_arg0 m c) _)
theorem x1_at (d : Fin 128) : iblk m c 1 t (ix2 r d) = (m ((c : Thread nD τ).loc main_arg1) : FVec Ideal S65536x128 .f32) (ix2 (line t r) d) :=
  (congrArg (V m c main_arg1) (emb1 t r d)).trans (congrFun (V_main_arg1 m c) _)
theorem x2_at (d : Fin 384) : iblk m c 2 t (ix2 0 d) = (m ((c : Thread nD τ).loc main_arg2) : FVec Ideal S384 .f32) (ix1 d) :=
  (congrArg (V m c main_v0) (emb2 t 0 d)).trans ((congrFun (V_main_v0 m c) _).trans (castQ_at _ d))
theorem x3_at (d : Fin 256) : iblk m c 3 t (ix2 0 d) = (m ((c : Thread nD τ).loc main_arg3) : FVec Ideal S256 .f32) (ix1 d) :=
  (congrArg (V m c main_v1) (emb3 t 0 d)).trans ((congrFun (V_main_v1 m c) _).trans (castK_at _ d))
theorem x4_at (d : Fin 384) (e : Fin 2048) : iblk m c 4 t (ix2 d e) = (m ((c : Thread nD τ).loc main_arg4) : FVec Ideal S384x2048 .bf16) (ix2 d e) :=
  (congrArg (V m c main_arg4) (emb4 t d e)).trans (congrFun (V_main_arg4 m c) _)
theorem x5_at (d : Fin 256) (e : Fin 2048) : iblk m c 5 t (ix2 d e) = (m ((c : Thread nD τ).loc main_arg5) : FVec Ideal S256x2048 .bf16) (ix2 d e) :=
  (congrArg (V m c main_arg5) (emb5 t d e)).trans (congrFun (V_main_arg5 m c) _)

end reads

/-- The queries, the keys and the values of the arguments. -/
def GQ (c : Dev nD) : FVec Ideal ⟨2, ![65536, 2048]⟩ .bf16 := allQueries (m ((c : Thread nD τ).loc main_arg0)) (m ((c : Thread nD τ).loc main_arg1)) (m ((c : Thread nD τ).loc main_arg2)) (m ((c : Thread nD τ).loc main_arg4))
def GK (c : Dev nD) : FVec Ideal ⟨2, ![65536, 2048]⟩ .bf16 := allKeys (m ((c : Thread nD τ).loc main_arg0)) (m ((c : Thread nD τ).loc main_arg1)) (m ((c : Thread nD τ).loc main_arg3)) (m ((c : Thread nD τ).loc main_arg5))
def GV (c : Dev nD) : FVec Ideal ⟨2, ![65536, 1024]⟩ .bf16 := allValues (m ((c : Thread nD τ).loc main_arg0)) (m ((c : Thread nD τ).loc main_arg3)) (m ((c : Thread nD τ).loc main_arg5))

/-- What a point writes back to the first result is its block of the queries. -/
theorem flushed6_eq (c : Dev nD) (t : Fin cfg0.N) :
    (dats m 0 c).flushed 6 t = ((cfg0.win 6).blk t).view.read (Elt Ideal) (GQ m c) := by
  rw [flushed6]
  funext (j : S512x2048.Idx)
  obtain ⟨r, x, rfl⟩ : ∃ (r : Fin 512) (x : Fin 2048), j = ix2 r x := ⟨j 0, j 1, eq_ix2 j⟩
  refine (out6_at _ _ _ _ _ _ r x).trans ?_
  rw [funext (x0_at m c t r), funext (x1_at m c t r), funext (x2_at m c t), funext fun d => funext (x4_at m c t d)]
  show _ = GQ m c (((cfg0.win 6).blk t).view.emb (ix2 r x))
  rw [emb6]
  rfl

/-- To the second: its block of the keys. -/
theorem flushed7_eq (c : Dev nD) (t : Fin cfg0.N) :
    (dats m 0 c).flushed 7 t = ((cfg0.win 7).blk t).view.read (Elt Ideal) (GK m c) := by
  rw [flushed7]
  funext (j : S512x2048.Idx)
  obtain ⟨r, x, rfl⟩ : ∃ (r : Fin 512) (x : Fin 2048), j = ix2 r x := ⟨j 0, j 1, eq_ix2 j⟩
  refine (out7_at _ _ _ _ _ _ r x).trans ?_
  rw [funext (x0_at m c t r), funext (x1_at m c t r), funext (x3_at m c t), funext fun d => funext (x5_at m c t d)]
  show _ = GK m c (((cfg0.win 7).blk t).view.emb (ix2 r x))
  rw [emb7]
  rfl

/-- To the third: its block of the values. -/
theorem flushed8_eq (c : Dev nD) (t : Fin cfg0.N) :
    (dats m 0 c).flushed 8 t = ((cfg0.win 8).blk t).view.read (Elt Ideal) (GV m c) := by
  rw [flushed8]
  funext (j : S512x1024.Idx)
  obtain ⟨r, x, rfl⟩ : ∃ (r : Fin 512) (x : Fin 1024), j = ix2 r x := ⟨j 0, j 1, eq_ix2 j⟩
  refine (out8_at _ _ _ _ _ _ r x).trans ?_
  rw [funext (x0_at m c t r), funext (x3_at m c t), funext fun d => funext (x5_at m c t d)]
  show _ = GV m c (((cfg0.win 8).blk t).view.emb (ix2 r x))
  rw [emb8]
  rfl

/-- The point whose blocks hold a row. -/
def pt (s : Fin 65536) : Fin cfg0.N := ⟨s.val / 512, by rw [show cfg0.N = 128 from N_0]; omega⟩

theorem line_pt (s : Fin 65536) : line (pt s) ⟨s.val % 512, by omega⟩ = s := Fin.ext (by simp only [line, pt]; omega)

/-- Every entry of the results is in some point's block. -/
theorem covered6 (i : S65536x2048.Idx) : ∃ t : Fin cfg0.N, (cfg0.win 6).flush t = true ∧ i ∈ ((cfg0.win 6).blk t).view.set := by
  obtain ⟨s, x, rfl⟩ : ∃ (s : Fin 65536) (x : Fin 2048), i = ix2 s x := ⟨i 0, i 1, eq_ix2 i⟩
  refine ⟨pt s, flush0_6 _, ?_⟩
  have h := ((cfg0.win 6).blk (pt s)).view.emb_mem_set (ix2 ⟨s.val % 512, by omega⟩ x)
  rw [emb6, line_pt] at h
  exact h
theorem covered7 (i : S65536x2048.Idx) : ∃ t : Fin cfg0.N, (cfg0.win 7).flush t = true ∧ i ∈ ((cfg0.win 7).blk t).view.set := by
  obtain ⟨s, x, rfl⟩ : ∃ (s : Fin 65536) (x : Fin 2048), i = ix2 s x := ⟨i 0, i 1, eq_ix2 i⟩
  refine ⟨pt s, flush0_7 _, ?_⟩
  have h := ((cfg0.win 7).blk (pt s)).view.emb_mem_set (ix2 ⟨s.val % 512, by omega⟩ x)
  rw [emb7, line_pt] at h
  exact h
theorem covered8 (i : S65536x1024.Idx) : ∃ t : Fin cfg0.N, (cfg0.win 8).flush t = true ∧ i ∈ ((cfg0.win 8).blk t).view.set := by
  obtain ⟨s, x, rfl⟩ : ∃ (s : Fin 65536) (x : Fin 1024), i = ix2 s x := ⟨i 0, i 1, eq_ix2 i⟩
  refine ⟨pt s, flush0_8 _, ?_⟩
  have h := ((cfg0.win 8).blk (pt s)).view.emb_mem_set (ix2 ⟨s.val % 512, by omega⟩ x)
  rw [emb8, line_pt] at h
  exact h

/-- The kernel: it returns the queries, the keys and the values, and leaves its arguments unchanged. -/
theorem run :
    θ_run defs (onTc (τ := τ) (main (F := Ideal))) ⟨m, fun _ => 0, ρ⟩ fun r => ∀ c : Dev nD,
      r.2.mem ((c.tc : Thread nD τ).loc main_v2_0) = GQ m c
      ∧ r.2.mem ((c.tc : Thread nD τ).loc main_v2_1) = GK m c
      ∧ r.2.mem ((c.tc : Thread nD τ).loc main_v2_2) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans ((dats m 0 c).arrAt_eq_of_cover 6 (GQ m c) (fun t _ => flushed6_eq m c t) covered6),
      (h c).2.1.trans ((dats m 0 c).arrAt_eq_of_cover 7 (GK m c) (fun t _ => flushed7_eq m c t) covered7),
      (h c).2.2.1.trans ((dats m 0 c).arrAt_eq_of_cover 8 (GV m c) (fun t _ => flushed8_eq m c t) covered8), (h c).2.2.2⟩)
    (run_blocks m ρ)

end Cert.PrepIdeal.Value

end
-- ==== Proof.PrepRefValue.lean ====
/- What the preparation's reference computes: `PrepLayer.allQueries`, `PrepLayer.allKeys` and `PrepLayer.allValues` of its arguments. -/
module

public import proofs.«01_k».proof.Proof.Gen.PrepReferenceIdeal.Run
public import proofs.«01_k».proof.Proof.PrepLayer

@[expose] public section

set_option maxRecDepth 16384

noncomputable section

namespace Cert.PrepReferenceIdeal.Value

open Cert.PrepReferenceIdeal Cert.PrepReferenceIdeal.Gen Idealize.ShloMosaic Idealize.ShloMosaic.TcCoe Idealize.SL.Sem PrepLayer

abbrev Heads := FVec Ideal S65536x8x256 .f32
abbrev Half := FVec Ideal S65536x8x64 .f32

/-- The 768 latent columns, in the longer format. -/
def columns (p : FVec Ideal S65536x13056 .bf16) : FVec Ideal S65536x768 .f32 :=
  extf .f32 (extractStridedSlice S65536x768 ![0, 12288] p slices_S65536x13056_S65536x768_0_12288) bitsLt_bf16_f32

/-- The roots of the mean squares, inverted: of the longer vectors and of the shorter. -/
def scaleQ (x : FVec Ideal S65536x384 .f32) : FVec Ideal S65536x1 .f32 :=
  Host.rsqrt (addf (Host.divf (broadcastInDim S65536x1 ![0] bcast_S65536_S65536x1_0 (Host.reduceAdd (mulf x x) (constant S_ .f32 0x00000000#32) reducesTo_S65536x384_S65536_d1 h_S_))
    (broadcastInDim S65536x1 ![] bcast_S_S65536x1 (constant S_ .f32 0x43C00000#32))) (broadcastInDim S65536x1 ![] bcast_S_S65536x1 (constant S_ .f32 0x358637BD#32)))
def scaleK (x : FVec Ideal S65536x256 .f32) : FVec Ideal S65536x1 .f32 :=
  Host.rsqrt (addf (Host.divf (broadcastInDim S65536x1 ![0] bcast_S65536_S65536x1_0 (Host.reduceAdd (mulf x x) (constant S_ .f32 0x00000000#32) reducesTo_S65536x256_S65536_d1 h_S_))
    (broadcastInDim S65536x1 ![] bcast_S_S65536x1 (constant S_ .f32 0x43800000#32))) (broadcastInDim S65536x1 ![] bcast_S_S65536x1 (constant S_ .f32 0x358637BD#32)))

/-- The normalised vectors, projected to eight heads. -/
def headsQ (x : FVec Ideal S65536x384 .f32) (g : FVec Ideal S384 .f32) (w : FVec Ideal S384x2048 .bf16) : Heads :=
  shapeCast _ (Host.dotGeneral dot_S65536x384_S384x2048_S65536x2048_1_0_0_1_n_n none
    (mulf (mulf x (broadcastInDim S65536x384 ![0, 1] bcast_S65536x1_S65536x384_0_1 (scaleQ x)))
      (broadcastInDim S65536x384 ![0, 1] bcast_S1x384_S65536x384_0_1 (broadcastInDim S1x384 ![1] bcast_S384_S1x384_1 g)))
    (extf .f32 w bitsLt_bf16_f32)) shapeCasts_S65536x2048_S65536x8x256
def headsK (x : FVec Ideal S65536x256 .f32) (g : FVec Ideal S256 .f32) (w : FVec Ideal S256x2048 .bf16) : Heads :=
  shapeCast _ (Host.dotGeneral dot_S65536x256_S256x2048_S65536x2048_1_0_0_1_n_n none
    (mulf (mulf x (broadcastInDim S65536x256 ![0, 1] bcast_S65536x1_S65536x256_0_1 (scaleK x)))
      (broadcastInDim S65536x256 ![0, 1] bcast_S1x256_S65536x256_0_1 (broadcastInDim S1x256 ![1] bcast_S256_S1x256_1 g)))
    (extf .f32 w bitsLt_bf16_f32)) shapeCasts_S65536x2048_S65536x8x256

/-- The queries before and after projection. -/
def qHeads (p : FVec Ideal S65536x13056 .bf16) (g : FVec Ideal S384 .f32) (w : FVec Ideal S384x2048 .bf16) : Heads :=
  headsQ (extractStridedSlice S65536x384 ![0, 256] (columns p) slices_S65536x768_S65536x384_0_256) g w
/-- The keys and values. -/
def kHeads (p : FVec Ideal S65536x13056 .bf16) (g : FVec Ideal S256 .f32) (w : FVec Ideal S256x2048 .bf16) : Heads :=
  headsK (extractStridedSlice S65536x256 ![0, 0] (columns p) slices_S65536x768_S65536x256_0_0) g w

/-- The cosines and the sines of the table. -/
def cosines (t : FVec Ideal S65536x128 .f32) : FVec Ideal S65536x64 .f32 := extractStridedSlice S65536x64 ![0, 0] t slices_S65536x128_S65536x64_0_0
def sines (t : FVec Ideal S65536x128 .f32) : FVec Ideal S65536x64 .f32 := extractStridedSlice S65536x64 ![0, 64] t slices_S65536x128_S65536x64_0_64

/-- One line for all eight heads. -/
def spread (t : FVec Ideal S65536x64 .f32) : Half :=
  broadcastInDim S65536x8x64 ![0, 1, 2] bcast_S65536x1x64_S65536x8x64_0_1_2 (broadcastInDim S65536x1x64 ![0, 2] bcast_S65536x64_S65536x1x64_0_2 t)

/-- The queries' rotated lanes, and the key's. -/
def qTurned (q : Heads) (t : FVec Ideal S65536x128 .f32) : Half :=
  addf (mulf (extractStridedSlice S65536x8x64 ![0, 0, 128] q slices_S65536x8x256_S65536x8x64_0_0_128) (spread (cosines t)))
    (mulf (extractStridedSlice S65536x8x64 ![0, 0, 192] q slices_S65536x8x256_S65536x8x64_0_0_192) (spread (sines t)))
def kTurned (c : FVec Ideal S65536x768 .f32) (t : FVec Ideal S65536x128 .f32) : FVec Ideal S65536x64 .f32 :=
  addf (mulf (extractStridedSlice S65536x64 ![0, 640] c slices_S65536x768_S65536x64_0_640) (cosines t))
    (mulf (extractStridedSlice S65536x64 ![0, 704] c slices_S65536x768_S65536x64_0_704) (sines t))

/-- The first half of each head's lanes. -/
def firsts (q : Heads) : FVec Ideal S65536x8x128 .f32 := extractStridedSlice S65536x8x128 ![0, 0, 0] q slices_S65536x8x256_S65536x8x128_0_0_0

/-- Lanes side by side in each head, the heads side by side in each row. -/
def side (a : FVec Ideal S65536x8x128 .f32) (b c : Half) : FVec Ideal S65536x2048 .bf16 :=
  truncf .bf16 (shapeCast _ ((concatenate S65536x8x256 2 [⟨S65536x8x128, (a : (⟨S65536x8x128, .f32⟩ : BufTy).Contents (Elt Ideal))⟩,
      ⟨S65536x8x64, (b : (⟨S65536x8x64, .f32⟩ : BufTy).Contents (Elt Ideal))⟩, ⟨S65536x8x64, (c : (⟨S65536x8x64, .f32⟩ : BufTy).Contents (Elt Ideal))⟩]
      concatenates_S65536x8x128_S65536x8x64_S65536x8x64_S65536x8x256_d2 : (⟨S65536x8x256, .f32⟩ : BufTy).Contents (Elt Ideal)))
    shapeCasts_S65536x8x256_S65536x2048) bitsLt_bf16_f32

/-- The three results. -/
def theQueries (p : FVec Ideal S65536x13056 .bf16) (t : FVec Ideal S65536x128 .f32) (g : FVec Ideal S384 .f32) (w : FVec Ideal S384x2048 .bf16) :
    FVec Ideal S65536x2048 .bf16 :=
  side (firsts (qHeads p g w)) (qTurned (qHeads p g w) t) (qTurned (qHeads p g w) t)
def theKeys (p : FVec Ideal S65536x13056 .bf16) (t : FVec Ideal S65536x128 .f32) (g : FVec Ideal S256 .f32) (w : FVec Ideal S256x2048 .bf16) :
    FVec Ideal S65536x2048 .bf16 :=
  side (firsts (kHeads p g w)) (spread (kTurned (columns p) t)) (broadcastInDim S65536x8x64 ![] bcast_S_S65536x8x64 (constant S_ .f32 0x00000000#32))
def theValues (p : FVec Ideal S65536x13056 .bf16) (g : FVec Ideal S256 .f32) (w : FVec Ideal S256x2048 .bf16) : FVec Ideal S65536x1024 .bf16 :=
  truncf .bf16 (shapeCast _ (extractStridedSlice S65536x8x128 ![0, 0, 128] (kHeads p g w) slices_S65536x8x256_S65536x8x128_0_0_128)
    shapeCasts_S65536x8x128_S65536x1024) bitsLt_bf16_f32

section reads
variable (s : Fin 65536) (h : Fin 8)

theorem columns_at (p : FVec Ideal S65536x13056 .bf16) (d : Fin 768) : columns p (ix2 s d) = latent p s d := by
  pointwise [columns, latent]

theorem scaleQ_at (x : FVec Ideal S65536x384 .f32) (z : Fin 1) :
    scaleQ x (ix2 s z) = Ideal.rsqrt (Ideal.div (∑ d, (x (ix2 s d) : EReal) * x (ix2 s d)) longer + floor) := by
  pointwise [scaleQ]
  rfl
theorem scaleK_at (x : FVec Ideal S65536x256 .f32) (z : Fin 1) :
    scaleK x (ix2 s z) = Ideal.rsqrt (Ideal.div (∑ d, (x (ix2 s d) : EReal) * x (ix2 s d)) shorter + floor) := by
  pointwise [scaleK]
  rfl

theorem headsQ_at (x : FVec Ideal S65536x384 .f32) (g : FVec Ideal S384 .f32) (w : FVec Ideal S384x2048 .bf16) (l : Fin 256) :
    headsQ x g w (ix3 s h l) = up longer (fun d => x (ix2 s d)) (fun d => g (ix1 d)) (fun d e => w (ix2 d e)) ⟨h.val * 256 + l.val, by omega⟩ := by
  pointwise [headsQ, scaleQ_at]
  rfl
theorem headsK_at (x : FVec Ideal S65536x256 .f32) (g : FVec Ideal S256 .f32) (w : FVec Ideal S256x2048 .bf16) (l : Fin 256) :
    headsK x g w (ix3 s h l) = up shorter (fun d => x (ix2 s d)) (fun d => g (ix1 d)) (fun d e => w (ix2 d e)) ⟨h.val * 256 + l.val, by omega⟩ := by
  pointwise [headsK, scaleK_at]
  rfl

theorem qHeads_at (p : FVec Ideal S65536x13056 .bf16) (g : FVec Ideal S384 .f32) (w : FVec Ideal S384x2048 .bf16) (l : Fin 256) :
    qHeads p g w (ix3 s h l) = upQ (latent p s) (fun d => g (ix1 d)) (fun d e => w (ix2 d e)) ⟨h.val * 256 + l.val, by omega⟩ := by
  refine (headsQ_at s h _ g w l).trans (congrArg (up longer · _ _ _) (funext fun d => ?_))
  refine Eq.trans ?_ (columns_at s p ⟨256 + d.val, by omega⟩)
  pointwise
theorem kHeads_at (p : FVec Ideal S65536x13056 .bf16) (g : FVec Ideal S256 .f32) (w : FVec Ideal S256x2048 .bf16) (l : Fin 256) :
    kHeads p g w (ix3 s h l) = upKV (latent p s) (fun d => g (ix1 d)) (fun d e => w (ix2 d e)) ⟨h.val * 256 + l.val, by omega⟩ := by
  refine (headsK_at s h _ g w l).trans (congrArg (up shorter · _ _ _) (funext fun d => ?_))
  refine Eq.trans ?_ (columns_at s p ⟨d.val, by omega⟩)
  pointwise

theorem spread_at (t : FVec Ideal S65536x64 .f32) (j : Fin 64) : spread t (ix3 s h j) = t (ix2 s j) := by
  pointwise [spread]

theorem firsts_at (q : Heads) (l : Fin 128) : firsts q (ix3 s h l) = q (ix3 s h ⟨l.val, by omega⟩) := by
  pointwise [firsts]

theorem qTurned_at (q : Heads) (t : FVec Ideal S65536x128 .f32) (j : Fin 64) :
    qTurned q t (ix3 s h j) = turn (fun l => q (ix3 s h ⟨128 + l.val, by omega⟩)) (fun l => t (ix2 s l)) j := by
  pointwise [qTurned, spread_at, cosines, sines]
  simp only [turn, ← Nat.add_assoc, Nat.reduceAdd]

theorem kTurned_at (c : FVec Ideal S65536x768 .f32) (t : FVec Ideal S65536x128 .f32) (j : Fin 64) :
    kTurned c t (ix2 s j) = turn (fun l => c (ix2 s ⟨640 + l.val, by omega⟩)) (fun l => t (ix2 s l)) j := by
  pointwise [kTurned, cosines, sines]
  simp only [turn, ← Nat.add_assoc, Nat.reduceAdd]

theorem side_at (a : FVec Ideal S65536x8x128 .f32) (b c : Half) (l : Fin 256) :
    side a b c (ix2 s ⟨h.val * 256 + l.val, by omega⟩)
      = if h₁ : l.val < 128 then a (ix3 s h ⟨l.val, h₁⟩) else if h₂ : l.val - 128 < 64 then b (ix3 s h ⟨l.val - 128, h₂⟩)
        else c (ix3 s h ⟨l.val - 128 - 64, by omega⟩) := by
  pointwise [side]

/-- A projection's rotated lanes, the heads side by side. -/
theorem qTurned_of (q : Heads) (f : Fin 2048 → EReal) (hq : ∀ l : Fin 256, q (ix3 s h l) = f ⟨h.val * 256 + l.val, by omega⟩) (t : FVec Ideal S65536x128 .f32)
    (j : Fin 64) (k : Fin 128) (hj : j.val = k.val % 64) :
    qTurned q t (ix3 s h j) = turn (fun l => f ⟨h.val * 256 + 128 + l.val, by omega⟩) (fun l => t (ix2 s l)) ⟨k.val % 64, Nat.mod_lt _ (by omega)⟩ := by
  rw [show j = ⟨k.val % 64, Nat.mod_lt _ (by omega)⟩ from Fin.ext hj, qTurned_at]
  refine congrArg (turn · _ _) (funext fun l => (hq ⟨128 + l.val, by omega⟩).trans (congrArg f (Fin.ext ?_)))
  show h.val * 256 + (128 + l.val) = h.val * 256 + 128 + l.val
  omega

/-- A lane of a head's second half, counted from the half's start. -/
theorem second (l : Fin 256) (hl : ¬ l.val < 128) :
    (⟨h.val * 256 + l.val, by omega⟩ : Fin 2048) = ⟨h.val * 256 + 128 + (⟨l.val - 128, by omega⟩ : Fin 128).val, by show h.val * 256 + 128 + (l.val - 128) < 2048; omega⟩ :=
  Fin.ext (by show h.val * 256 + l.val = h.val * 256 + 128 + (l.val - 128); omega)

/-- The queries, entry by entry. -/
theorem theQueries_at (p : FVec Ideal S65536x13056 .bf16) (t : FVec Ideal S65536x128 .f32) (g : FVec Ideal S384 .f32) (w : FVec Ideal S384x2048 .bf16) (l : Fin 256) :
    theQueries p t g w (ix2 s ⟨h.val * 256 + l.val, by omega⟩)
      = queries (upQ (latent p s) (fun d => g (ix1 d)) (fun d e => w (ix2 d e))) (fun l => t (ix2 s l)) ⟨h.val * 256 + l.val, by omega⟩ := by
  refine (side_at s h _ _ _ l).trans ?_
  by_cases hl : l.val < 128
  · rw [dif_pos hl, firsts_at, qHeads_at]
    exact (queries_plain _ _ (h.val * 256) ⟨l.val, hl⟩ (by omega) (by omega)).symm
  · rw [dif_neg hl, second h l hl, queries_turned _ _ (h.val * 256 + 128) _ (by omega) (by omega)]
    split
    · exact qTurned_of s h _ _ (qHeads_at s h p g w) t _ ⟨l.val - 128, by omega⟩ (by show l.val - 128 = (l.val - 128) % 64; omega)
    · exact qTurned_of s h _ _ (qHeads_at s h p g w) t _ ⟨l.val - 128, by omega⟩ (by show l.val - 128 - 64 = (l.val - 128) % 64; omega)

/-- The keys, entry by entry. -/
theorem theKeys_at (p : FVec Ideal S65536x13056 .bf16) (t : FVec Ideal S65536x128 .f32) (g : FVec Ideal S256 .f32) (w : FVec Ideal S256x2048 .bf16) (l : Fin 256) :
    theKeys p t g w (ix2 s ⟨h.val * 256 + l.val, by omega⟩)
      = keys (upKV (latent p s) (fun d => g (ix1 d)) (fun d e => w (ix2 d e))) (fun l => latent p s ⟨640 + l.val, by omega⟩) (fun l => t (ix2 s l))
        ⟨h.val * 256 + l.val, by omega⟩ := by
  refine (side_at s h _ _ _ l).trans ?_
  by_cases hl : l.val < 128
  · rw [dif_pos hl, firsts_at, kHeads_at]
    exact (keys_plain _ _ _ (h.val * 256) ⟨l.val, hl⟩ (by omega) (by omega)).symm
  · rw [dif_neg hl, second h l hl, keys_turned _ _ _ (h.val * 256 + 128) _ (by omega) (by omega)]
    by_cases h₂ : l.val - 128 < 64
    · rw [dif_pos h₂, if_pos h₂, spread_at, kTurned_at]
      simp only [columns_at]
      exact congrArg (turn _ _) (Fin.ext (by show l.val - 128 = (l.val - 128) % 64; omega))
    · rw [dif_neg h₂, if_neg h₂]
      pointwise

/-- The values, entry by entry. -/
theorem theValues_at (p : FVec Ideal S65536x13056 .bf16) (g : FVec Ideal S256 .f32) (w : FVec Ideal S256x2048 .bf16) (l : Fin 128) :
    theValues p g w (ix2 s ⟨h.val * 128 + l.val, by omega⟩)
      = values (upKV (latent p s) (fun d => g (ix1 d)) (fun d e => w (ix2 d e))) ⟨h.val * 128 + l.val, by omega⟩ := by
  rw [values_at _ (h.val * 128) l (by omega) (by omega)]
  refine Eq.trans (b := kHeads p g w (ix3 s h ⟨128 + l.val, by omega⟩)) (by pointwise [theValues]) ((kHeads_at s h p g w _).trans (congrArg _ (Fin.ext ?_)))
  show h.val * 256 + (128 + l.val) = 2 * (h.val * 128) + 128 + l.val
  omega

end reads

/-! ## The whole results -/

theorem queries_eq (p : FVec Ideal S65536x13056 .bf16) (t : FVec Ideal S65536x128 .f32) (g : FVec Ideal S384 .f32) (w : FVec Ideal S384x2048 .bf16) :
    theQueries p t g w = allQueries p t g w := by
  funext (i : S65536x2048.Idx)
  obtain ⟨s, e, rfl⟩ : ∃ (s : Fin 65536) (e : Fin 2048), i = ix2 s e := ⟨i 0, i 1, eq_ix2 i⟩
  have he : e = ⟨(⟨e.val / 256, by omega⟩ : Fin 8).val * 256 + (⟨e.val % 256, by omega⟩ : Fin 256).val, by show e.val / 256 * 256 + e.val % 256 < 2048; omega⟩ :=
    Fin.ext (by show e.val = e.val / 256 * 256 + e.val % 256; omega)
  rw [he]
  exact theQueries_at s _ p t g w _

theorem keys_eq (p : FVec Ideal S65536x13056 .bf16) (t : FVec Ideal S65536x128 .f32) (g : FVec Ideal S256 .f32) (w : FVec Ideal S256x2048 .bf16) :
    theKeys p t g w = allKeys p t g w := by
  funext (i : S65536x2048.Idx)
  obtain ⟨s, e, rfl⟩ : ∃ (s : Fin 65536) (e : Fin 2048), i = ix2 s e := ⟨i 0, i 1, eq_ix2 i⟩
  have he : e = ⟨(⟨e.val / 256, by omega⟩ : Fin 8).val * 256 + (⟨e.val % 256, by omega⟩ : Fin 256).val, by show e.val / 256 * 256 + e.val % 256 < 2048; omega⟩ :=
    Fin.ext (by show e.val = e.val / 256 * 256 + e.val % 256; omega)
  rw [he]
  exact theKeys_at s _ p t g w _

theorem values_eq (p : FVec Ideal S65536x13056 .bf16) (g : FVec Ideal S256 .f32) (w : FVec Ideal S256x2048 .bf16) :
    theValues p g w = allValues p g w := by
  funext (i : S65536x1024.Idx)
  obtain ⟨s, e, rfl⟩ : ∃ (s : Fin 65536) (e : Fin 1024), i = ix2 s e := ⟨i 0, i 1, eq_ix2 i⟩
  have he : e = ⟨(⟨e.val / 128, by omega⟩ : Fin 8).val * 128 + (⟨e.val % 128, by omega⟩ : Fin 128).val, by show e.val / 128 * 128 + e.val % 128 < 1024; omega⟩ :=
    Fin.ext (by show e.val = e.val / 128 * 128 + e.val % 128; omega)
  rw [he]
  exact theValues_at s _ p g w _

variable (m : (ℓ : Loc nD τ sig) → Buf (Elt Ideal) ℓ) (ρ : Dev nD → PrngReg)

set_option maxHeartbeats 4000000 in
/-- The reference's first result, stage by stage. -/
theorem stages (c : Dev nD) : res_main_v57 m c
    = theQueries (m ((c : Thread nD τ).loc main_arg0)) (m ((c : Thread nD τ).loc main_arg1)) (m ((c : Thread nD τ).loc main_arg2)) (m ((c : Thread nD τ).loc main_arg4)) := rfl

/-- The reference: it returns the queries, the keys and the values, and leaves its arguments unchanged. -/
theorem results :
    θ_run defs (onTc (τ := τ) (main (F := Ideal))) ⟨m, fun _ => 0, ρ⟩ fun r => ∀ c : Dev nD,
      r.2.mem ((c.tc : Thread nD τ).loc main_v57)
        = allQueries (m ((c : Thread nD τ).loc main_arg0)) (m ((c : Thread nD τ).loc main_arg1)) (m ((c : Thread nD τ).loc main_arg2)) (m ((c : Thread nD τ).loc main_arg4))
      ∧ r.2.mem ((c.tc : Thread nD τ).loc main_v62)
        = allKeys (m ((c : Thread nD τ).loc main_arg0)) (m ((c : Thread nD τ).loc main_arg1)) (m ((c : Thread nD τ).loc main_arg3)) (m ((c : Thread nD τ).loc main_arg5))
      ∧ r.2.mem ((c.tc : Thread nD τ).loc main_v65)
        = allValues (m ((c : Thread nD τ).loc main_arg0)) (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans ((stages m c).trans (queries_eq _ _ _ _)), Eq.trans (b := theKeys _ _ _ _) (h c).2.1 (keys_eq _ _ _ _),
      Eq.trans (b := theValues _ _ _) (h c).2.2.1 (values_eq _ _ _), (h c).2.2.2⟩) (run m ρ)

end Cert.PrepReferenceIdeal.Value

end
-- ==== Proof.NormArray.lean ====
/- The result arrays of the input normalisation's kernel: each grid point's blocks are 512 normalised rows, and the blocks cover
   the arrays. -/
module

public import proofs.«01_k».proof.Proof.Gen.NormIdeal.Value
public import proofs.«01_k».proof.Proof.MergeLayer

@[expose] public section

set_option maxRecDepth 16384

noncomputable section

namespace Cert.NormIdeal.Value

open Cert.NormIdeal Cert.NormIdeal.Gen Idealize.ShloMosaic Idealize.ShloMosaic.TcCoe Idealize.SL.Sem MergeLayer

/-! ## The blocks the body leaves -/

section outs
variable (x0 : Vec Ideal S512x1024 .f32) (x1 x2 : Vec Ideal S1x1024 .f32) (r : Fin 512) (x : Fin 1024)

/-- A row of the body's arithmetic is the normalised row. -/
theorem normed_at : k0_pay1 x0 x1 x2 (ix2 r x) = normal (fun d => x0 (ix2 r d)) (fun d => x1 (ix2 0 d)) (fun d => x2 (ix2 0 d)) x := by
  pointwise [k0_pay1]
  rfl

theorem zero_offsets : (![0, 0] : Fin 2 → Nat) = fun _ => 0 := funext fun a => by fin_cases a <;> rfl

theorem out3_at : out0_3 x0 x1 x2 (ix2 r x) = normal (fun d => x0 (ix2 r d)) (fun d => x1 (ix2 0 d)) (fun d => x2 (ix2 0 d)) x := by
  unfold out0_3
  rw [View.canon_unit_zero zero_offsets, View.ld_unit_zero zero_offsets, View.ld_unit_zero zero_offsets, View.ld_unit_zero zero_offsets]
  exact normed_at x0 x1 x2 r x

theorem out4_at : out0_4 x0 x1 x2 (ix2 r x) = normal (fun d => x0 (ix2 r d)) (fun d => x1 (ix2 0 d)) (fun d => x2 (ix2 0 d)) x := by
  unfold out0_4
  rw [View.canon_unit_zero zero_offsets, View.ld_unit_zero zero_offsets, View.ld_unit_zero zero_offsets, View.ld_unit_zero zero_offsets]
  exact normed_at x0 x1 x2 r x

end outs

/-! ## The windows' blocks: rows `512 t` to `512 t + 511`, or the whole array -/

theorem indices (t : Fin cfg0.N) :
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = t.val ∧ win0_3.index t (1 : Fin 2) = 0)
    ∧ win0_4.index t (0 : Fin 2) = t.val ∧ win0_4.index t (1 : Fin 2) = 0 :=
  (by decide +kernel : ∀ t : Fin grid0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = t.val ∧ win0_3.index t (1 : Fin 2) = 0)
    ∧ win0_4.index t (0 : Fin 2) = t.val ∧ win0_4.index t (1 : Fin 2) = 0) t

theorem t_lt (t : Fin cfg0.N) : t.val < 128 := lt_of_lt_of_eq t.isLt N_0

/-- Row `r` of a point's blocks, in the whole arrays. -/
def line (t : Fin cfg0.N) (r : Fin 512) : Fin 65536 := ⟨512 * t.val + r.val, by have := t_lt t; omega⟩

/-- An index lies where its two coordinates do. -/
theorem at_ix2 {n k : ℕ} (i : (⟨2, ![n, k]⟩ : Shape).Idx) (a : Fin n) (b : Fin k) (h0 : (i 0).val = a.val) (h1 : (i 1).val = b.val) : i = ix2 a b := by
  rw [eq_ix2 i]
  exact (ix2_inj ..).2 ⟨Fin.ext h0, Fin.ext h1⟩

theorem emb0 (t : Fin cfg0.N) (r : Fin 512) (d : Fin 1024) : ((cfg0.win 0).blk t).view.emb (ix2 r d) = ix2 (line t r) d :=
  at_ix2 _ _ _ (by have := (indices t).1; show win0_0.index t (0 : Fin 2) * 512 + 1 * r.val = 512 * t.val + r.val; omega)
    (by have := (indices t).1; show win0_0.index t (1 : Fin 2) * 1024 + 1 * d.val = d.val; omega)

theorem emb1 (t : Fin cfg0.N) (z : Fin 1) (d : Fin 1024) : ((cfg0.win 1).blk t).view.emb (ix2 z d) = ix2 z d :=
  at_ix2 _ _ _ (by have := (indices t).2.1; show win0_1.index t (0 : Fin 2) * 1 + 1 * z.val = z.val; omega)
    (by have := (indices t).2.1; show win0_1.index t (1 : Fin 2) * 1024 + 1 * d.val = d.val; omega)

theorem emb2 (t : Fin cfg0.N) (z : Fin 1) (d : Fin 1024) : ((cfg0.win 2).blk t).view.emb (ix2 z d) = ix2 z d :=
  at_ix2 _ _ _ (by have := (indices t).2.2.1; show win0_2.index t (0 : Fin 2) * 1 + 1 * z.val = z.val; omega)
    (by have := (indices t).2.2.1; show win0_2.index t (1 : Fin 2) * 1024 + 1 * d.val = d.val; omega)

theorem emb3 (t : Fin cfg0.N) (r : Fin 512) (d : Fin 1024) : ((cfg0.win 3).blk t).view.emb (ix2 r d) = ix2 (line t r) d :=
  at_ix2 _ _ _ (by have := (indices t).2.2.2.1; show win0_3.index t (0 : Fin 2) * 512 + 1 * r.val = 512 * t.val + r.val; omega)
    (by have := (indices t).2.2.2.1; show win0_3.index t (1 : Fin 2) * 1024 + 1 * d.val = d.val; omega)

theorem emb4 (t : Fin cfg0.N) (r : Fin 512) (d : Fin 1024) : ((cfg0.win 4).blk t).view.emb (ix2 r d) = ix2 (line t r) d :=
  at_ix2 _ _ _ (by have := (indices t).2.2.2.2; show win0_4.index t (0 : Fin 2) * 512 + 1 * r.val = 512 * t.val + r.val; omega)
    (by have := (indices t).2.2.2.2; show win0_4.index t (1 : Fin 2) * 1024 + 1 * d.val = d.val; omega)

variable (m : (ℓ : Loc nD τ sig) → Buf (Elt Ideal) ℓ) (ρ : Dev nD → PrngReg)

/-- The scale and the shift, each laid out as one row before the kernel starts. -/
theorem V_main_v0 (c : Dev nD) : V m c main_v0 = shapeCast S1x1024 (m ((c : Thread nD τ).loc main_arg1) : FVec Ideal S1024 .f32) shapeCasts_S1024_S1x1024 := by
  unfold V
  after_results_simp
  rfl
theorem V_main_v1 (c : Dev nD) : V m c main_v1 = shapeCast S1x1024 (m ((c : Thread nD τ).loc main_arg2) : FVec Ideal S1024 .f32) shapeCasts_S1024_S1x1024 := by
  unfold V
  after_results_simp
  rfl

theorem cast_at (a : FVec Ideal S1024 .f32) (d : Fin 1024) : shapeCast S1x1024 a shapeCasts_S1024_S1x1024 (ix2 0 d) = a (ix1 d) := by
  pointwise

section reads
variable (c : Dev nD) (t : Fin cfg0.N) (r : Fin 512) (d : Fin 1024)

theorem x0_at : iblk m c 0 t (ix2 r d) = (m ((c : Thread nD τ).loc main_arg0) : FVec Ideal S65536x1024 .f32) (ix2 (line t r) d) :=
  (congrArg (V m c main_arg0) (emb0 t r d)).trans (congrFun (V_main_arg0 m c) _)
theorem x1_at : iblk m c 1 t (ix2 0 d) = (m ((c : Thread nD τ).loc main_arg1) : FVec Ideal S1024 .f32) (ix1 d) :=
  (congrArg (V m c main_v0) (emb1 t 0 d)).trans ((congrFun (V_main_v0 m c) _).trans (cast_at _ d))
theorem x2_at : iblk m c 2 t (ix2 0 d) = (m ((c : Thread nD τ).loc main_arg2) : FVec Ideal S1024 .f32) (ix1 d) :=
  (congrArg (V m c main_v1) (emb2 t 0 d)).trans ((congrFun (V_main_v1 m c) _).trans (cast_at _ d))

end reads

/-- The normalised rows of the arguments. -/
def G (c : Dev nD) : FVec Ideal ⟨2, ![65536, 1024]⟩ .f32 :=
  normalRows (m ((c : Thread nD τ).loc main_arg0)) (m ((c : Thread nD τ).loc main_arg1)) (m ((c : Thread nD τ).loc main_arg2))

/-- What a point writes back to the first result is its block of the normalised rows. -/
theorem flushed3_eq (c : Dev nD) (t : Fin cfg0.N) :
    (dats m 0 c).flushed 3 t = ((cfg0.win 3).blk t).view.read (Elt Ideal) (G m c) := by
  rw [flushed3]
  funext (j : S512x1024.Idx)
  obtain ⟨r, x, rfl⟩ : ∃ (r : Fin 512) (x : Fin 1024), j = ix2 r x := ⟨j 0, j 1, eq_ix2 j⟩
  refine (out3_at _ _ _ r x).trans ?_
  rw [funext (x0_at m c t r), funext (x1_at m c t), funext (x2_at m c t)]
  show _ = G m c (((cfg0.win 3).blk t).view.emb (ix2 r x))
  rw [emb3]
  rfl

/-- And to the second: the same. -/
theorem flushed4_eq (c : Dev nD) (t : Fin cfg0.N) :
    (dats m 0 c).flushed 4 t = ((cfg0.win 4).blk t).view.read (Elt Ideal) (truncf .bf16 (G m c) bitsLt_bf16_f32) := by
  rw [flushed4]
  funext (j : S512x1024.Idx)
  obtain ⟨r, x, rfl⟩ : ∃ (r : Fin 512) (x : Fin 1024), j = ix2 r x := ⟨j 0, j 1, eq_ix2 j⟩
  refine (out4_at _ _ _ r x).trans ?_
  rw [funext (x0_at m c t r), funext (x1_at m c t), funext (x2_at m c t)]
  show _ = G m c (((cfg0.win 4).blk t).view.emb (ix2 r x))
  rw [emb4]
  rfl

/-- The point whose blocks hold a row. -/
def pt (s : Fin 65536) : Fin cfg0.N := ⟨s.val / 512, by rw [show cfg0.N = 128 from N_0]; omega⟩

theorem line_pt (s : Fin 65536) : line (pt s) ⟨s.val % 512, by omega⟩ = s := Fin.ext (by simp only [line, pt]; omega)

/-- Every entry of the results is in some point's block. -/
theorem covered3 (i : S65536x1024.Idx) : ∃ t : Fin cfg0.N, (cfg0.win 3).flush t = true ∧ i ∈ ((cfg0.win 3).blk t).view.set := by
  obtain ⟨s, x, rfl⟩ : ∃ (s : Fin 65536) (x : Fin 1024), i = ix2 s x := ⟨i 0, i 1, eq_ix2 i⟩
  refine ⟨pt s, flush0_3 _, ?_⟩
  have h := ((cfg0.win 3).blk (pt s)).view.emb_mem_set (ix2 ⟨s.val % 512, by omega⟩ x)
  rw [emb3, line_pt] at h
  exact h
theorem covered4 (i : S65536x1024.Idx) : ∃ t : Fin cfg0.N, (cfg0.win 4).flush t = true ∧ i ∈ ((cfg0.win 4).blk t).view.set := by
  obtain ⟨s, x, rfl⟩ : ∃ (s : Fin 65536) (x : Fin 1024), i = ix2 s x := ⟨i 0, i 1, eq_ix2 i⟩
  refine ⟨pt s, flush0_4 _, ?_⟩
  have h := ((cfg0.win 4).blk (pt s)).view.emb_mem_set (ix2 ⟨s.val % 512, by omega⟩ x)
  rw [emb4, line_pt] at h
  exact h

/-- The kernel: it returns the normalised rows, twice, and leaves its arguments unchanged. -/
theorem run :
    θ_run defs (onTc (τ := τ) (main (F := Ideal))) ⟨m, fun _ => 0, ρ⟩ fun r => ∀ c : Dev nD,
      r.2.mem ((c.tc : Thread nD τ).loc main_v2_0) = G m c
      ∧ r.2.mem ((c.tc : Thread nD τ).loc main_v2_1) = truncf .bf16 (G m c) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((dats m 0 c).arrAt_eq_of_cover 3 (G m c) (fun t _ => flushed3_eq m c t) covered3),
      (h c).2.1.trans ((dats m 0 c).arrAt_eq_of_cover 4 (truncf .bf16 (G m c) bitsLt_bf16_f32) (fun t _ => flushed4_eq m c t) covered4), (h c).2.2⟩)
    (run_blocks m ρ)

end Cert.NormIdeal.Value

end
-- ==== Proof.NormRefValue.lean ====
/- What the input normalisation's reference computes: `MergeLayer.normalRows` of its arguments. -/
module

public import proofs.«01_k».proof.Proof.Gen.NormReferenceIdeal.Run
public import proofs.«01_k».proof.Proof.MergeLayer

@[expose] public section

set_option maxRecDepth 16384

noncomputable section

namespace Cert.NormReferenceIdeal.Value

open Cert.NormReferenceIdeal Cert.NormReferenceIdeal.Gen Idealize.ShloMosaic Idealize.ShloMosaic.TcCoe Idealize.SL.Sem MergeLayer

/-- The rows' means. -/
def means (r : FVec Ideal S65536x1024 .f32) : FVec Ideal S65536x1 .f32 :=
  Host.divf (broadcastInDim S65536x1 ![0] bcast_S65536_S65536x1_0 (Host.reduceAdd r (constant S_ .f32 0x00000000#32) reducesTo_S65536x1024_S65536_d1 h_S_))
    (broadcastInDim S65536x1 ![] bcast_S_S65536x1 (constant S_ .f32 0x44800000#32))

/-- The rows less their means. -/
def centred (r : FVec Ideal S65536x1024 .f32) : FVec Ideal S65536x1024 .f32 :=
  subf r (broadcastInDim S65536x1024 ![0, 1] bcast_S65536x1_S65536x1024_0_1 (means r))

/-- A vector at every row. -/
def rows (a : FVec Ideal S1024 .f32) : FVec Ideal S65536x1024 .f32 :=
  broadcastInDim S65536x1024 ![0, 1] bcast_S1x1024_S65536x1024_0_1 (broadcastInDim S1x1024 ![1] bcast_S1024_S1x1024_1 a)

/-- The rows normalised, scaled and shifted. -/
def normed (r : FVec Ideal S65536x1024 .f32) (a b : FVec Ideal S1024 .f32) : FVec Ideal S65536x1024 .f32 :=
  addf (mulf (mulf (centred r) (broadcastInDim S65536x1024 ![0, 1] bcast_S65536x1_S65536x1024_0_1
      (Host.rsqrt (addf (means (mulf (centred r) (centred r))) (broadcastInDim S65536x1 ![] bcast_S_S65536x1 (constant S_ .f32 0x3727C5AC#32))))))
    (rows a)) (rows b)

theorem means_at (r : FVec Ideal S65536x1024 .f32) (s : Fin 65536) (k : Fin 1) : means r (ix2 s k) = mean fun d => r (ix2 s d) := by
  pointwise [means]
  rfl

theorem centred_at (r : FVec Ideal S65536x1024 .f32) (s : Fin 65536) (x : Fin 1024) : centred r (ix2 s x) = r (ix2 s x) - mean fun d => r (ix2 s d) := by
  pointwise [centred, means_at]

/-- The reference's arithmetic is the normalised rows. -/
theorem whole (r : FVec Ideal S65536x1024 .f32) (a b : FVec Ideal S1024 .f32) : normed r a b = normalRows r a b := by
  funext (i : S65536x1024.Idx)
  obtain ⟨s, x, rfl⟩ : ∃ (s : Fin 65536) (x : Fin 1024), i = ix2 s x := ⟨i 0, i 1, eq_ix2 i⟩
  pointwise [normed, rows, means_at, centred_at]
  rfl

variable (m : (ℓ : Loc nD τ sig) → Buf (Elt Ideal) ℓ) (ρ : Dev nD → PrngReg)

/-- The reference: it returns the normalised rows, twice, and leaves its arguments unchanged. -/
theorem results :
    θ_run defs (onTc (τ := τ) (main (F := Ideal))) ⟨m, fun _ => 0, ρ⟩ fun r => ∀ c : Dev nD,
      r.2.mem ((c.tc : Thread nD τ).loc main_v23)
        = normalRows (m ((c : Thread nD τ).loc main_arg0)) (m ((c : Thread nD τ).loc main_arg1)) (m ((c : Thread nD τ).loc main_arg2))
      ∧ r.2.mem ((c.tc : Thread nD τ).loc main_v24)
        = (truncf .bf16 (normalRows (m ((c : Thread nD τ).loc main_arg0)) (m ((c : Thread nD τ).loc main_arg1)) (m ((c : Thread nD τ).loc main_arg2)))
          bitsLt_bf16_f32 : FVec Ideal S65536x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨Eq.trans (b := normed _ _ _) (h c).1 (whole _ _ _),
      Eq.trans (b := (truncf .bf16 (normed _ _ _) bitsLt_bf16_f32 : FVec Ideal S65536x1024 .bf16)) (h c).2.1 (congrArg (truncf .bf16 · bitsLt_bf16_f32) (whole _ _ _)),
      (h c).2.2⟩) (run m ρ)

end Cert.NormReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Proj.Frame
public import proofs.«01_k».proof.Proof.Projection
public import proofs.«01_k».proof.Proof.Gen.FoxIdeal.Value
public import proofs.«01_k».proof.Proof.Gen.FoxReferenceIdeal.Run
public import proofs.«01_k».proof.Proof.Gen.Fox.Frame
public import proofs.«01_k».proof.Proof.Gen.MergeIdeal.Value
public import proofs.«01_k».proof.Proof.Gen.MergeReferenceIdeal.Run
public import proofs.«01_k».proof.Proof.Gen.Merge.Frame
public import proofs.«01_k».proof.Proof.Gen.PrepIdeal.Value
public import proofs.«01_k».proof.Proof.Gen.PrepReferenceIdeal.Run
public import proofs.«01_k».proof.Proof.Gen.Prep.Frame
public import proofs.«01_k».proof.Proof.Gen.NormIdeal.Value
public import proofs.«01_k».proof.Proof.Gen.NormReferenceIdeal.Run
public import proofs.«01_k».proof.Proof.Gen.Norm.Frame
public import proofs.«01_k».proof.Proof.Array
public import proofs.«01_k».proof.Proof.RefValue
public import proofs.«01_k».proof.Proof.Finiteness
public import proofs.«01_k».proof.Proof.FoxArray
public import proofs.«01_k».proof.Proof.FoxRefValue
public import proofs.«01_k».proof.Proof.FoxFiniteness
public import proofs.«01_k».proof.Proof.MergeArray
public import proofs.«01_k».proof.Proof.MergeRefValue
public import proofs.«01_k».proof.Proof.MergeFiniteness
public import proofs.«01_k».proof.Proof.PrepArray
public import proofs.«01_k».proof.Proof.PrepRefValue
public import proofs.«01_k».proof.Proof.NormArray
public import proofs.«01_k».proof.Proof.NormRefValue
public import Idealize.ShloMosaic.Adequacy
public import Idealize.ShloMosaic.Init

@[expose] public section

noncomputable section

namespace Cert.KernelIdeal.Value

open Cert.KernelIdeal Cert.KernelIdeal.Gen Idealize.ShloMosaic Idealize.ShloMosaic.TcCoe Idealize.SL.Sem FlashRow

/-- The kernel, of finite queries and keys: it returns their attention over the values, and leaves its arguments unchanged. -/
theorem run (m : (ℓ : Loc nD τ sig) → Buf (Elt Ideal) ℓ) (ρ : Dev nD → PrngReg) (hf : ∀ c, Finite (Q m c) ∧ Finite (K m c)) :
    θ_run defs (onTc (τ := τ) (main (F := Ideal))) ⟨m, fun _ => 0, ρ⟩ fun r => ∀ c : Dev nD,
      r.2.mem ((c.tc : Thread nD τ).loc main_v0) = result (Q m c) (K m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c (hf c).1 (hf c).2), (h c).2⟩) (run_blocks m ρ)

end Cert.KernelIdeal.Value

namespace Cert.ReferenceIdeal.Value

open Cert.ReferenceIdeal Cert.ReferenceIdeal.Gen Idealize.ShloMosaic Idealize.ShloMosaic.TcCoe Idealize.SL.Sem FlashRow

/-- The reference's result array is the attention of its arguments. -/
theorem whole (m : (ℓ : Loc nD τ sig) → Buf (Elt Ideal) ℓ) (c : Dev nD) :
    res_main_v34 m c = result (m ((c : Thread nD τ).loc main_arg0)) (m ((c : Thread nD τ).loc main_arg1)) (m ((c : Thread nD τ).loc main_arg2)) := by
  funext (i : S16x4096x1024.Idx)
  obtain ⟨b, t, x, rfl⟩ : ∃ (b : Fin 16) (t : Fin 4096) (x : Fin 1024), i = ix3 b t x := ⟨i 0, i 1, i 2, eq_ix3 i⟩
  have hx : x = ⟨(⟨x.val / 128, by omega⟩ : Fin 8).val * 128 + (⟨x.val % 128, by omega⟩ : Fin 128).val, by simp only; omega⟩ :=
    Fin.ext (by simp only; omega)
  exact (congrArg (fun y => res_main_v34 m c (ix3 b t y)) hx).trans (entry m c b t ⟨x.val / 128, by omega⟩ ⟨x.val % 128, by omega⟩)

end Cert.ReferenceIdeal.Value

namespace Cert.Proof

open Idealize.ShloMosaic Idealize.ShloMosaic.TcCoe Idealize.SL.Sem FlashRow

/-- The precondition's side condition: a scalar spreads over any shape. -/
theorem preFacts : Cert.Pre_finite_queries_and_keys.Facts := ⟨by decide⟩

/-- Kernel and reference return the same array. -/
theorem equation :
    Cert.algebraic_KernelIdeal_ReferenceIdeal_pre_finite_queries_and_keys (hKernelIdeal := Cert.KernelIdeal.Gen.facts)
      (hReferenceIdeal := Cert.ReferenceIdeal.Gen.facts) (hPre_finite_queries_and_keys := preFacts) := by
  intro m ρ m' ρ' hpre hag
  have hf := fun c => @Cert.Pre_finite_queries_and_keys.finite preFacts _ _ _ (hpre c)
  refine ⟨fun c => result (Cert.KernelIdeal.Value.Q m c) (Cert.KernelIdeal.Value.K m c) (Cert.KernelIdeal.Value.W m c),
    Cert.KernelIdeal.Value.run m ρ hf, (θ_run _ _ _).mono (fun _ h c => ⟨(h c).1.trans ?_, (h c).2⟩) (Cert.ReferenceIdeal.Value.run m' ρ')⟩
  rw [Cert.ReferenceIdeal.Value.whole, (hag c).1, (hag c).2.1, (hag c).2.2]
  rfl

/-- The reference runs, leaves its arguments unchanged, and has no semaphore. -/
theorem referenceFrame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The projection and its reference return the same array. -/
theorem projEquation : Cert.algebraic_ProjIdeal_ProjReferenceIdeal (hProjIdeal := Cert.ProjIdeal.Gen.facts)
    (hProjReferenceIdeal := Cert.ProjReferenceIdeal.Gen.facts) := by
  intro m ρ m' ρ' _ hag
  refine ⟨fun c => Projection.product (Cert.ProjIdeal.Value.X m c) (Cert.ProjIdeal.Value.Y m c), Cert.ProjIdeal.Value.run m ρ,
    (θ_run _ _ _).mono (fun _ h c => ⟨(h c).1.trans ?_, (h c).2⟩) (Cert.ProjReferenceIdeal.Value.run m' ρ')⟩
  rw [Cert.ProjReferenceIdeal.Value.whole, (hag c).1, (hag c).2]
  rfl

/-- The projection's reference runs, leaves its arguments unchanged, and has no semaphore. -/
theorem projReferenceFrame : Cert.quiescent_ProjReferenceIdeal (hProjReferenceIdeal := Cert.ProjReferenceIdeal.Gen.facts) := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

/-- The side conditions of the forgetting attention's precondition: its slices, its concatenation and its spreading fit. -/
theorem foxPreFacts : Cert.Pre_finite_queries_keys_and_decays.Facts := ⟨by decide, by decide, by decide, by decide⟩

/-- The forgetting attention and its reference return the same array. -/
theorem foxEquation :
    Cert.algebraic_FoxIdeal_FoxReferenceIdeal_pre_finite_queries_keys_and_decays (hFoxIdeal := Cert.FoxIdeal.Gen.facts)
      (hFoxReferenceIdeal := Cert.FoxReferenceIdeal.Gen.facts) (hPre_finite_queries_keys_and_decays := foxPreFacts) := by
  intro m ρ m' ρ' hpre hag
  have hf := fun c => @Cert.Pre_finite_queries_keys_and_decays.real foxPreFacts _ _ (hpre c)
  refine ⟨fun c => Forget.result (Cert.FoxIdeal.Value.P m c) (Cert.FoxIdeal.Value.D m c), Cert.FoxIdeal.Value.run m ρ hf,
    (θ_run _ _ _).mono (fun _ h c => ⟨(h c).1.trans ?_, (h c).2⟩) (Cert.FoxReferenceIdeal.Value.run m' ρ')⟩
  rw [Cert.FoxReferenceIdeal.Value.whole, (hag c).1, (hag c).2]
  rfl

/-- The forgetting attention's reference runs, leaves its arguments unchanged, and has no semaphore. -/
theorem foxReferenceFrame : Cert.quiescent_FoxReferenceIdeal (hFoxReferenceIdeal := Cert.FoxReferenceIdeal.Gen.facts) := fun m ρ _ =>
  (θ_run Cert.FoxReferenceIdeal.defs _ _).mono (fun r h => ⟨fun c => (h c).2, sem_eq_zero_of_no_sems (by decide) r.2⟩)
    (Cert.FoxReferenceIdeal.Value.run (F := Ideal) m ρ)

/-- The side conditions of the merge's precondition: its slice and its spreading fit. -/
theorem mergePreFacts : Cert.Pre_silu_arguments_above_minus_infinity.Facts := ⟨by decide, by decide⟩

/-- The merge and its reference return the same two arrays. -/
theorem mergeEquation :
    Cert.algebraic_MergeIdeal_MergeReferenceIdeal_pre_silu_arguments_above_minus_infinity (hMergeIdeal := Cert.MergeIdeal.Gen.facts)
      (hMergeReferenceIdeal := Cert.MergeReferenceIdeal.Gen.facts) (hPre_silu_arguments_above_minus_infinity := mergePreFacts) := by
  intro m ρ m' ρ' hpre hag
  have hP := fun c => @Cert.Pre_silu_arguments_above_minus_infinity.above mergePreFacts _ _ _ _ _ _ _ _ _ _ _ (hpre c)
  have hw : ∀ c, Cert.MergeReferenceIdeal.Value.res_main_v78 m' c = Cert.MergeIdeal.Value.G m c := by
    intro c
    obtain ⟨h0, h1, h2, h3, h4, h5, h6, h7, h8, h9, h10⟩ := hag c
    rw [Cert.MergeReferenceIdeal.Value.whole, h0, h1, h2, h3, h4, h5, h6, h7, h8, h9, h10]
    rfl
  refine ⟨fun c => Cert.MergeIdeal.Value.G m c, fun c => truncf .bf16 (Cert.MergeIdeal.Value.G m c) (by decide),
    Cert.MergeIdeal.Value.run m ρ hP,
    (θ_run _ _ _).mono (fun _ h c => ⟨(h c).1.trans (hw c), (h c).2.1.trans ?_, (h c).2.2⟩) (Cert.MergeReferenceIdeal.Value.run m' ρ')⟩
  rw [Cert.MergeReferenceIdeal.Value.whole', hw c]

/-- The merge's reference runs, leaves its arguments unchanged, and has no semaphore. -/
theorem mergeReferenceFrame : Cert.quiescent_MergeReferenceIdeal (hMergeReferenceIdeal := Cert.MergeReferenceIdeal.Gen.facts) := fun m ρ _ =>
  (θ_run Cert.MergeReferenceIdeal.defs _ _).mono (fun r h => ⟨fun c => (h c).2.2, sem_eq_zero_of_no_sems (by decide) r.2⟩)
    (Cert.MergeReferenceIdeal.Value.run (F := Ideal) m ρ)

/-- The preparation and its reference return the same three arrays. -/
theorem prepEquation :
    Cert.algebraic_PrepIdeal_PrepReferenceIdeal (hPrepIdeal := Cert.PrepIdeal.Gen.facts) (hPrepReferenceIdeal := Cert.PrepReferenceIdeal.Gen.facts) := by
  intro m ρ m' ρ' _ hag
  refine ⟨fun c => Cert.PrepIdeal.Value.GQ m c, fun c => Cert.PrepIdeal.Value.GK m c, fun c => Cert.PrepIdeal.Value.GV m c,
    Cert.PrepIdeal.Value.run m ρ,
    (θ_run _ _ _).mono (fun _ h c => ⟨(h c).1.trans ?_, (h c).2.1.trans ?_, (h c).2.2.1.trans ?_, (h c).2.2.2⟩)
      (Cert.PrepReferenceIdeal.Value.results m' ρ')⟩
  all_goals
    obtain ⟨h0, h1, h2, h3, h4, h5⟩ := hag c
  · rw [h0, h1, h2, h4]; rfl
  · rw [h0, h1, h3, h5]; rfl
  · rw [h0, h3, h5]; rfl

/-- The preparation's reference runs, leaves its arguments unchanged, and has no semaphore. -/
theorem prepReferenceFrame : Cert.quiescent_PrepReferenceIdeal (hPrepReferenceIdeal := Cert.PrepReferenceIdeal.Gen.facts) := fun m ρ _ =>
  (θ_run Cert.PrepReferenceIdeal.defs _ _).mono (fun r h => ⟨fun c => (h c).2.2.2, sem_eq_zero_of_no_sems (by decide) r.2⟩)
    (Cert.PrepReferenceIdeal.Value.run (F := Ideal) m ρ)

/-- The input's normalisation and its reference return the same two arrays. -/
theorem normEquation :
    Cert.algebraic_NormIdeal_NormReferenceIdeal (hNormIdeal := Cert.NormIdeal.Gen.facts) (hNormReferenceIdeal := Cert.NormReferenceIdeal.Gen.facts) := by
  intro m ρ m' ρ' _ hag
  refine ⟨fun c => Cert.NormIdeal.Value.G m c, fun c => truncf .bf16 (Cert.NormIdeal.Value.G m c) (by decide), Cert.NormIdeal.Value.run m ρ,
    (θ_run _ _ _).mono (fun _ h c => ⟨(h c).1.trans ?_, (h c).2.1.trans ?_, (h c).2.2⟩) (Cert.NormReferenceIdeal.Value.results m' ρ')⟩
  all_goals
    obtain ⟨h0, h1, h2⟩ := hag c
    rw [h0, h1, h2]
    rfl

/-- The normalisation's reference runs, leaves its arguments unchanged, and has no semaphore. -/
theorem normReferenceFrame : Cert.quiescent_NormReferenceIdeal (hNormReferenceIdeal := Cert.NormReferenceIdeal.Gen.facts) := fun m ρ _ =>
  (θ_run Cert.NormReferenceIdeal.defs _ _).mono (fun r h => ⟨fun c => (h c).2.2, sem_eq_zero_of_no_sems (by decide) r.2⟩)
    (Cert.NormReferenceIdeal.Value.run (F := Ideal) m ρ)

/-- Everything the certificate claims. -/
theorem claim : Cert.Claim :=
  ⟨Cert.Kernel.Gen.facts, Cert.KernelIdeal.Gen.facts, Cert.ReferenceIdeal.Gen.facts,
    Cert.Proj.Gen.facts, Cert.ProjIdeal.Gen.facts, Cert.ProjReferenceIdeal.Gen.facts,
    Cert.Fox.Gen.facts, Cert.FoxIdeal.Gen.facts, Cert.FoxReferenceIdeal.Gen.facts,
    Cert.Merge.Gen.facts, Cert.MergeIdeal.Gen.facts, Cert.MergeReferenceIdeal.Gen.facts,
    Cert.Prep.Gen.facts, Cert.PrepIdeal.Gen.facts, Cert.PrepReferenceIdeal.Gen.facts,
    Cert.Norm.Gen.facts, Cert.NormIdeal.Gen.facts, Cert.NormReferenceIdeal.Gen.facts, preFacts, foxPreFacts, mergePreFacts,
    fun m ρ _ => Cert.Kernel.Gen.frame m ρ,
    fun m ρ _ => Cert.KernelIdeal.Gen.frame m ρ,
    fun m ρ _ => Cert.KernelIdeal.Gen.frame m ρ,
    fun m ρ _ => referenceFrame m ρ trivial,
    fun m ρ _ => referenceFrame m ρ trivial,
    fun m ρ _ => Cert.Proj.Gen.frame m ρ,
    fun m ρ _ => Cert.ProjIdeal.Gen.frame m ρ,
    projReferenceFrame,
    fun m ρ _ => Cert.Fox.Gen.frame m ρ,
    fun m ρ _ => Cert.FoxIdeal.Gen.frame m ρ,
    fun m ρ _ => Cert.FoxIdeal.Gen.frame m ρ,
    fun m ρ _ => foxReferenceFrame m ρ trivial,
    fun m ρ _ => foxReferenceFrame m ρ trivial,
    fun m ρ _ => Cert.Merge.Gen.frame m ρ,
    fun m ρ _ => Cert.MergeIdeal.Gen.frame m ρ,
    fun m ρ _ => Cert.MergeIdeal.Gen.frame m ρ,
    fun m ρ _ => mergeReferenceFrame m ρ trivial,
    fun m ρ _ => mergeReferenceFrame m ρ trivial,
    fun m ρ _ => Cert.Prep.Gen.frame m ρ,
    fun m ρ _ => Cert.PrepIdeal.Gen.frame m ρ,
    prepReferenceFrame,
    fun m ρ _ => Cert.Norm.Gen.frame m ρ,
    fun m ρ _ => Cert.NormIdeal.Gen.frame m ρ,
    normReferenceFrame,
    trivial, equation, trivial, projEquation, trivial, foxEquation, trivial, mergeEquation, trivial, prepEquation,
    trivial, normEquation⟩

end Cert.Proof

end
